-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_d" .f32 0x394CCCCD#32 ((1 / 5120 : ℝ) : EReal)
  ∧ IdealRules.bf16_pack.Statement Cert.KernelIdeal.S128x128

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)) (v5 : (c : Dev Cert.KernelIdeal.nD) → Buf (Elt Ideal) ((c.tc : Thread Cert.KernelIdeal.nD Cert.KernelIdeal.τ).loc Cert.KernelIdeal.main_v8_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_v8_2) = v2 c
          ∧ r.2.mem ((c.tc : Thread Cert.KernelIdeal.nD Cert.KernelIdeal.τ).loc Cert.KernelIdeal.main_v8_3) = v3 c
          ∧ r.2.mem ((c.tc : Thread Cert.KernelIdeal.nD Cert.KernelIdeal.τ).loc Cert.KernelIdeal.main_v8_4) = v4 c
          ∧ r.2.mem ((c.tc : Thread Cert.KernelIdeal.nD Cert.KernelIdeal.τ).loc Cert.KernelIdeal.main_v8_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_0) = v0 c
          ∧ r.2.mem ((c.tc : Thread Cert.ReferenceIdeal.nD Cert.ReferenceIdeal.τ).loc Cert.ReferenceIdeal.main_v9_1) = v1 c
          ∧ r.2.mem ((c.tc : Thread Cert.ReferenceIdeal.nD Cert.ReferenceIdeal.τ).loc Cert.ReferenceIdeal.main_v9_2) = v2 c
          ∧ r.2.mem ((c.tc : Thread Cert.ReferenceIdeal.nD Cert.ReferenceIdeal.τ).loc Cert.ReferenceIdeal.main_v9_3) = v3 c
          ∧ r.2.mem ((c.tc : Thread Cert.ReferenceIdeal.nD Cert.ReferenceIdeal.τ).loc Cert.ReferenceIdeal.main_v9_4) = v4 c
          ∧ r.2.mem ((c.tc : Thread Cert.ReferenceIdeal.nD Cert.ReferenceIdeal.τ).loc Cert.ReferenceIdeal.main_v9_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S_ : Shape := ⟨0, ![]⟩
abbrev S3x64x7800 : Shape := ⟨3, ![3, 64, 7800]⟩
abbrev S64x5120 : Shape := ⟨2, ![64, 5120]⟩
abbrev S5120 : Shape := ⟨1, ![5120]⟩
abbrev S3x2x7800x5120 : Shape := ⟨4, ![3, 2, 7800, 5120]⟩
abbrev S3x5120 : Shape := ⟨2, ![3, 5120]⟩
abbrev S5120x64 : Shape := ⟨2, ![5120, 64]⟩
abbrev S64 : Shape := ⟨1, ![64]⟩

class Facts : Prop where
  bcast_S_S3x2x7800x5120 : S_.BroadcastsInDim S3x2x7800x5120 (![] : Fin 0 → Fin S3x2x7800x5120.rank)

variable [Facts]

def fn {F : FTy → Type} [FloatOps F] (main_arg0 : FVec F S_ .f32) (main_arg1 : FVec F S3x64x7800 .fp8e4m3) (main_arg2 : FVec F S64x5120 .fp8e4m3) (main_arg3 : FVec F S5120 .f32) (main_arg4 : FVec F S5120 .f32) (main_arg5 : FVec F S3x2x7800x5120 .bf16) (main_arg6 : FVec F S3x5120 .f32) (main_arg7 : FVec F S3x5120 .f32) (main_arg8 : FVec F S5120x64 .fp8e4m3) (main_arg9 : FVec F S64 .f32) (main_arg10 : FVec F S64 .f32) : IVec S3x2x7800x5120 1 :=
  let main_v0 : FVec F S3x2x7800x5120 .bf16 := Host.absf main_arg5
  let main_cst : FVec F S_ .bf16 := constant S_ .bf16 0x7F80#16
  let main_v1 : FVec F S3x2x7800x5120 .bf16 := broadcastInDim S3x2x7800x5120 ![] bcast_S_S3x2x7800x5120 main_cst
  let main_v2 : IVec S3x2x7800x5120 1 := cmpf .olt main_v0 main_v1
  main_v2
-- ==== Kernel.lean ====
abbrev S_ : Shape := ⟨0, ![]⟩
abbrev S3x64x7800 : Shape := ⟨3, ![3, 64, 7800]⟩
abbrev S64x5120 : Shape := ⟨2, ![64, 5120]⟩
abbrev S5120 : Shape := ⟨1, ![5120]⟩
abbrev S3x2x7800x5120 : Shape := ⟨4, ![3, 2, 7800, 5120]⟩
abbrev S3x5120 : Shape := ⟨2, ![3, 5120]⟩
abbrev S5120x64 : Shape := ⟨2, ![5120, 64]⟩
abbrev S64 : Shape := ⟨1, ![64]⟩
abbrev S1 : Shape := ⟨1, ![1]⟩
abbrev S1x5120 : Shape := ⟨2, ![1, 5120]⟩
abbrev S3x1x5120 : Shape := ⟨3, ![3, 1, 5120]⟩
abbrev S1x64 : Shape := ⟨2, ![1, 64]⟩
abbrev S3x7800x640 : Shape := ⟨3, ![3, 7800, 640]⟩
abbrev S3x2x40x7800 : Shape := ⟨4, ![3, 2, 40, 7800]⟩
abbrev S3x2x64x7800 : Shape := ⟨4, ![3, 2, 64, 7800]⟩
abbrev S3x2x7800 : Shape := ⟨3, ![3, 2, 7800]⟩
abbrev S1x64x128 : Shape := ⟨3, ![1, 64, 128]⟩
abbrev S1x2x128x5120 : Shape := ⟨4, ![1, 2, 128, 5120]⟩
abbrev S1x1x5120 : Shape := ⟨3, ![1, 1, 5120]⟩
abbrev S1x128x640 : Shape := ⟨3, ![1, 128, 640]⟩
abbrev S1x2x40x128 : Shape := ⟨4, ![1, 2, 40, 128]⟩
abbrev S1x2x64x128 : Shape := ⟨4, ![1, 2, 64, 128]⟩
abbrev S1x2x128 : Shape := ⟨3, ![1, 2, 128]⟩
abbrev S2x128x5120 : Shape := ⟨3, ![2, 128, 5120]⟩
abbrev S2x128x128 : Shape := ⟨3, ![2, 128, 128]⟩
abbrev S128x128 : Shape := ⟨2, ![128, 128]⟩
abbrev S64x128 : Shape := ⟨2, ![64, 128]⟩
abbrev S128x64 : Shape := ⟨2, ![128, 64]⟩
abbrev S1x1x128x128 : Shape := ⟨4, ![1, 1, 128, 128]⟩
abbrev S128 : Shape := ⟨1, ![128]⟩
abbrev S128x1 : Shape := ⟨2, ![128, 1]⟩
abbrev S64x256 : Shape := ⟨2, ![64, 256]⟩
abbrev S128x256 : Shape := ⟨2, ![128, 256]⟩
abbrev S1x256 : Shape := ⟨2, ![1, 256]⟩
abbrev S1x128x256 : Shape := ⟨3, ![1, 128, 256]⟩
abbrev S1x1x256 : Shape := ⟨3, ![1, 1, 256]⟩
abbrev S1x1x128x256 : Shape := ⟨4, ![1, 1, 128, 256]⟩
abbrev S1x128x1 : Shape := ⟨3, ![1, 128, 1]⟩
abbrev S1x128x128 : Shape := ⟨3, ![1, 128, 128]⟩
abbrev S40x128 : Shape := ⟨2, ![40, 128]⟩
abbrev S1x1x40x128 : Shape := ⟨4, ![1, 1, 40, 128]⟩
abbrev S1x1x64x128 : Shape := ⟨4, ![1, 1, 64, 128]⟩
abbrev S1x128 : Shape := ⟨2, ![1, 128]⟩
abbrev S1x1x128 : Shape := ⟨3, ![1, 1, 128]⟩

abbrev nBuf : Space → Nat
  | .hbm => 25
  | .vmem => 29
  | .smem => 1
  | _ => 0

abbrev bufTy : (tb : Table) → Fin (tcTables nBuf tb) → BufTy
  | .hbm, ⟨0, _⟩ => ⟨S_, .f32⟩
  | .hbm, ⟨1, _⟩ => ⟨S3x64x7800, .fp8e4m3⟩
  | .hbm, ⟨2, _⟩ => ⟨S64x5120, .fp8e4m3⟩
  | .hbm, ⟨3, _⟩ => ⟨S5120, .f32⟩
  | .hbm, ⟨4, _⟩ => ⟨S5120, .f32⟩
  | .hbm, ⟨5, _⟩ => ⟨S3x2x7800x5120, .bf16⟩
  | .hbm, ⟨6, _⟩ => ⟨S3x5120, .f32⟩
  | .hbm, ⟨7, _⟩ => ⟨S3x5120, .f32⟩
  | .hbm, ⟨8, _⟩ => ⟨S5120x64, .fp8e4m3⟩
  | .hbm, ⟨9, _⟩ => ⟨S64, .f32⟩
  | .hbm, ⟨10, _⟩ => ⟨S64, .f32⟩
  | .hbm, ⟨11, _⟩ => ⟨S1, .f32⟩
  | .hbm, ⟨12, _⟩ => ⟨S1x5120, .f32⟩
  | .hbm, ⟨13, _⟩ => ⟨S1x5120, .f32⟩
  | .hbm, ⟨14, _⟩ => ⟨S3x1x5120, .f32⟩
  | .hbm, ⟨15, _⟩ => ⟨S3x1x5120, .f32⟩
  | .hbm, ⟨16, _⟩ => ⟨S64x5120, .fp8e4m3⟩
  | .hbm, ⟨17, _⟩ => ⟨S1x64, .f32⟩
  | .hbm, ⟨18, _⟩ => ⟨S1x64, .f32⟩
  | .hbm, ⟨19, _⟩ => ⟨S3x7800x640, .f32⟩
  | .hbm, ⟨20, _⟩ => ⟨S3x2x7800x5120, .i8⟩
  | .hbm, ⟨21, _⟩ => ⟨S3x2x40x7800, .f32⟩
  | .hbm, ⟨22, _⟩ => ⟨S3x2x7800x5120, .fp8e4m3⟩
  | .hbm, ⟨23, _⟩ => ⟨S3x2x64x7800, .f32⟩
  | .hbm, ⟨24, _⟩ => ⟨S3x2x7800, .f32⟩
  | .local _ .vmem, ⟨0, _⟩ => ⟨S1x64x128, .fp8e4m3⟩
  | .local _ .vmem, ⟨1, _⟩ => ⟨S1x64x128, .fp8e4m3⟩
  | .local _ .vmem, ⟨2, _⟩ => ⟨S64x5120, .fp8e4m3⟩
  | .local _ .vmem, ⟨3, _⟩ => ⟨S1x5120, .f32⟩
  | .local _ .vmem, ⟨4, _⟩ => ⟨S1x5120, .f32⟩
  | .local _ .vmem, ⟨5, _⟩ => ⟨S1x2x128x5120, .bf16⟩
  | .local _ .vmem, ⟨6, _⟩ => ⟨S1x2x128x5120, .bf16⟩
  | .local _ .vmem, ⟨7, _⟩ => ⟨S1x1x5120, .f32⟩
  | .local _ .vmem, ⟨8, _⟩ => ⟨S1x1x5120, .f32⟩
  | .local _ .vmem, ⟨9, _⟩ => ⟨S1x1x5120, .f32⟩
  | .local _ .vmem, ⟨10, _⟩ => ⟨S1x1x5120, .f32⟩
  | .local _ .vmem, ⟨11, _⟩ => ⟨S64x5120, .fp8e4m3⟩
  | .local _ .vmem, ⟨12, _⟩ => ⟨S1x64, .f32⟩
  | .local _ .vmem, ⟨13, _⟩ => ⟨S1x64, .f32⟩
  | .local _ .vmem, ⟨14, _⟩ => ⟨S1x128x640, .f32⟩
  | .local _ .vmem, ⟨15, _⟩ => ⟨S1x128x640, .f32⟩
  | .local _ .vmem, ⟨16, _⟩ => ⟨S1x2x128x5120, .i8⟩
  | .local _ .vmem, ⟨17, _⟩ => ⟨S1x2x128x5120, .i8⟩
  | .local _ .vmem, ⟨18, _⟩ => ⟨S1x2x40x128, .f32⟩
  | .local _ .vmem, ⟨19, _⟩ => ⟨S1x2x40x128, .f32⟩
  | .local _ .vmem, ⟨20, _⟩ => ⟨S1x2x128x5120, .fp8e4m3⟩
  | .local _ .vmem, ⟨21, _⟩ => ⟨S1x2x128x5120, .fp8e4m3⟩
  | .local _ .vmem, ⟨22, _⟩ => ⟨S1x2x64x128, .f32⟩
  | .local _ .vmem, ⟨23, _⟩ => ⟨S1x2x64x128, .f32⟩
  | .local _ .vmem, ⟨24, _⟩ => ⟨S1x2x128, .f32⟩
  | .local _ .vmem, ⟨25, _⟩ => ⟨S1x2x128, .f32⟩
  | .local _ .vmem, ⟨26, _⟩ => ⟨S2x128x5120, .f32⟩
  | .local _ .vmem, ⟨27, _⟩ => ⟨S2x128x5120, .f32⟩
  | .local _ .vmem, ⟨28, _⟩ => ⟨S2x128x128, .f32⟩
  | .local _ .smem, ⟨0, _⟩ => ⟨S1, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [BitOps F]

abbrev grid0 : Pipeline.Grid := ⟨2, ![3, 61], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x64x128 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x128x5120 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S64x5120 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x640 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x128x5120 .i8 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x40x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x128x5120 .fp8e4m3 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x2x64x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x2x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== KernelIdeal.lean ====
variable {F : FTy → Type} [FloatOps F] [Named F]
def κ : String → Option EReal := fun
  | "inv_d" => some ((1 / 5120 : ℝ) : EReal)
  | _ => none
-- ==== ReferenceIdeal.lean ====
abbrev S_ : Shape := ⟨0, ![]⟩
abbrev S3x64x7800 : Shape := ⟨3, ![3, 64, 7800]⟩
abbrev S64x5120 : Shape := ⟨2, ![64, 5120]⟩
abbrev S5120 : Shape := ⟨1, ![5120]⟩
abbrev S3x2x7800x5120 : Shape := ⟨4, ![3, 2, 7800, 5120]⟩
abbrev S3x5120 : Shape := ⟨2, ![3, 5120]⟩
abbrev S5120x64 : Shape := ⟨2, ![5120, 64]⟩
abbrev S64 : Shape := ⟨1, ![64]⟩
abbrev S3x7800x64 : Shape := ⟨3, ![3, 7800, 64]⟩
abbrev S23400x64 : Shape := ⟨2, ![23400, 64]⟩
abbrev S1x1 : Shape := ⟨2, ![1, 1]⟩
abbrev S1x5120 : Shape := ⟨2, ![1, 5120]⟩
abbrev S3x1x1x5120 : Shape := ⟨4, ![3, 1, 1, 5120]⟩
abbrev S1x64 : Shape := ⟨2, ![1, 64]⟩
abbrev S3x7800x640 : Shape := ⟨3, ![3, 7800, 640]⟩
abbrev S3x2x40x7800 : Shape := ⟨4, ![3, 2, 40, 7800]⟩
abbrev S3x2x64x7800 : Shape := ⟨4, ![3, 2, 64, 7800]⟩
abbrev S3x2x7800 : Shape := ⟨3, ![3, 2, 7800]⟩
abbrev S23400x5120 : Shape := ⟨2, ![23400, 5120]⟩
abbrev S3x7800x5120 : Shape := ⟨3, ![3, 7800, 5120]⟩
abbrev S3x1x7800x5120 : Shape := ⟨4, ![3, 1, 7800, 5120]⟩
abbrev S3x2x7800x40x128 : Shape := ⟨5, ![3, 2, 7800, 40, 128]⟩
abbrev S3x2x7800x40 : Shape := ⟨4, ![3, 2, 7800, 40]⟩
abbrev S3x2x7800x40x1 : Shape := ⟨5, ![3, 2, 7800, 40, 1]⟩
abbrev S3x2x7800x1 : Shape := ⟨4, ![3, 2, 7800, 1]⟩
abbrev S46800x5120 : Shape := ⟨2, ![46800, 5120]⟩
abbrev S46800x64 : Shape := ⟨2, ![46800, 64]⟩
abbrev S3x2x7800x64 : Shape := ⟨4, ![3, 2, 7800, 64]⟩
abbrev S1x1x1x64 : Shape := ⟨4, ![1, 1, 1, 64]⟩

abbrev nBuf : Space → Nat
  | .hbm => 26
  | .vmem => 17
  | .smem => 0
  | _ => 0

abbrev bufTy : (tb : Table) → Fin (tcTables nBuf tb) → BufTy
  | .hbm, ⟨0, _⟩ => ⟨S_, .f32⟩
  | .hbm, ⟨1, _⟩ => ⟨S3x64x7800, .fp8e4m3⟩
  | .hbm, ⟨2, _⟩ => ⟨S64x5120, .fp8e4m3⟩
  | .hbm, ⟨3, _⟩ => ⟨S5120, .f32⟩
  | .hbm, ⟨4, _⟩ => ⟨S5120, .f32⟩
  | .hbm, ⟨5, _⟩ => ⟨S3x2x7800x5120, .bf16⟩
  | .hbm, ⟨6, _⟩ => ⟨S3x5120, .f32⟩
  | .hbm, ⟨7, _⟩ => ⟨S3x5120, .f32⟩
  | .hbm, ⟨8, _⟩ => ⟨S5120x64, .fp8e4m3⟩
  | .hbm, ⟨9, _⟩ => ⟨S64, .f32⟩
  | .hbm, ⟨10, _⟩ => ⟨S64, .f32⟩
  | .hbm, ⟨11, _⟩ => ⟨S3x7800x64, .fp8e4m3⟩
  | .hbm, ⟨12, _⟩ => ⟨S23400x64, .fp8e4m3⟩
  | .hbm, ⟨13, _⟩ => ⟨S1x1, .f32⟩
  | .hbm, ⟨14, _⟩ => ⟨S1x5120, .f32⟩
  | .hbm, ⟨15, _⟩ => ⟨S1x5120, .f32⟩
  | .hbm, ⟨16, _⟩ => ⟨S3x1x1x5120, .f32⟩
  | .hbm, ⟨17, _⟩ => ⟨S3x1x1x5120, .f32⟩
  | .hbm, ⟨18, _⟩ => ⟨S1x64, .f32⟩
  | .hbm, ⟨19, _⟩ => ⟨S1x64, .f32⟩
  | .hbm, ⟨20, _⟩ => ⟨S3x7800x640, .f32⟩
  | .hbm, ⟨21, _⟩ => ⟨S3x2x7800x5120, .i8⟩
  | .hbm, ⟨22, _⟩ => ⟨S3x2x40x7800, .f32⟩
  | .hbm, ⟨23, _⟩ => ⟨S3x2x7800x5120, .fp8e4m3⟩
  | .hbm, ⟨24, _⟩ => ⟨S3x2x64x7800, .f32⟩
  | .hbm, ⟨25, _⟩ => ⟨S3x2x7800, .f32⟩
  | .local _ .vmem, ⟨0, _⟩ => ⟨S23400x64, .fp8e4m3⟩
  | .local _ .vmem, ⟨1, _⟩ => ⟨S64x5120, .fp8e4m3⟩
  | .local _ .vmem, ⟨2, _⟩ => ⟨S3x2x7800x5120, .bf16⟩
  | .local _ .vmem, ⟨3, _⟩ => ⟨S1x1, .f32⟩
  | .local _ .vmem, ⟨4, _⟩ => ⟨S1x5120, .f32⟩
  | .local _ .vmem, ⟨5, _⟩ => ⟨S1x5120, .f32⟩
  | .local _ .vmem, ⟨6, _⟩ => ⟨S3x1x1x5120, .f32⟩
  | .local _ .vmem, ⟨7, _⟩ => ⟨S3x1x1x5120, .f32⟩
  | .local _ .vmem, ⟨8, _⟩ => ⟨S5120x64, .fp8e4m3⟩
  | .local _ .vmem, ⟨9, _⟩ => ⟨S1x64, .f32⟩
  | .local _ .vmem, ⟨10, _⟩ => ⟨S1x64, .f32⟩
  | .local _ .vmem, ⟨11, _⟩ => ⟨S3x7800x640, .f32⟩
  | .local _ .vmem, ⟨12, _⟩ => ⟨S3x2x7800x5120, .i8⟩
  | .local _ .vmem, ⟨13, _⟩ => ⟨S3x2x40x7800, .f32⟩
  | .local _ .vmem, ⟨14, _⟩ => ⟨S3x2x7800x5120, .fp8e4m3⟩
  | .local _ .vmem, ⟨15, _⟩ => ⟨S3x2x64x7800, .f32⟩
  | .local _ .vmem, ⟨16, _⟩ => ⟨S3x2x7800, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16

abbrev nD : Nat := 1
abbrev τ : Topo := Topo.v7x

variable {F : FTy → Type} [FloatOps F]

abbrev grid0 : Pipeline.Grid := .none

abbrev stage0_0 : Fin 1 → Memref sig .tc .vmem S23400x64 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x5120 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x2x7800x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x1x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x1x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5120x64 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x7800x640 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x2x7800x5120 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S3x2x40x7800 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S3x2x7800x5120 .fp8e4m3 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x2x64x7800 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S3x2x7800 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
-- ==== Proof.Steps.lean ====
/-
  Loads, stores and counted loops over memrefs held by their contents: the rules that the proofs of the
  kernel's body use. Nothing here mentions the kernel.
-/
module

public import Idealize.ShloMosaic.Lib.Tactic
public import Idealize.ShloMosaic.Lib.VecWindow
public import Idealize.ShloMosaic.Lib.Memref

@[expose] public section

noncomputable section

namespace Steps

open Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open VecWindow (window put)

variable {nD : Nat} {τ : Topo} {sig : RefSig} {Val : EltTy → Type} {Λ : Labels}

/-- Load the window of sizes `size` at `off`, and continue. -/
def ldv {s : Shape} {e : EltTy} {α : Type} (m : Memref sig .tc .vmem s e) (off size : Fin s.rank → ℕ)
    (inb : ∀ a, off a + size a ≤ s.size a) (h : 0 < (⟨s.rank, size⟩ : Shape).numel)
    (k : ((⟨s.rank, size⟩ : Shape).Idx → Val e) → Prog (TpuEff nD τ sig Val Λ .tc) α) :
    Prog (TpuEff nD τ sig Val Λ .tc) α :=
  Prog.op (.load m (Rect.unit off size inb).toLoadRect (View.loadsAt_vmem h)) k

/-- Store `w` over the window of sizes `size` at `off`, and continue. -/
def stv {s : Shape} {e : EltTy} {α : Type} (m : Memref sig .tc .vmem s e) (off size : Fin s.rank → ℕ)
    (inb : ∀ a, off a + size a ≤ s.size a) (w : (⟨s.rank, size⟩ : Shape).Idx → Val e)
    (h : (m.access (Rect.unit off size inb)).Stores Finset.univ) (k : Prog (TpuEff nD τ sig Val Λ .tc) α) :
    Prog (TpuEff nD τ sig Val Λ .tc) α :=
  Prog.op (.store m (Rect.unit off size inb) w Finset.univ h (.inl rfl)) fun _ => k

universe v

/-- The trips `i, i+1, …, n-1` of a counted loop over a carried value, each trip told how to continue. -/
def loopFrom {P : Type v} {α : Type} (n : ℕ) (body : (i : ℕ) → i < n → α → (α → P) → P) (K : α → P) :
    (k i : ℕ) → i + k = n → α → P :=
  fun k => Nat.rec (motive := fun k => (i : ℕ) → i + k = n → α → P)
    (fun _ _ a => K a)
    (fun k ih i h a => body i (by omega) a fun a => ih (i + 1) (by omega) a) k

/-- A counted loop of `n` trips over a carried value, continued by `K`. -/
def loop {P : Type v} {α : Type} (n : ℕ) (a : α) (body : (i : ℕ) → i < n → α → (α → P) → P) (K : α → P) : P :=
  loopFrom n body K n 0 (Nat.zero_add n) a

section Rules

variable {Ix : Type} [DecidableEq Ix] {Name : Type} [DecidableEq Name] {U : Type} [URA U] {Lvl : Type} [Preorder Lvl]

local notation "𝕄" => MT nD τ sig Ix Val Name U Lvl

variable {defs : Defs nD τ sig Val Λ} (𝒱 : Variants) (c : Dev nD) (bd : Option 𝒱.V) (E : Set Name)

variable {α : Type} {Q : α → sProp (MT nD τ sig Ix Val Name U Lvl)}

theorem slice_set_subset {s : Shape} {e : EltTy} {sp : Space} (v : View sig .tc sp s e) (r : Rect s) : (v.slice r).set ⊆ v.set := by
  intro i hi
  obtain ⟨x, -, rfl⟩ := Finset.mem_map.mp hi
  exact v.emb_mem_set _

theorem setOn_subset {s : Shape} {e : EltTy} {sp : Space} (v : View sig .tc sp s e) (M : Finset s.Idx) : v.setOn M ⊆ v.set := by
  intro i hi
  obtain ⟨x, -, rfl⟩ := Finset.mem_map.mp hi
  exact v.emb_mem_set _

/-- A load of a window of a memref held at contents `X` continues at the window of `X`. -/
theorem wp_ldv {s : Shape} {e : EltTy} {m : Memref sig .tc .vmem s e} {off size : Fin s.rank → ℕ}
    {inb : ∀ a, off a + size a ≤ s.size a} {h : 0 < (⟨s.rank, size⟩ : Shape).numel}
    {k : ((⟨s.rank, size⟩ : Shape).Idx → Val e) → Prog (TpuEff nD τ sig Val Λ .tc) α} {q : PosShare TreeShare} {X : s.Idx → Val e} :
    (owns (c.tc : Thread nD τ) m q X : sProp 𝕄)
      ⊢ iprop((owns (c.tc : Thread nD τ) m q X -∗ wp frame (wpE defs 𝒱 (c.tc : Thread nD τ) bd) E (k (window X off size inb)) Q)
        -∗ wp frame (wpE defs 𝒱 (c.tc : Thread nD τ) bd) E (ldv m off size inb h k) Q) := by
  iintro H HK
  unfold owns ldv
  icases H with ⟨%f, %hf, H⟩
  iapply (wp_load 𝒱 (c.tc : Thread nD τ) bd E (S := m.view.set) (q := q) (f := f) (setOn_subset m.view _)) $$ H
  iintro H
  rw [View.readAt_unit m.view f inb rfl inb, hf]
  iapply HK
  iexists f
  isplitr
  · ipureintro; exact hf
  · iexact H

/-- A store over a window of a memref held in full at contents `X` leaves `X` with the payload put there. -/
theorem wp_stv {s : Shape} {e : EltTy} {m : Memref sig .tc .vmem s e} {off size : Fin s.rank → ℕ}
    {inb : ∀ a, off a + size a ≤ s.size a} {w : (⟨s.rank, size⟩ : Shape).Idx → Val e}
    {h : (m.access (Rect.unit off size inb)).Stores Finset.univ} {k : Prog (TpuEff nD τ sig Val Λ .tc) α} {X : s.Idx → Val e} :
    (owns (c.tc : Thread nD τ) m fullShare X : sProp 𝕄)
      ⊢ iprop((owns (c.tc : Thread nD τ) m fullShare (put X off size w) -∗ wp frame (wpE defs 𝒱 (c.tc : Thread nD τ) bd) E k Q)
        -∗ wp frame (wpE defs 𝒱 (c.tc : Thread nD τ) bd) E (stv m off size inb w h k) Q) := by
  iintro H HK
  unfold owns stv
  icases H with ⟨%f, %hf, H⟩
  iapply (wp_store 𝒱 (c.tc : Thread nD τ) bd E (m := m) (r := Rect.unit off size inb) (S := m.view.set) (f := f) (w := w) (slice_set_subset m.view _)) $$ H
  iintro H
  iapply HK
  iexists _
  isplitr [H]
  rotate_left
  · iexact H
  · ipureintro
    have := View.read_writes_cons_put m.view f inb w [] rfl
    rw [View.writes_nil, hf] at this
    exact this

/-- A load of a word of scalar memory held at contents `X` continues at the word. -/
theorem wp_smem {s : Shape} {e : EltTy} {m : Memref sig .tc .smem s e} {off size : Fin s.rank → ℕ}
    {inb : ∀ a, off a + size a ≤ s.size a} {hw : (m.access (Rect.unit off size inb)).Loads} {x : (Rect.unit off size inb).shape.Idx}
    {k : Val e → Prog (TpuEff nD τ sig Val Λ .tc) α} {q : PosShare TreeShare} {X : s.Idx → Val e} :
    (owns (c.tc : Thread nD τ) m q X : sProp 𝕄)
      ⊢ iprop((owns (c.tc : Thread nD τ) m q X -∗ wp frame (wpE defs 𝒱 (c.tc : Thread nD τ) bd) E (k (window X off size inb x)) Q)
        -∗ wp frame (wpE defs 𝒱 (c.tc : Thread nD τ) bd) E (smemLoadElt m (Rect.unit off size inb) hw x k) Q) := by
  iintro H HK
  unfold owns
  icases H with ⟨%f, %hf, H⟩
  iapply (wp_smemLoadElt 𝒱 (c.tc : Thread nD τ) bd E (m := m) (r := Rect.unit off size inb) (S := m.view.set) (q := q) (f := f) (slice_set_subset m.view _)) $$ H
  iintro H
  have h0 := View.readAt_unit m.view f inb rfl inb
  rw [hf] at h0
  rw [show (m.access (Rect.unit off size inb)).read Val f = window X off size inb from h0]
  iapply HK
  iexists f
  isplitr
  · ipureintro; exact hf
  · iexact H

/-- A counted loop, by an invariant: what holds before trip `i` holds, after it, before trip `i + 1`. -/
theorem wp_loopFrom {γ : Type} {n : ℕ} {body : (i : ℕ) → i < n → γ → (γ → Prog (TpuEff nD τ sig Val Λ .tc) α) → Prog (TpuEff nD τ sig Val Λ .tc) α}
    {K : γ → Prog (TpuEff nD τ sig Val Λ .tc) α} (I : ℕ → γ → sProp 𝕄)
    (hb : ∀ i (h : i < n) a k, I i a ⊢ iprop((∀ a', I (i + 1) a' -∗ wp frame (wpE defs 𝒱 (c.tc : Thread nD τ) bd) E (k a') Q)
      -∗ wp frame (wpE defs 𝒱 (c.tc : Thread nD τ) bd) E (body i h a k) Q)) :
    ∀ (k i : ℕ) (hk : i + k = n) (a : γ), I i a ⊢ iprop((∀ r, I n r -∗ wp frame (wpE defs 𝒱 (c.tc : Thread nD τ) bd) E (K r) Q)
      -∗ wp frame (wpE defs 𝒱 (c.tc : Thread nD τ) bd) E (loopFrom n body K k i hk a) Q) := by
  intro k
  induction k with
  | zero =>
    intro i hk a
    obtain rfl : i = n := by omega
    rw [show loopFrom i body K 0 i hk a = K a from rfl]
    iintro H HK
    iapply HK
    iexact H
  | succ k ih =>
    intro i hk a
    have hi : i < n := by omega
    have hk' : i + 1 + k = n := by omega
    rw [show loopFrom n body K (k + 1) i hk a = body i hi a fun a => loopFrom n body K k (i + 1) hk' a from rfl]
    iintro H HK
    iapply (hb i hi a _) $$ H
    iintro %a' H
    iapply (ih (i + 1) hk' a') $$ H
    iexact HK

theorem wp_loop {γ : Type} {n : ℕ} {a : γ} {body : (i : ℕ) → i < n → γ → (γ → Prog (TpuEff nD τ sig Val Λ .tc) α) → Prog (TpuEff nD τ sig Val Λ .tc) α}
    {K : γ → Prog (TpuEff nD τ sig Val Λ .tc) α} (I : ℕ → γ → sProp 𝕄)
    (hb : ∀ i (h : i < n) a k, I i a ⊢ iprop((∀ a', I (i + 1) a' -∗ wp frame (wpE defs 𝒱 (c.tc : Thread nD τ) bd) E (k a') Q)
      -∗ wp frame (wpE defs 𝒱 (c.tc : Thread nD τ) bd) E (body i h a k) Q)) :
    I 0 a ⊢ iprop((∀ r, I n r -∗ wp frame (wpE defs 𝒱 (c.tc : Thread nD τ) bd) E (K r) Q)
      -∗ wp frame (wpE defs 𝒱 (c.tc : Thread nD τ) bd) E (loop n a body K) Q) :=
  wp_loopFrom 𝒱 c bd E I hb n 0 (Nat.zero_add n) a

end Rules

end Steps

end
-- ==== Proof.FoldBits.lean ====
/-
  The kernel's body as a program with loops. The printed body unrolls every loop of the kernel's source; here
  its statements are gathered again: pure functions for what one trip computes, and counted loops around them.
  `body_eq` says that the printed body is this program.
-/
module

public import proofs.«01_k».proof.Proof.Steps
public import proofs.«01_k».proof.Proof.Gen.Kernel

@[expose] public section

set_option maxRecDepth 65536

noncomputable section

namespace Cert.Kernel.Fold

open Cert.Kernel Cert.Kernel.Gen Idealize.ShloMosaic Idealize.SL.Sem
open Steps (ldv stv loop loopFrom)

variable {F : FTy → Type} [BitOps F]

/-! ## What the statements compute -/

/-- The constant 1/5120 as the kernel writes it. -/
def invD : F .f32 := Scalar.ofBits .f32 0x394CCCCD#32

/-- The high half of a float's word (a bf16 number). -/
def hiPart (x : FVec F S128x128 .f32) : FVec F S128x128 .f32 := bitcastToFloat .f32 (andi (bitcastToInt x) (broadcast S128x128 4294901760#32))

def zero128 : FVec F S128x128 .f32 := broadcast S128x128 (Scalar.ofBits .f32 0x00000000#32)

/-- The transposed block of patch codes. -/
def pcodes (x : Vec F S1x64x128 .fp8e4m3) : FVec F S128x64 .fp8e4m3 :=
  truncf .fp8e4m3 (transpose S128x64 [1, 0] (extf .f32 (shapeCast S64x128 x shapeCasts_S1x64x128_S64x128) bitsLt_fp8e4m3_f32)
    transposes_S64x128_p1_0_S128x64) bitsLt_fp8e4m3_f32

/-- 128 columns of the block of hidden states, widened. -/
def hid128 (x : Vec F S1x1x128x128 .bf16) : FVec F S128x128 .f32 :=
  extf .f32 (shapeCast S128x128 x shapeCasts_S1x1x128x128_S128x128) bitsLt_bf16_f32

/-- One trip of the sum behind the mean. -/
def meanStep (s : FVec F S128x128 .f32) (x : Vec F S1x1x128x128 .bf16) : FVec F S128x128 .f32 := addf s (hid128 x)

/-- One trip of the sum behind the variance. -/
def varStep (mu : FVec F S128x1 .f32) (s : FVec F S128x128 .f32) (x : Vec F S1x1x128x128 .bf16) : FVec F S128x128 .f32 :=
  addf s (mulf (subf (hid128 x) (broadcastTo S128x128 mu broadcasts_S128x1_S128x128))
    (subf (hid128 x) (broadcastTo S128x128 mu broadcasts_S128x1_S128x128)))

/-- A row's mean from its 128 partial sums. -/
def rowMean (s : FVec F S128x128 .f32) : FVec F S128x1 .f32 :=
  mulf (shapeCast S128x1 (multiReduction .add [1] S128 s 0x00000000#32 reduces_S128x128_S128 (.inl rfl) rfl) shapeCasts_S128_S128x1)
    (broadcast S128x1 invD)

/-- The standard deviation from the variance. -/
def stdOf (v : FVec F S128x1 .f32) : FVec F S128x1 .f32 :=
  sqrt (addf v (broadcast S128x1 (Scalar.ofBits .f32 0x358637BD#32)))

/-- 256 columns of the embedding of a block of patches. -/
def embChunk (pc : FVec F S128x64 .fp8e4m3) (w : Vec F S64x256 .fp8e4m3) (sp : Elt F .f32) (se be : Vec F S1x256 .f32) : FVec F S128x256 .f32 :=
  addf (mulf (mulf (matmul dot_S128x64_S64x256_S128x256_1_0_0_1_n_n none pc w (constant S128x256 .f32 0x00000000#32)) (broadcast S128x256 sp))
      (broadcastTo S128x256 (shapeCast S1x256 se shapeCasts_S1x256_S1x256) broadcasts_S1x256_S128x256))
    (broadcastTo S128x256 (shapeCast S1x256 be shapeCasts_S1x256_S1x256) broadcasts_S1x256_S128x256)

/-- The first 128 columns of a chunk. -/
def lo128 (x : FVec F S128x256 .f32) : FVec F S128x128 .f32 := extractStridedSlice S128x128 ![0, 0] x slices_S128x256_o0_0_S128x128
/-- The last 128 columns of a chunk. -/
def hi128 (x : FVec F S128x256 .f32) : FVec F S128x128 .f32 := extractStridedSlice S128x128 ![0, 128] x slices_S128x256_o0_128_S128x128

/-- A chunk as the block of scratch it is stored to. -/
def pack256 (x : FVec F S128x256 .f32) : FVec F S1x128x256 .f32 := shapeCast S1x128x256 x shapeCasts_S128x256_S1x128x256

/-- The layer norm's gain of a chunk. -/
def gain (x : Vec F S1x1x256 .f32) : FVec F S1x256 .f32 :=
  addf (broadcast S1x256 (Scalar.ofBits .f32 0x3F800000#32)) (shapeCast S1x256 x shapeCasts_S1x1x256_S1x256)

/-- 256 columns of the block of hidden states, widened. -/
def hid256 (x : Vec F S1x1x128x256 .bf16) : FVec F S128x256 .f32 :=
  extf .f32 (shapeCast S128x256 x shapeCasts_S1x1x128x256_S128x256) bitsLt_bf16_f32

/-- A row's greatest element. -/
def rowMax (x : FVec F S128x128 .f32) : FVec F S128x1 .f32 :=
  shapeCast S128x1 (multiReduction .maximumf [1] S128 x 0xFF800000#32 reduces_S128x128_S128 (.inl rfl) rfl) shapeCasts_S128_S128x1

/-- The greatest absolute value of each row's first 128 columns, as it is stored. -/
def amLo (r : FVec F S128x256 .f32) : FVec F S1x128x1 .f32 := shapeCast S1x128x1 (rowMax (lo128 (absf r))) shapeCasts_S128x1_S1x128x1
/-- The greatest absolute value of each row's last 128 columns, as it is stored. -/
def amHi (r : FVec F S128x256 .f32) : FVec F S1x128x1 .f32 := shapeCast S1x128x1 (rowMax (hi128 (absf r))) shapeCasts_S128x1_S1x128x1

/-- A chunk of the modulated hidden states, before the division by the standard deviation. -/
def modChunk (h : FVec F S128x256 .f32) (mu std : FVec F S128x1 .f32) (g : FVec F S1x256 .f32) (hs : Vec F S1x1x256 .f32) : FVec F S128x256 .f32 :=
  addf (mulf (subf h (broadcastTo S128x256 mu broadcasts_S128x1_S128x256)) (broadcastTo S128x256 g broadcasts_S1x256_S128x256))
    (mulf (broadcastTo S128x256 (shapeCast S1x256 hs shapeCasts_S1x1x256_S1x256) broadcasts_S1x256_S128x256)
      (broadcastTo S128x256 std broadcasts_S128x1_S128x256))

/-- The running maximum of absolute values. -/
def umaxStep (m : FVec F S128x128 .f32) (u : FVec F S128x256 .f32) : FVec F S128x128 .f32 :=
  maximumf (maximumf m (lo128 (absf u))) (hi128 (absf u))

/-- The scales of the groups of a row (one in the lanes past the groups). -/
def scales (am : Vec F S1x128x128 .f32) : FVec F S128x128 .f32 :=
  select (cmpi .slt (iota .tc S128x128 32 [1] iota_S128x128_d1_w32) (broadcast S128x128 40#32))
    (select (cmpf .ogt (shapeCast S128x128 am shapeCasts_S1x128x128_S128x128) (broadcast S128x128 (Scalar.ofBits .f32 0x00000000#32)))
      (divf (shapeCast S128x128 am shapeCasts_S1x128x128_S128x128) (broadcast S128x128 (Scalar.ofBits .f32 0x42FE0000#32)))
      (broadcast S128x128 (Scalar.ofBits .f32 0x3F800000#32)))
    (broadcast S128x128 (Scalar.ofBits .f32 0x3F800000#32))

/-- The reciprocals of the scales (zero in the lanes past the groups). -/
def recips (sc : FVec F S128x128 .f32) : FVec F S128x128 .f32 :=
  select (cmpi .slt (iota .tc S128x128 32 [1] iota_S128x128_d1_w32) (broadcast S128x128 40#32))
    (divf (broadcast S128x128 (Scalar.ofBits .f32 0x3F800000#32)) sc) (broadcast S128x128 (Scalar.ofBits .f32 0x00000000#32))

/-- The reciprocals split into three bf16 parts, side by side. -/
def split3 (x : FVec F S128x128 .f32) : FVec F S128x128 .bf16 :=
  truncf .bf16
    (addf (addf (hiPart x) (dynamicRotate 1 40#32 none (hiPart (subf x (hiPart x))) rotates_S128x128_d1))
      (dynamicRotate 1 80#32 none (subf (subf x (hiPart x)) (hiPart (subf x (hiPart x)))) rotates_S128x128_d1))
    bitsLt_bf16_f32

/-- The row maximum of the modulated states. -/
def uScale (m : FVec F S128x1 .f32) : FVec F S128x1 .f32 :=
  select (cmpf .ogt m (broadcast S128x1 (Scalar.ofBits .f32 0x00000000#32))) (divf m (broadcast S128x1 (Scalar.ofBits .f32 0x43E00000#32)))
    (broadcast S128x1 (Scalar.ofBits .f32 0x3F800000#32))

/-- The reciprocal of a column. -/
def recip1 (s : FVec F S128x1 .f32) : FVec F S128x1 .f32 := divf (broadcast S128x1 (Scalar.ofBits .f32 0x3F800000#32)) s

/-- The lane numbers of a chunk. -/
def lane : IVec S128x256 32 := iota .tc S128x256 32 [1] iota_S128x256_d1_w32

/-- The lane numbers divided by 128, rounded down. -/
def laneGroup : IVec S128x256 32 :=
  select
    (andi
      (cmpi .ne (subi (extui 32 (cmpi .sgt lane (broadcast S128x256 0#32)) natLt_1_32) (extui 32 (cmpi .slt lane (broadcast S128x256 0#32)) natLt_1_32))
        (broadcast S128x256 (Scalar.subi (Scalar.extui (Scalar.cmpi .sgt (128#32 : BitVec 32) 0#32)) (Scalar.extui (Scalar.cmpi .slt (128#32 : BitVec 32) 0#32)))))
      (cmpi .ne (remsi lane (broadcast S128x256 128#32)) (broadcast S128x256 0#32)))
    (subi (divsi lane (broadcast S128x256 128#32)) (broadcast S128x256 1#32)) (divsi lane (broadcast S128x256 128#32))

/-- The group of each lane of chunk `j`. -/
def group (j : ℕ) : IVec S128x256 32 := addi laneGroup (broadcast S128x256 (BitVec.ofNat 32 (2 * j)))

/-- The matrix that spreads the reciprocal of each group of chunk `j` over the group's lanes. -/
def selMat (j : ℕ) : FVec F S128x256 .bf16 :=
  truncf .bf16
    (sitofp .f32
      (extui 32
        (ori
          (ori (cmpi .eq (iota .tc S128x256 32 [0] iota_S128x256_d0_w32) (group j))
            (cmpi .eq (iota .tc S128x256 32 [0] iota_S128x256_d0_w32) (addi (group j) (broadcast S128x256 40#32))))
          (cmpi .eq (iota .tc S128x256 32 [0] iota_S128x256_d0_w32) (addi (group j) (broadcast S128x256 80#32))))
        natLt_1_32))
    bitsLt_bf16_f32

/-- The codes of a chunk of residuals. -/
def rcChunk (lhs : FVec F S128x128 .bf16) (j : ℕ) (r : Vec F S1x128x256 .f32) : IVec S1x1x128x256 8 :=
  shapeCast S1x1x128x256
    (fptosi 8
      (minimumf (broadcast S128x256 (Scalar.ofBits (F := F) .f32 0x42FE0000#32))
        (maximumf (broadcast S128x256 (Scalar.ofBits .f32 0xC2FE0000#32))
          (roundeven
            (mulf (shapeCast S128x256 r shapeCasts_S1x128x256_S128x256)
              (matmul dot_S128x128_S128x256_S128x256_1_0_0_1_n_n none lhs (selMat j) (constant S128x256 .f32 0x00000000#32)))))))
    shapeCasts_S128x256_S1x1x128x256

/-- The codes of a chunk of modulated states. -/
def hcChunk (ui : FVec F S128x1 .f32) (u : Vec F S1x128x256 .f32) : FVec F S128x256 .fp8e4m3 :=
  truncf .fp8e4m3
    (minimumf (broadcast S128x256 (Scalar.ofBits .f32 0x43E00000#32))
      (maximumf (broadcast S128x256 (Scalar.ofBits .f32 0xC3E00000#32))
        (mulf (shapeCast S128x256 u shapeCasts_S1x128x256_S128x256) (broadcastTo S128x256 ui broadcasts_S128x1_S128x256))))
    bitsLt_fp8e4m3_f32

/-- One trip of the head's product. -/
def headStep (acc : FVec F S128x64 .f32) (c : FVec F S128x256 .fp8e4m3) (w : Vec F S64x256 .fp8e4m3) : FVec F S128x64 .f32 :=
  addf acc (matmul dot_S128x256_S64x256_S128x64_1_1_0_0_n_n none c (shapeCast S64x256 w shapeCasts_S64x256_S64x256) (constant S128x64 .f32 0x00000000#32))

/-- The scale of a row of head codes. -/
def hScale (m us std : FVec F S128x1 .f32) : FVec F S128x1 .f32 :=
  select (cmpf .ogt m (broadcast S128x1 (Scalar.ofBits .f32 0x00000000#32))) (divf us std) (broadcast S128x1 (Scalar.ofBits .f32 0x3F800000#32))

/-- The head's result, transposed. -/
def outT (acc : FVec F S128x64 .f32) (hsc : FVec F S128x1 .f32) (s b : Vec F S1x64 .f32) : FVec F S1x1x64x128 .f32 :=
  shapeCast S1x1x64x128
    (transpose S64x128 [1, 0]
      (addf
        (mulf (mulf acc (broadcastTo S128x64 hsc broadcasts_S128x1_S128x64))
          (broadcastTo S128x64 (shapeCast S1x64 s shapeCasts_S1x64_S1x64) broadcasts_S1x64_S128x64))
        (broadcastTo S128x64 (shapeCast S1x64 b shapeCasts_S1x64_S1x64) broadcasts_S1x64_S128x64))
      transposes_S128x64_p1_0_S64x128)
    shapeCasts_S64x128_S1x1x64x128

/-- The residual scales, transposed, the groups' rows only. -/
def scalesT (sc : FVec F S128x128 .f32) : FVec F S1x1x40x128 .f32 :=
  shapeCast S1x1x40x128 (extractStridedSlice S40x128 ![0, 0] (transpose S128x128 [1, 0] sc transposes_S128x128_p1_0_S128x128) slices_S128x128_o0_0_S40x128)
    shapeCasts_S40x128_S1x1x40x128

/-- The head scales as a row. -/
def hScaleT (s : FVec F S128x1 .f32) : FVec F S1x1x128 .f32 :=
  shapeCast S1x1x128
    (extractStridedSlice S1x128 ![0, 0]
      (transpose S128x128 [1, 0] (broadcastTo S128x128 (shapeCast S128x1 s shapeCasts_S128x1_S128x1) broadcasts_S128x1_S128x128)
        transposes_S128x128_p1_0_S128x128)
      slices_S128x128_o0_0_S1x128)
    shapeCasts_S1x128_S1x1x128

/-! ## The bounds of the windows -/

theorem inb7a (br c : ℕ) (hb : br < 2) (hc : c < 40) : ∀ a, (![0, br, 0, 128 * c] : Fin 4 → ℕ) a + S1x1x128x128.size a ≤ S1x2x128x5120.size a := by
  intro a; fin_cases a
  · show 0 + 1 ≤ 1; omega
  · show br + 1 ≤ 2; omega
  · show 0 + 128 ≤ 128; omega
  · show 128 * c + 128 ≤ 5120; omega

theorem inb7b (br j : ℕ) (hb : br < 2) (hj : j < 20) : ∀ a, (![0, br, 0, 256 * j] : Fin 4 → ℕ) a + S1x1x128x256.size a ≤ S1x2x128x5120.size a := by
  intro a; fin_cases a
  · show 0 + 1 ≤ 1; omega
  · show br + 1 ≤ 2; omega
  · show 0 + 128 ≤ 128; omega
  · show 256 * j + 256 ≤ 5120; omega

theorem inb4 (j : ℕ) (hj : j < 20) : ∀ a, (![0, 256 * j] : Fin 2 → ℕ) a + S64x256.size a ≤ S64x5120.size a := by
  intro a; fin_cases a
  · show 0 + 64 ≤ 64; omega
  · show 256 * j + 256 ≤ 5120; omega

theorem inb5 (j : ℕ) (hj : j < 20) : ∀ a, (![0, 256 * j] : Fin 2 → ℕ) a + S1x256.size a ≤ S1x5120.size a := by
  intro a; fin_cases a
  · show 0 + 1 ≤ 1; omega
  · show 256 * j + 256 ≤ 5120; omega

theorem inb8 (j : ℕ) (hj : j < 20) : ∀ a, (![0, 0, 256 * j] : Fin 3 → ℕ) a + S1x1x256.size a ≤ S1x1x5120.size a := by
  intro a; fin_cases a
  · show 0 + 1 ≤ 1; omega
  · show 0 + 1 ≤ 1; omega
  · show 256 * j + 256 ≤ 5120; omega

theorem inb13 (j : ℕ) (hj : j < 2) : ∀ a, (![0, 0, 256 * j] : Fin 3 → ℕ) a + S1x128x256.size a ≤ S1x128x640.size a := by
  intro a; fin_cases a
  · show 0 + 1 ≤ 1; omega
  · show 0 + 128 ≤ 128; omega
  · show 256 * j + 256 ≤ 640; omega

theorem inb19 (br j : ℕ) (hb : br < 2) (hj : j < 20) : ∀ a, (![br, 0, 256 * j] : Fin 3 → ℕ) a + S1x128x256.size a ≤ S2x128x5120.size a := by
  intro a; fin_cases a
  · show br + 1 ≤ 2; omega
  · show 0 + 128 ≤ 128; omega
  · show 256 * j + 256 ≤ 5120; omega

theorem inb21 (br c : ℕ) (hb : br < 2) (hc : c < 40) : ∀ a, (![br, 0, c] : Fin 3 → ℕ) a + S1x128x1.size a ≤ S2x128x128.size a := by
  intro a; fin_cases a
  · show br + 1 ≤ 2; omega
  · show 0 + 128 ≤ 128; omega
  · show c + 1 ≤ 128; omega

theorem inb21w (br : ℕ) (hb : br < 2) : ∀ a, (![br, 0, 0] : Fin 3 → ℕ) a + S1x128x128.size a ≤ S2x128x128.size a := by
  intro a; fin_cases a
  · show br + 1 ≤ 2; omega
  · show 0 + 128 ≤ 128; omega
  · show 0 + 128 ≤ 128; omega

theorem inb15 (br : ℕ) (hb : br < 2) : ∀ a, (![0, br, 0, 0] : Fin 4 → ℕ) a + S1x1x40x128.size a ≤ S1x2x40x128.size a := by
  intro a; fin_cases a
  · show 0 + 1 ≤ 1; omega
  · show br + 1 ≤ 2; omega
  · show 0 + 40 ≤ 40; omega
  · show 0 + 128 ≤ 128; omega

theorem inb17 (br : ℕ) (hb : br < 2) : ∀ a, (![0, br, 0, 0] : Fin 4 → ℕ) a + S1x1x64x128.size a ≤ S1x2x64x128.size a := by
  intro a; fin_cases a
  · show 0 + 1 ≤ 1; omega
  · show br + 1 ≤ 2; omega
  · show 0 + 64 ≤ 64; omega
  · show 0 + 128 ≤ 128; omega

theorem inb18 (br : ℕ) (hb : br < 2) : ∀ a, (![0, br, 0] : Fin 3 → ℕ) a + S1x1x128.size a ≤ S1x2x128.size a := by
  intro a; fin_cases a
  · show 0 + 1 ≤ 1; omega
  · show br + 1 ≤ 2; omega
  · show 0 + 128 ≤ 128; omega

theorem packed (p : ℕ) (hp : p ∣ 128) (br j : ℕ) (hb : br < 2) (hj : j < 20) :
    (Rect.unit (s := S1x2x128x5120) ![0, br, 0, 256 * j] S1x1x128x256.size (inb7b br j hb hj)).PackedRows p := by
  have h2 : 2 ≤ S1x2x128x5120.rank := by decide
  refine Or.inr ⟨h2, rfl, Or.inl ⟨?_, ?_⟩⟩
  · exact dvd_zero p
  · exact hp

/-! ## The program -/

/-- The buffers the body works on. -/
structure Mems where
  a2 : Memref sig .tc .smem S1 .f32
  a3 : Memref sig .tc .vmem S1x64x128 .fp8e4m3
  a4 : Memref sig .tc .vmem S64x5120 .fp8e4m3
  a5 : Memref sig .tc .vmem S1x5120 .f32
  a6 : Memref sig .tc .vmem S1x5120 .f32
  a7 : Memref sig .tc .vmem S1x2x128x5120 .bf16
  a8 : Memref sig .tc .vmem S1x1x5120 .f32
  a9 : Memref sig .tc .vmem S1x1x5120 .f32
  a10 : Memref sig .tc .vmem S64x5120 .fp8e4m3
  a11 : Memref sig .tc .vmem S1x64 .f32
  a12 : Memref sig .tc .vmem S1x64 .f32
  a13 : Memref sig .tc .vmem S1x128x640 .f32
  a14 : Memref sig .tc .vmem S1x2x128x5120 .i8
  h14 : a14.IsWhole
  a15 : Memref sig .tc .vmem S1x2x40x128 .f32
  a16 : Memref sig .tc .vmem S1x2x128x5120 .fp8e4m3
  h16 : a16.IsWhole
  a17 : Memref sig .tc .vmem S1x2x64x128 .f32
  a18 : Memref sig .tc .vmem S1x2x128 .f32
  a19 : Memref sig .tc .vmem S2x128x5120 .f32
  a20 : Memref sig .tc .vmem S2x128x5120 .f32
  a21 : Memref sig .tc .vmem S2x128x128 .f32

/-- Programs of the body. -/
abbrev Pr (F : FTy → Type) := Prog (TpuEff nD τ sig (Elt F) Λ₀ .tc) PUnit

/-- The mean of the rows of branch `br`. -/
def meanP (M : Mems) (br : ℕ) (hb : br < 2) (K : FVec F S128x1 .f32 → Pr F) : Pr F :=
  loop 40 zero128 (fun c hc s k =>
      ldv M.a7 ![0, br, 0, 128 * c] S1x1x128x128.size (inb7a br c hb hc) h_S1x1x128x128 fun x => k (meanStep s x))
    fun s => K (rowMean s)

/-- The standard deviation of the rows of branch `br`. -/
def stdP (M : Mems) (br : ℕ) (hb : br < 2) (mu : FVec F S128x1 .f32) (K : FVec F S128x1 .f32 → Pr F) : Pr F :=
  loop 40 zero128 (fun c hc s k =>
      ldv M.a7 ![0, br, 0, 128 * c] S1x1x128x128.size (inb7a br c hb hc) h_S1x1x128x128 fun x => k (varStep mu s x))
    fun s => K (stdOf (rowMean s))

/-- Chunk `j` of the embedding. -/
def embP (M : Mems) (j : ℕ) (hj : j < 20) (pc : FVec F S128x64 .fp8e4m3) (K : FVec F S128x256 .f32 → Pr F) : Pr F :=
  ldv M.a4 ![0, 256 * j] S64x256.size (inb4 j hj) h_S64x256 fun w =>
  smemLoadElt M.a2 (Rect.unit (s := S1) ![0] S1.size inb_S1_S1_0) (View.loads_smem_one rfl numel1_S1)
    (Shape.Idx.first (numel1_S1.symm ▸ Nat.one_pos)) fun sp =>
  ldv M.a5 ![0, 256 * j] S1x256.size (inb5 j hj) h_S1x256 fun se =>
  ldv M.a6 ![0, 256 * j] S1x256.size (inb5 j hj) h_S1x256 fun be =>
  K (embChunk pc w sp se be)

/-- The part of chunk `j` of the embedding that is stored: the first 640 columns are. -/
def embStP (M : Mems) (j : ℕ) (e : FVec F S128x256 .f32) (K : Pr F) : Pr F :=
  if h : j < 2 then
    ldv M.a13 ![0, 0, 256 * j] S1x128x256.size (inb13 j h) h_S1x128x256 fun _ =>
    stv M.a13 ![0, 0, 256 * j] S1x128x256.size (inb13 j h) (pack256 e) (View.stores_vmem_bits_univ h_S1x128x256 rfl) K
  else if j = 2 then
    ldv M.a13 ![0, 0, 512] S1x128x128.size inb_S1x128x640_S1x128x128_0_0_512 h_S1x128x128 fun _ =>
    stv M.a13 ![0, 0, 512] S1x128x128.size inb_S1x128x640_S1x128x128_0_0_512
      (shapeCast S1x128x128 (lo128 e) shapeCasts_S128x128_S1x128x128) (View.stores_vmem_bits_univ h_S1x128x128 rfl) K
  else K

/-- Chunk `j` of branch `br`: its residuals and modulated states, and the running maximum. -/
def chunkP (M : Mems) (br : ℕ) (hb : br < 2) (j : ℕ) (hj : j < 20) (e : FVec F S128x256 .f32) (g : FVec F S1x256 .f32)
    (mu std : FVec F S128x1 .f32) (um : FVec F S128x128 .f32) (K : FVec F S128x128 .f32 → Pr F) : Pr F :=
  ldv M.a7 ![0, br, 0, 256 * j] S1x1x128x256.size (inb7b br j hb hj) h_S1x1x128x256 fun x =>
  ldv M.a19 ![br, 0, 256 * j] S1x128x256.size (inb19 br j hb hj) h_S1x128x256 fun _ =>
  stv M.a19 ![br, 0, 256 * j] S1x128x256.size (inb19 br j hb hj) (pack256 (subf (hid256 x) e)) (View.stores_vmem_bits_univ h_S1x128x256 rfl) <|
  ldv M.a21 ![br, 0, 2 * j] S1x128x1.size (inb21 br (2 * j) hb (by omega)) h_S1x128x1 fun _ =>
  stv M.a21 ![br, 0, 2 * j] S1x128x1.size (inb21 br (2 * j) hb (by omega)) (amLo (subf (hid256 x) e)) (View.stores_vmem_bits_univ h_S1x128x1 rfl) <|
  ldv M.a21 ![br, 0, 2 * j + 1] S1x128x1.size (inb21 br (2 * j + 1) hb (by omega)) h_S1x128x1 fun _ =>
  stv M.a21 ![br, 0, 2 * j + 1] S1x128x1.size (inb21 br (2 * j + 1) hb (by omega)) (amHi (subf (hid256 x) e)) (View.stores_vmem_bits_univ h_S1x128x1 rfl) <|
  ldv M.a8 ![0, 0, 256 * j] S1x1x256.size (inb8 j hj) h_S1x1x256 fun hs =>
  ldv M.a20 ![br, 0, 256 * j] S1x128x256.size (inb19 br j hb hj) h_S1x128x256 fun _ =>
  stv M.a20 ![br, 0, 256 * j] S1x128x256.size (inb19 br j hb hj) (pack256 (modChunk (hid256 x) mu std g hs)) (View.stores_vmem_bits_univ h_S1x128x256 rfl) <|
  K (umaxStep um (modChunk (hid256 x) mu std g hs))

/-- One trip of the first loop over chunks: both branches. -/
def tripP (M : Mems) (pc : FVec F S128x64 .fp8e4m3) (mu0 std0 mu1 std1 : FVec F S128x1 .f32) (j : ℕ) (hj : j < 20)
    (um : FVec F S128x128 .f32 × FVec F S128x128 .f32) (K : FVec F S128x128 .f32 × FVec F S128x128 .f32 → Pr F) : Pr F :=
  embP M j hj pc fun e =>
  embStP M j e <|
  ldv M.a9 ![0, 0, 256 * j] S1x1x256.size (inb8 j hj) h_S1x1x256 fun hsc =>
  chunkP M 0 (by omega) j hj e (gain hsc) mu0 std0 um.1 fun u0 =>
  chunkP M 1 (by omega) j hj e (gain hsc) mu1 std1 um.2 fun u1 =>
  K (u0, u1)

/-- One trip of the second loop over chunks, branch `br`. -/
def quantP (M : Mems) (br : ℕ) (hb : br < 2) (lhs : FVec F S128x128 .bf16) (ui : FVec F S128x1 .f32) (j : ℕ) (hj : j < 20)
    (acc : FVec F S128x64 .f32) (K : FVec F S128x64 .f32 → Pr F) : Pr F :=
  ldv M.a19 ![br, 0, 256 * j] S1x128x256.size (inb19 br j hb hj) h_S1x128x256 fun r =>
  ldv M.a14 ![0, br, 0, 256 * j] S1x1x128x256.size (inb7b br j hb hj) h_S1x1x128x256 fun _ =>
  stv M.a14 ![0, br, 0, 256 * j] S1x1x128x256.size (inb7b br j hb hj) (rcChunk lhs j r)
    (View.stores_vmem h_S1x1x128x256 (M.h14.storeExact_slice rfl _ (packed _ (by decide) br j hb hj)) (fun _ => rfl)) <|
  ldv M.a20 ![br, 0, 256 * j] S1x128x256.size (inb19 br j hb hj) h_S1x128x256 fun u =>
  ldv M.a16 ![0, br, 0, 256 * j] S1x1x128x256.size (inb7b br j hb hj) h_S1x1x128x256 fun _ =>
  stv M.a16 ![0, br, 0, 256 * j] S1x1x128x256.size (inb7b br j hb hj) (shapeCast S1x1x128x256 (hcChunk ui u) shapeCasts_S128x256_S1x1x128x256)
    (View.stores_vmem h_S1x1x128x256 (M.h16.storeExact_slice rfl _ (packed _ (by decide) br j hb hj)) (fun _ => rfl)) <|
  ldv M.a10 ![0, 256 * j] S64x256.size (inb4 j hj) h_S64x256 fun w =>
  K (headStep acc (hcChunk ui u) w)

/-- The second half of the body, for branch `br`. -/
def branchP (M : Mems) (br : ℕ) (hb : br < 2) (std : FVec F S128x1 .f32) (um : FVec F S128x128 .f32) (K : Pr F) : Pr F :=
  ldv M.a21 ![br, 0, 0] S1x128x128.size (inb21w br hb) h_S1x128x128 fun am =>
  loop 20 (broadcast S128x64 (Scalar.ofBits .f32 0x00000000#32))
    (quantP M br hb (split3 (recips (scales am))) (recip1 (uScale (rowMax um)))) fun acc =>
  ldv M.a11 ![0, 0] S1x64.size inb_S1x64_S1x64_0_0 h_S1x64 fun s =>
  ldv M.a12 ![0, 0] S1x64.size inb_S1x64_S1x64_0_0 h_S1x64 fun b =>
  ldv M.a15 ![0, br, 0, 0] S1x1x40x128.size (inb15 br hb) h_S1x1x40x128 fun _ =>
  stv M.a15 ![0, br, 0, 0] S1x1x40x128.size (inb15 br hb) (scalesT (scales am)) (View.stores_vmem_bits_univ h_S1x1x40x128 rfl) <|
  ldv M.a17 ![0, br, 0, 0] S1x1x64x128.size (inb17 br hb) h_S1x1x64x128 fun _ =>
  stv M.a17 ![0, br, 0, 0] S1x1x64x128.size (inb17 br hb) (outT acc (hScale (rowMax um) (uScale (rowMax um)) std) s b)
    (View.stores_vmem_bits_univ h_S1x1x64x128 rfl) <|
  ldv M.a18 ![0, br, 0] S1x1x128.size (inb18 br hb) h_S1x1x128 fun _ =>
  stv M.a18 ![0, br, 0] S1x1x128.size (inb18 br hb) (hScaleT (hScale (rowMax um) (uScale (rowMax um)) std)) (View.stores_vmem_bits_univ h_S1x1x128 rfl) K

/-- The kernel's body. -/
def bodyP (M : Mems) : Pr F :=
  ldv M.a3 ![0, 0, 0] S1x64x128.size inb_S1x64x128_S1x64x128_0_0_0 h_S1x64x128 fun x =>
  meanP M 0 (by omega) fun mu0 =>
  stdP M 0 (by omega) mu0 fun std0 =>
  meanP M 1 (by omega) fun mu1 =>
  stdP M 1 (by omega) mu1 fun std1 =>
  loop 20 ((zero128, zero128) : FVec F S128x128 .f32 × FVec F S128x128 .f32) (tripP M (pcodes x) mu0 std0 mu1 std1) fun um =>
  branchP M 0 (by omega) std0 um.1 <|
  branchP M 1 (by omega) std1 um.2 <|
  .ret ⟨⟩

end Cert.Kernel.Fold

end
-- ==== Proof.TripleBits.lean ====
/-
  What the kernel's body leaves: every output window as a function of the input windows.
-/
module

public import proofs.«01_k».proof.Proof.FoldBits

@[expose] public section

set_option maxRecDepth 65536

noncomputable section

namespace Cert.Kernel.Fold

open Cert.Kernel Cert.Kernel.Gen Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Steps VecWindow

variable {F : FTy → Type} [BitOps F]

local notation "𝕄" => MT nD τ sig Unit (Elt F) ℕ (UR sig nD τ) ℕ

/-! ## The input windows and what is computed from them -/

/-- The contents of the input windows. -/
structure Ins (F : FTy → Type) where
  x2 : S1.Idx → Elt F .f32
  x3 : S1x64x128.Idx → Elt F .fp8e4m3
  x4 : S64x5120.Idx → Elt F .fp8e4m3
  x5 : S1x5120.Idx → Elt F .f32
  x6 : S1x5120.Idx → Elt F .f32
  x7 : S1x2x128x5120.Idx → Elt F .bf16
  x8 : S1x1x5120.Idx → Elt F .f32
  x9 : S1x1x5120.Idx → Elt F .f32
  x10 : S64x5120.Idx → Elt F .fp8e4m3
  x11 : S1x64.Idx → Elt F .f32
  x12 : S1x64.Idx → Elt F .f32

/-- The sum behind the mean after `n` trips. -/
def meanAcc (x7 : S1x2x128x5120.Idx → Elt F .bf16) (br : ℕ) (hb : br < 2) : (n : ℕ) → n ≤ 40 → FVec F S128x128 .f32
  | 0, _ => zero128
  | n + 1, h => meanStep (meanAcc x7 br hb n (Nat.le_of_succ_le h)) (window x7 ![0, br, 0, 128 * n] S1x1x128x128.size (inb7a br n hb h))

/-- The rows' means, branch `br`. -/
def muX (x7 : S1x2x128x5120.Idx → Elt F .bf16) (br : ℕ) (hb : br < 2) : FVec F S128x1 .f32 := rowMean (meanAcc x7 br hb 40 le_rfl)

/-- The sum behind the variance after `n` trips. -/
def varAcc (x7 : S1x2x128x5120.Idx → Elt F .bf16) (br : ℕ) (hb : br < 2) (mu : FVec F S128x1 .f32) : (n : ℕ) → n ≤ 40 → FVec F S128x128 .f32
  | 0, _ => zero128
  | n + 1, h => varStep mu (varAcc x7 br hb mu n (Nat.le_of_succ_le h)) (window x7 ![0, br, 0, 128 * n] S1x1x128x128.size (inb7a br n hb h))

/-- The rows' standard deviations, branch `br`. -/
def sdX (x7 : S1x2x128x5120.Idx → Elt F .bf16) (br : ℕ) (hb : br < 2) : FVec F S128x1 .f32 :=
  stdOf (rowMean (varAcc x7 br hb (muX x7 br hb) 40 le_rfl))

/-- Chunk `j` of the embedding. -/
def embX (X : Ins F) (j : ℕ) (hj : j < 20) : FVec F S128x256 .f32 :=
  embChunk (pcodes (window X.x3 ![0, 0, 0] S1x64x128.size inb_S1x64x128_S1x64x128_0_0_0)) (window X.x4 ![0, 256 * j] S64x256.size (inb4 j hj))
    (window X.x2 ![0] S1.size inb_S1_S1_0 (Shape.Idx.first (numel1_S1.symm ▸ Nat.one_pos)))
    (window X.x5 ![0, 256 * j] S1x256.size (inb5 j hj)) (window X.x6 ![0, 256 * j] S1x256.size (inb5 j hj))

/-- Chunk `j` of the hidden states, branch `br`. -/
def hidX (X : Ins F) (br j : ℕ) (hb : br < 2) (hj : j < 20) : FVec F S128x256 .f32 :=
  hid256 (window X.x7 ![0, br, 0, 256 * j] S1x1x128x256.size (inb7b br j hb hj))

/-- Chunk `j` of the residuals, branch `br`. -/
def resX (X : Ins F) (br j : ℕ) (hb : br < 2) (hj : j < 20) : FVec F S128x256 .f32 := subf (hidX X br j hb hj) (embX X j hj)

/-- Chunk `j` of the modulated states, branch `br`. -/
def modX (X : Ins F) (br j : ℕ) (hb : br < 2) (hj : j < 20) : FVec F S128x256 .f32 :=
  modChunk (hidX X br j hb hj) (muX X.x7 br hb) (sdX X.x7 br hb) (gain (window X.x9 ![0, 0, 256 * j] S1x1x256.size (inb8 j hj)))
    (window X.x8 ![0, 0, 256 * j] S1x1x256.size (inb8 j hj))

/-- The running maximum after `n` chunks. -/
def umX (X : Ins F) (br : ℕ) (hb : br < 2) : (n : ℕ) → n ≤ 20 → FVec F S128x128 .f32
  | 0, _ => zero128
  | n + 1, h => umaxStep (umX X br hb n (Nat.le_of_succ_le h)) (modX X br n hb h)

/-- The rows' maxima. -/
def umaxX (X : Ins F) (br : ℕ) (hb : br < 2) : FVec F S128x1 .f32 := rowMax (umX X br hb 20 le_rfl)

/-- The codes of chunk `j` of the modulated states. -/
def hcX (X : Ins F) (br j : ℕ) (hb : br < 2) (hj : j < 20) : FVec F S128x256 .fp8e4m3 :=
  hcChunk (recip1 (uScale (umaxX X br hb))) (pack256 (modX X br j hb hj))

/-- The head's product after `n` chunks. -/
def accX (X : Ins F) (br : ℕ) (hb : br < 2) : (n : ℕ) → n ≤ 20 → FVec F S128x64 .f32
  | 0, _ => broadcast S128x64 (Scalar.ofBits .f32 0x00000000#32)
  | n + 1, h => headStep (accX X br hb n (Nat.le_of_succ_le h)) (hcX X br n hb h) (window X.x10 ![0, 256 * n] S64x256.size (inb4 n h))

/-- The head's scales. -/
def hsX (X : Ins F) (br : ℕ) (hb : br < 2) : FVec F S128x1 .f32 := hScale (umaxX X br hb) (uScale (umaxX X br hb)) (sdX X.x7 br hb)

/-! ## Arrays known by their windows -/

/-- The first `n` chunks of both branches of a scratch array are `w`'s. -/
def Has3 {α : Type} (w : (br j : ℕ) → br < 2 → j < 20 → (⟨S2x128x5120.rank, S1x128x256.size⟩ : Shape).Idx → α) (n : ℕ) (R : S2x128x5120.Idx → α) : Prop :=
  ∀ br j hb hj, j < n → window R ![br, 0, 256 * j] S1x128x256.size (inb19 br j hb hj) = w br j hb hj

theorem Has3.step {α : Type} {w : (br j : ℕ) → br < 2 → j < 20 → (⟨S2x128x5120.rank, S1x128x256.size⟩ : Shape).Idx → α} {n : ℕ} {R : S2x128x5120.Idx → α}
    (h : Has3 w n R) (hn : n < 20) :
    Has3 w (n + 1) (put (put R ![0, 0, 256 * n] S1x128x256.size (w 0 n (by omega) hn)) ![1, 0, 256 * n] S1x128x256.size (w 1 n (by omega) hn)) := by
  intro br j hb hj hjn
  by_cases hjn' : j = n
  · subst hjn'
    by_cases h1 : br = 1
    · subst h1; exact window_put_same _ _ _ _ _
    · obtain rfl : br = 0 := by omega
      rw [window_put_of_disjoint _ _ _ _ _ _ _ (0 : Fin 3) (Or.inl (show 0 + 1 ≤ 1 by omega))]
      exact window_put_same _ _ _ _ _
  · have hlt : j < n := by omega
    rw [window_put_of_disjoint _ _ _ _ _ _ _ (2 : Fin 3) (Or.inl (show 256 * j + 256 ≤ 256 * n by omega)),
      window_put_of_disjoint _ _ _ _ _ _ _ (2 : Fin 3) (Or.inl (show 256 * j + 256 ≤ 256 * n by omega))]
    exact h br j hb hj hlt

/-- The first `2 n` columns of both branches of the scratch of group maxima are known. -/
def HasZ {α : Type} (lo hi : (br j : ℕ) → br < 2 → j < 20 → (⟨S2x128x128.rank, S1x128x1.size⟩ : Shape).Idx → α) (n : ℕ) (Z : S2x128x128.Idx → α) : Prop :=
  ∀ br j (hb : br < 2) (hj : j < 20), j < n → window Z ![br, 0, 2 * j] S1x128x1.size (inb21 br (2 * j) hb (by omega)) = lo br j hb hj
    ∧ window Z ![br, 0, 2 * j + 1] S1x128x1.size (inb21 br (2 * j + 1) hb (by omega)) = hi br j hb hj

/-- The two columns of a chunk written, one branch. -/
def putZ {α : Type} (br j : ℕ) (lo hi : (⟨S2x128x128.rank, S1x128x1.size⟩ : Shape).Idx → α) (Z : S2x128x128.Idx → α) : S2x128x128.Idx → α :=
  put (put Z ![br, 0, 2 * j] S1x128x1.size lo) ![br, 0, 2 * j + 1] S1x128x1.size hi

theorem HasZ.step {α : Type} {lo hi : (br j : ℕ) → br < 2 → j < 20 → (⟨S2x128x128.rank, S1x128x1.size⟩ : Shape).Idx → α} {n : ℕ} {Z : S2x128x128.Idx → α}
    (h : HasZ lo hi n Z) (hn : n < 20) :
    HasZ lo hi (n + 1) (putZ 1 n (lo 1 n (by omega) hn) (hi 1 n (by omega) hn) (putZ 0 n (lo 0 n (by omega) hn) (hi 0 n (by omega) hn) Z)) := by
  intro br j hb hj hjn
  unfold putZ
  by_cases hjn' : j = n
  · subst hjn'
    by_cases h1 : br = 1
    · subst h1
      refine ⟨?_, window_put_same _ _ _ _ _⟩
      rw [window_put_of_disjoint _ _ _ _ _ _ _ (2 : Fin 3) (Or.inl (show 2 * j + 1 ≤ 2 * j + 1 by omega))]
      exact window_put_same _ _ _ _ _
    · obtain rfl : br = 0 := by omega
      constructor
      · rw [window_put_of_disjoint _ _ _ _ _ _ _ (0 : Fin 3) (Or.inl (show 0 + 1 ≤ 1 by omega)),
          window_put_of_disjoint _ _ _ _ _ _ _ (0 : Fin 3) (Or.inl (show 0 + 1 ≤ 1 by omega)),
          window_put_of_disjoint _ _ _ _ _ _ _ (2 : Fin 3) (Or.inl (show 2 * j + 1 ≤ 2 * j + 1 by omega))]
        exact window_put_same _ _ _ _ _
      · rw [window_put_of_disjoint _ _ _ _ _ _ _ (0 : Fin 3) (Or.inl (show 0 + 1 ≤ 1 by omega)),
          window_put_of_disjoint _ _ _ _ _ _ _ (0 : Fin 3) (Or.inl (show 0 + 1 ≤ 1 by omega))]
        exact window_put_same _ _ _ _ _
  · have hlt : j < n := by omega
    constructor
    · rw [window_put_of_disjoint _ _ _ _ _ _ _ (2 : Fin 3) (Or.inl (show 2 * j + 1 ≤ 2 * n + 1 by omega)),
        window_put_of_disjoint _ _ _ _ _ _ _ (2 : Fin 3) (Or.inl (show 2 * j + 1 ≤ 2 * n by omega)),
        window_put_of_disjoint _ _ _ _ _ _ _ (2 : Fin 3) (Or.inl (show 2 * j + 1 ≤ 2 * n + 1 by omega)),
        window_put_of_disjoint _ _ _ _ _ _ _ (2 : Fin 3) (Or.inl (show 2 * j + 1 ≤ 2 * n by omega))]
      exact (h br j hb hj hlt).1
    · rw [window_put_of_disjoint _ _ _ _ _ _ _ (2 : Fin 3) (Or.inl (show 2 * j + 1 + 1 ≤ 2 * n + 1 by omega)),
        window_put_of_disjoint _ _ _ _ _ _ _ (2 : Fin 3) (Or.inl (show 2 * j + 1 + 1 ≤ 2 * n by omega)),
        window_put_of_disjoint _ _ _ _ _ _ _ (2 : Fin 3) (Or.inl (show 2 * j + 1 + 1 ≤ 2 * n + 1 by omega)),
        window_put_of_disjoint _ _ _ _ _ _ _ (2 : Fin 3) (Or.inl (show 2 * j + 1 + 1 ≤ 2 * n by omega))]
      exact (h br j hb hj hlt).2

/-- The part of the embedding that is stored, after chunk `j`. -/
def embSt (Y : S1x128x640.Idx → Elt F .f32) (j : ℕ) (e : FVec F S128x256 .f32) : S1x128x640.Idx → Elt F .f32 :=
  if j < 2 then put Y ![0, 0, 256 * j] S1x128x256.size (pack256 e)
  else if j = 2 then put Y ![0, 0, 512] S1x128x128.size (shapeCast S1x128x128 (lo128 e) shapeCasts_S128x128_S1x128x128)
  else Y

/-- The stored part of the embedding after `n` chunks. -/
def HasE (X : Ins F) (n : ℕ) (Y : S1x128x640.Idx → Elt F .f32) : Prop :=
  (∀ j (hj : j < 2), j < n → window Y ![0, 0, 256 * j] S1x128x256.size (inb13 j hj) = pack256 (embX X j (by omega)))
  ∧ (2 < n → window Y ![0, 0, 512] S1x128x128.size inb_S1x128x640_S1x128x128_0_0_512
      = shapeCast S1x128x128 (lo128 (embX X 2 (by omega))) shapeCasts_S128x128_S1x128x128)

theorem HasE.step {X : Ins F} {n : ℕ} {Y : S1x128x640.Idx → Elt F .f32} (h : HasE X n Y) (hn : n < 20) :
    HasE X (n + 1) (embSt Y n (embX X n hn)) := by
  unfold embSt
  split
  · rename_i h2
    refine ⟨fun j hj hjn => ?_, fun hc => absurd hc (by omega)⟩
    by_cases hjn' : j = n
    · subst hjn'; exact window_put_same _ _ _ _ _
    · rw [window_put_of_disjoint _ _ _ _ _ _ _ (2 : Fin 3) (Or.inl (show 256 * j + 256 ≤ 256 * n by omega))]
      exact h.1 j hj (by omega)
  · split
    · rename_i h2 h3
      subst h3
      refine ⟨fun j hj hjn => ?_, fun hc => window_put_same _ _ _ _ _⟩
      rw [window_put_of_disjoint _ _ _ _ _ _ _ (2 : Fin 3) (Or.inl (show 256 * j + 256 ≤ 512 by omega))]
      exact h.1 j hj (by omega)
    · exact ⟨fun j hj hjn => h.1 j hj (by omega), fun hc => h.2 (by omega)⟩

/-- The first `n` chunks of branch `br` are `w`'s; the other branch is `C₀`'s. -/
def Has4 {α : Type} (br : ℕ) (hb : br < 2) (w : (j : ℕ) → j < 20 → (⟨S1x2x128x5120.rank, S1x1x128x256.size⟩ : Shape).Idx → α)
    (C₀ : S1x2x128x5120.Idx → α) (n : ℕ) (C : S1x2x128x5120.Idx → α) : Prop :=
  (∀ j hj, j < n → window C ![0, br, 0, 256 * j] S1x1x128x256.size (inb7b br j hb hj) = w j hj)
  ∧ ∀ br' hb' j hj, br' ≠ br → window C ![0, br', 0, 256 * j] S1x1x128x256.size (inb7b br' j hb' hj)
      = window C₀ ![0, br', 0, 256 * j] S1x1x128x256.size (inb7b br' j hb' hj)

theorem Has4.zero {α : Type} (br : ℕ) (hb : br < 2) (w : (j : ℕ) → j < 20 → (⟨S1x2x128x5120.rank, S1x1x128x256.size⟩ : Shape).Idx → α)
    (C₀ : S1x2x128x5120.Idx → α) : Has4 br hb w C₀ 0 C₀ := ⟨fun _ _ h => absurd h (Nat.not_lt_zero _), fun _ _ _ _ _ => rfl⟩

theorem Has4.step {α : Type} {br : ℕ} {hb : br < 2} {w : (j : ℕ) → j < 20 → (⟨S1x2x128x5120.rank, S1x1x128x256.size⟩ : Shape).Idx → α}
    {C₀ C : S1x2x128x5120.Idx → α} {n : ℕ} (h : Has4 br hb w C₀ n C) (hn : n < 20) :
    Has4 br hb w C₀ (n + 1) (put C ![0, br, 0, 256 * n] S1x1x128x256.size (w n hn)) := by
  refine ⟨fun j hj hjn => ?_, fun br' hb' j hj hne => ?_⟩
  · by_cases hjn' : j = n
    · subst hjn'; exact window_put_same _ _ _ _ _
    · rw [window_put_of_disjoint _ _ _ _ _ _ _ (3 : Fin 4) (Or.inl (show 256 * j + 256 ≤ 256 * n by omega))]
      exact h.1 j hj (by omega)
  · rw [window_put_of_disjoint _ _ _ _ _ _ _ (1 : Fin 4) (show br' + 1 ≤ br ∨ br + 1 ≤ br' by omega)]
    exact h.2 br' hb' j hj hne

/-! ## What each part of the program leaves -/

variable {defs : Defs nD τ sig (Elt F) Λ₀} (𝒱 : Variants) (c : Dev nD) (bd : Option 𝒱.V) (E : Set ℕ)

variable {Q : PUnit → sProp (MT nD τ sig Unit (Elt F) ℕ (UR sig nD τ) ℕ)}

/-- The mean's loop reads the hidden states and continues at the mean. -/
theorem wp_meanP (M : Mems) (x7 : S1x2x128x5120.Idx → Elt F .bf16) (br : ℕ) (hb : br < 2) (K : FVec F S128x1 .f32 → Pr F) :
    (owns (c.tc : Thread nD τ) M.a7 fullShare x7 : sProp 𝕄)
      ⊢ iprop((owns (c.tc : Thread nD τ) M.a7 fullShare x7 -∗ wp frame (wpE defs 𝒱 (c.tc : Thread nD τ) bd) E (K (muX x7 br hb)) Q)
        -∗ wp frame (wpE defs 𝒱 (c.tc : Thread nD τ) bd) E (meanP M br hb K) Q) := by
  unfold meanP
  have hL := wp_loop 𝒱 c bd E (defs := defs) (Q := Q) (n := 40) (a := (zero128 : FVec F S128x128 .f32))
    (body := fun c hc s k => ldv M.a7 ![0, br, 0, 128 * c] S1x1x128x128.size (inb7a br c hb hc) h_S1x1x128x128 fun x => k (meanStep s x))
    (K := fun s => K (rowMean s))
    (fun i a => iprop(⌜∃ h : i ≤ 40, a = meanAcc x7 br hb i h⌝ ∗ owns (c.tc : Thread nD τ) M.a7 fullShare x7)) (by
      intro i hi a k
      iintro ⟨%ha, H⟩ HK
      obtain ⟨h, rfl⟩ := ha
      have hl := wp_ldv 𝒱 c bd E (defs := defs) (Q := Q) (m := M.a7) (off := ![0, br, 0, 128 * i]) (size := S1x1x128x128.size)
        (inb := inb7a br i hb hi) (h := h_S1x1x128x128) (k := fun x => k (meanStep (meanAcc x7 br hb i h) x)) (q := fullShare) (X := x7)
      iapply hl $$ H
      iintro H
      iapply HK
      isplitr
      · ipureintro; exact ⟨hi, rfl⟩
      · iexact H)
  iintro H HK
  iapply hL $$ [H]
  · isplitr
    · ipureintro; exact ⟨Nat.zero_le _, rfl⟩
    · iexact H
  iintro %r ⟨%hr, H⟩
  obtain ⟨-, rfl⟩ := hr
  iapply HK
  iexact H

/-- The standard deviation's loop reads the hidden states and continues at the standard deviation. -/
theorem wp_stdP (M : Mems) (x7 : S1x2x128x5120.Idx → Elt F .bf16) (br : ℕ) (hb : br < 2) (K : FVec F S128x1 .f32 → Pr F) :
    (owns (c.tc : Thread nD τ) M.a7 fullShare x7 : sProp 𝕄)
      ⊢ iprop((owns (c.tc : Thread nD τ) M.a7 fullShare x7 -∗ wp frame (wpE defs 𝒱 (c.tc : Thread nD τ) bd) E (K (sdX x7 br hb)) Q)
        -∗ wp frame (wpE defs 𝒱 (c.tc : Thread nD τ) bd) E (stdP M br hb (muX x7 br hb) K) Q) := by
  unfold stdP
  have hL := wp_loop 𝒱 c bd E (defs := defs) (Q := Q) (n := 40) (a := (zero128 : FVec F S128x128 .f32))
    (body := fun c hc s k => ldv M.a7 ![0, br, 0, 128 * c] S1x1x128x128.size (inb7a br c hb hc) h_S1x1x128x128 fun x =>
      k (varStep (muX x7 br hb) s x))
    (K := fun s => K (stdOf (rowMean s)))
    (fun i a => iprop(⌜∃ h : i ≤ 40, a = varAcc x7 br hb (muX x7 br hb) i h⌝ ∗ owns (c.tc : Thread nD τ) M.a7 fullShare x7)) (by
      intro i hi a k
      iintro ⟨%ha, H⟩ HK
      obtain ⟨h, rfl⟩ := ha
      iapply (wp_ldv 𝒱 c bd E) $$ H
      iintro H
      iapply HK
      isplitr
      · ipureintro; exact ⟨hi, rfl⟩
      · iexact H)
  iintro H HK
  iapply hL $$ [H]
  · isplitr
    · ipureintro; exact ⟨Nat.zero_le _, rfl⟩
    · iexact H
  iintro %r ⟨%hr, H⟩
  obtain ⟨-, rfl⟩ := hr
  iapply HK
  iexact H

/-- A chunk of the embedding is read and computed. -/
theorem wp_embP (M : Mems) (X : Ins F) (j : ℕ) (hj : j < 20) (K : FVec F S128x256 .f32 → Pr F) :
    (iprop(owns (c.tc : Thread nD τ) M.a4 fullShare X.x4 ∗ owns (c.tc : Thread nD τ) M.a2 fullShare X.x2
        ∗ owns (c.tc : Thread nD τ) M.a5 fullShare X.x5 ∗ owns (c.tc : Thread nD τ) M.a6 fullShare X.x6) : sProp 𝕄)
      ⊢ iprop(((owns (c.tc : Thread nD τ) M.a4 fullShare X.x4 ∗ owns (c.tc : Thread nD τ) M.a2 fullShare X.x2
          ∗ owns (c.tc : Thread nD τ) M.a5 fullShare X.x5 ∗ owns (c.tc : Thread nD τ) M.a6 fullShare X.x6)
          -∗ wp frame (wpE defs 𝒱 (c.tc : Thread nD τ) bd) E (K (embX X j hj)) Q)
        -∗ wp frame (wpE defs 𝒱 (c.tc : Thread nD τ) bd) E
          (embP M j hj (pcodes (window X.x3 ![0, 0, 0] S1x64x128.size inb_S1x64x128_S1x64x128_0_0_0)) K) Q) := by
  unfold embP embX
  iintro ⟨H4, H2, H5, H6⟩ HK
  iapply (wp_ldv 𝒱 c bd E) $$ H4
  iintro H4
  iapply (wp_smem 𝒱 c bd E) $$ H2
  iintro H2
  iapply (wp_ldv 𝒱 c bd E) $$ H5
  iintro H5
  iapply (wp_ldv 𝒱 c bd E) $$ H6
  iintro H6
  iapply HK
  isplitl [H4]; · iexact H4
  isplitl [H2]; · iexact H2
  isplitl [H5]; · iexact H5
  iexact H6

/-- The embedding's stored part. -/
theorem wp_embStP (M : Mems) (Y : S1x128x640.Idx → Elt F .f32) (j : ℕ) (e : FVec F S128x256 .f32) (K : Pr F) :
    (owns (c.tc : Thread nD τ) M.a13 fullShare Y : sProp 𝕄)
      ⊢ iprop((owns (c.tc : Thread nD τ) M.a13 fullShare (embSt Y j e) -∗ wp frame (wpE defs 𝒱 (c.tc : Thread nD τ) bd) E K Q)
        -∗ wp frame (wpE defs 𝒱 (c.tc : Thread nD τ) bd) E (embStP M j e K) Q) := by
  unfold embStP embSt
  split
  · rename_i h2
    iintro H HK
    iapply (wp_ldv 𝒱 c bd E) $$ H
    iintro H
    iapply (wp_stv 𝒱 c bd E) $$ H
    iexact HK
  · split
    · iintro H HK
      iapply (wp_ldv 𝒱 c bd E) $$ H
      iintro H
      iapply (wp_stv 𝒱 c bd E) $$ H
      iexact HK
    · iintro H HK
      iapply HK
      iexact H

/-- One branch's part of a trip: the residuals, their group maxima and the modulated states are stored. -/
theorem wp_chunkP (M : Mems) (x7 : S1x2x128x5120.Idx → Elt F .bf16) (x8 : S1x1x5120.Idx → Elt F .f32)
    (R U : S2x128x5120.Idx → Elt F .f32) (Z : S2x128x128.Idx → Elt F .f32)
    (br : ℕ) (hb : br < 2) (j : ℕ) (hj : j < 20) (e : FVec F S128x256 .f32) (g : FVec F S1x256 .f32)
    (mu std : FVec F S128x1 .f32) (um : FVec F S128x128 .f32) (K : FVec F S128x128 .f32 → Pr F) :
    (iprop(owns (c.tc : Thread nD τ) M.a7 fullShare x7 ∗ owns (c.tc : Thread nD τ) M.a8 fullShare x8
        ∗ owns (c.tc : Thread nD τ) M.a19 fullShare R ∗ owns (c.tc : Thread nD τ) M.a20 fullShare U
        ∗ owns (c.tc : Thread nD τ) M.a21 fullShare Z) : sProp 𝕄)
      ⊢ iprop(((owns (c.tc : Thread nD τ) M.a7 fullShare x7 ∗ owns (c.tc : Thread nD τ) M.a8 fullShare x8
          ∗ owns (c.tc : Thread nD τ) M.a19 fullShare (put R ![br, 0, 256 * j] S1x128x256.size
              (pack256 (subf (hid256 (window x7 ![0, br, 0, 256 * j] S1x1x128x256.size (inb7b br j hb hj))) e)))
          ∗ owns (c.tc : Thread nD τ) M.a20 fullShare (put U ![br, 0, 256 * j] S1x128x256.size
              (pack256 (modChunk (hid256 (window x7 ![0, br, 0, 256 * j] S1x1x128x256.size (inb7b br j hb hj))) mu std g
                (window x8 ![0, 0, 256 * j] S1x1x256.size (inb8 j hj)))))
          ∗ owns (c.tc : Thread nD τ) M.a21 fullShare (putZ br j
              (amLo (subf (hid256 (window x7 ![0, br, 0, 256 * j] S1x1x128x256.size (inb7b br j hb hj))) e))
              (amHi (subf (hid256 (window x7 ![0, br, 0, 256 * j] S1x1x128x256.size (inb7b br j hb hj))) e)) Z))
          -∗ wp frame (wpE defs 𝒱 (c.tc : Thread nD τ) bd) E
            (K (umaxStep um (modChunk (hid256 (window x7 ![0, br, 0, 256 * j] S1x1x128x256.size (inb7b br j hb hj))) mu std g
                (window x8 ![0, 0, 256 * j] S1x1x256.size (inb8 j hj))))) Q)
        -∗ wp frame (wpE defs 𝒱 (c.tc : Thread nD τ) bd) E (chunkP M br hb j hj e g mu std um K) Q) := by
  unfold chunkP putZ
  iintro ⟨H7, H8, H19, H20, H21⟩ HK
  iapply (wp_ldv 𝒱 c bd E) $$ H7
  iintro H7
  iapply (wp_ldv 𝒱 c bd E) $$ H19
  iintro H19
  iapply (wp_stv 𝒱 c bd E) $$ H19
  iintro H19
  iapply (wp_ldv 𝒱 c bd E) $$ H21
  iintro H21
  iapply (wp_stv 𝒱 c bd E) $$ H21
  iintro H21
  iapply (wp_ldv 𝒱 c bd E) $$ H21
  iintro H21
  iapply (wp_stv 𝒱 c bd E) $$ H21
  iintro H21
  iapply (wp_ldv 𝒱 c bd E) $$ H8
  iintro H8
  iapply (wp_ldv 𝒱 c bd E) $$ H20
  iintro H20
  iapply (wp_stv 𝒱 c bd E) $$ H20
  iintro H20
  iapply HK
  isplitl [H7]; · iexact H7
  isplitl [H8]; · iexact H8
  isplitl [H19]; · iexact H19
  isplitl [H20]; · iexact H20
  iexact H21

/-- What the first loop over chunks works on, after `n` trips. -/
def tripInv (M : Mems) (X : Ins F) (n : ℕ) (um : FVec F S128x128 .f32 × FVec F S128x128 .f32) : sProp (MT nD τ sig Unit (Elt F) ℕ (UR sig nD τ) ℕ) :=
  iprop(⌜∃ h : n ≤ 20, um = (umX X 0 (by omega) n h, umX X 1 (by omega) n h)⌝
    ∗ owns (c.tc : Thread nD τ) M.a2 fullShare X.x2 ∗ owns (c.tc : Thread nD τ) M.a4 fullShare X.x4
    ∗ owns (c.tc : Thread nD τ) M.a5 fullShare X.x5 ∗ owns (c.tc : Thread nD τ) M.a6 fullShare X.x6
    ∗ owns (c.tc : Thread nD τ) M.a7 fullShare X.x7 ∗ owns (c.tc : Thread nD τ) M.a8 fullShare X.x8
    ∗ owns (c.tc : Thread nD τ) M.a9 fullShare X.x9
    ∗ (∃ Y, ⌜HasE X n Y⌝ ∗ owns (c.tc : Thread nD τ) M.a13 fullShare Y)
    ∗ (∃ R, ⌜Has3 (fun br j hb hj => pack256 (resX X br j hb hj)) n R⌝ ∗ owns (c.tc : Thread nD τ) M.a19 fullShare R)
    ∗ (∃ U, ⌜Has3 (fun br j hb hj => pack256 (modX X br j hb hj)) n U⌝ ∗ owns (c.tc : Thread nD τ) M.a20 fullShare U)
    ∗ (∃ Z, ⌜HasZ (fun br j hb hj => amLo (resX X br j hb hj)) (fun br j hb hj => amHi (resX X br j hb hj)) n Z⌝
        ∗ owns (c.tc : Thread nD τ) M.a21 fullShare Z))

/-- One trip of the first loop over chunks. -/
theorem wp_tripP (M : Mems) (X : Ins F) (i : ℕ) (hi : i < 20) (a : FVec F S128x128 .f32 × FVec F S128x128 .f32)
    (k : FVec F S128x128 .f32 × FVec F S128x128 .f32 → Pr F) :
    tripInv c M X i a
      ⊢ iprop((∀ a', tripInv c M X (i + 1) a' -∗ wp frame (wpE defs 𝒱 (c.tc : Thread nD τ) bd) E (k a') Q)
        -∗ wp frame (wpE defs 𝒱 (c.tc : Thread nD τ) bd) E
          (tripP M (pcodes (window X.x3 ![0, 0, 0] S1x64x128.size inb_S1x64x128_S1x64x128_0_0_0))
            (muX X.x7 0 (by omega)) (sdX X.x7 0 (by omega)) (muX X.x7 1 (by omega)) (sdX X.x7 1 (by omega)) i hi a k) Q) := by
  unfold tripInv tripP
  iintro ⟨%ha, H2, H4, H5, H6, H7, H8, H9, ⟨%Y, %hY, H13⟩, ⟨%R, %hR, H19⟩, ⟨%U, %hU, H20⟩, ⟨%Z, %hZ, H21⟩⟩ HK
  obtain ⟨h, rfl⟩ := ha
  iapply (wp_embP 𝒱 c bd E M X i hi) $$ [H4 H2 H5 H6]
  · isplitl [H4]; · iexact H4
    isplitl [H2]; · iexact H2
    isplitl [H5]; · iexact H5
    iexact H6
  iintro ⟨H4, H2, H5, H6⟩
  iapply (wp_embStP 𝒱 c bd E M Y i) $$ H13
  iintro H13
  iapply (wp_ldv 𝒱 c bd E) $$ H9
  iintro H9
  iapply (wp_chunkP 𝒱 c bd E M X.x7 X.x8 R U Z) $$ [H7 H8 H19 H20 H21]
  · isplitl [H7]; · iexact H7
    isplitl [H8]; · iexact H8
    isplitl [H19]; · iexact H19
    isplitl [H20]; · iexact H20
    iexact H21
  iintro ⟨H7, H8, H19, H20, H21⟩
  iapply (wp_chunkP 𝒱 c bd E M X.x7 X.x8) $$ [H7 H8 H19 H20 H21]
  · isplitl [H7]; · iexact H7
    isplitl [H8]; · iexact H8
    isplitl [H19]; · iexact H19
    isplitl [H20]; · iexact H20
    iexact H21
  iintro ⟨H7, H8, H19, H20, H21⟩
  iapply HK
  isplitr
  · ipureintro; exact ⟨hi, rfl⟩
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H13]
  · iexists _
    isplitr [H13]
    rotate_left
    · iexact H13
    · ipureintro; exact hY.step hi
  isplitl [H19]
  · iexists _
    isplitr [H19]
    rotate_left
    · iexact H19
    · ipureintro; exact hR.step hi
  isplitl [H20]
  · iexists _
    isplitr [H20]
    rotate_left
    · iexact H20
    · ipureintro; exact hU.step hi
  · iexists _
    isplitr [H21]
    rotate_left
    · iexact H21
    · ipureintro; exact hZ.step hi

/-- One trip of the second loop over chunks: the residuals' codes and the modulated states' codes are stored. -/
theorem wp_quantP (M : Mems) (x10 : S64x5120.Idx → Elt F .fp8e4m3) (R U : S2x128x5120.Idx → Elt F .f32)
    (C : S1x2x128x5120.Idx → Elt F .i8) (H : S1x2x128x5120.Idx → Elt F .fp8e4m3)
    (br : ℕ) (hb : br < 2) (lhs : FVec F S128x128 .bf16) (ui : FVec F S128x1 .f32) (j : ℕ) (hj : j < 20) (acc : FVec F S128x64 .f32)
    (K : FVec F S128x64 .f32 → Pr F) :
    (iprop(owns (c.tc : Thread nD τ) M.a10 fullShare x10 ∗ owns (c.tc : Thread nD τ) M.a19 fullShare R
        ∗ owns (c.tc : Thread nD τ) M.a20 fullShare U ∗ owns (c.tc : Thread nD τ) M.a14 fullShare C
        ∗ owns (c.tc : Thread nD τ) M.a16 fullShare H) : sProp 𝕄)
      ⊢ iprop(((owns (c.tc : Thread nD τ) M.a10 fullShare x10 ∗ owns (c.tc : Thread nD τ) M.a19 fullShare R
          ∗ owns (c.tc : Thread nD τ) M.a20 fullShare U
          ∗ owns (c.tc : Thread nD τ) M.a14 fullShare (put C ![0, br, 0, 256 * j] S1x1x128x256.size
              (rcChunk lhs j (window R ![br, 0, 256 * j] S1x128x256.size (inb19 br j hb hj))))
          ∗ owns (c.tc : Thread nD τ) M.a16 fullShare (put H ![0, br, 0, 256 * j] S1x1x128x256.size
              (shapeCast S1x1x128x256 (hcChunk ui (window U ![br, 0, 256 * j] S1x128x256.size (inb19 br j hb hj))) shapeCasts_S128x256_S1x1x128x256)))
          -∗ wp frame (wpE defs 𝒱 (c.tc : Thread nD τ) bd) E
            (K (headStep acc (hcChunk ui (window U ![br, 0, 256 * j] S1x128x256.size (inb19 br j hb hj)))
              (window x10 ![0, 256 * j] S64x256.size (inb4 j hj)))) Q)
        -∗ wp frame (wpE defs 𝒱 (c.tc : Thread nD τ) bd) E (quantP M br hb lhs ui j hj acc K) Q) := by
  unfold quantP
  iintro ⟨H10, H19, H20, H14, H16⟩ HK
  iapply (wp_ldv 𝒱 c bd E) $$ H19
  iintro H19
  iapply (wp_ldv 𝒱 c bd E) $$ H14
  iintro H14
  iapply (wp_stv 𝒱 c bd E) $$ H14
  iintro H14
  iapply (wp_ldv 𝒱 c bd E) $$ H20
  iintro H20
  iapply (wp_ldv 𝒱 c bd E) $$ H16
  iintro H16
  iapply (wp_stv 𝒱 c bd E) $$ H16
  iintro H16
  iapply (wp_ldv 𝒱 c bd E) $$ H10
  iintro H10
  iapply HK
  isplitl [H10]; · iexact H10
  isplitl [H19]; · iexact H19
  isplitl [H20]; · iexact H20
  isplitl [H14]; · iexact H14
  iexact H16

/-- The codes of chunk `j` of the residuals of a branch, of the branch's group maxima `am`. -/
def rcX (X : Ins F) (am : Vec F S1x128x128 .f32) (br : ℕ) (hb : br < 2) (j : ℕ) (hj : j < 20) : (⟨S1x2x128x5120.rank, S1x1x128x256.size⟩ : Shape).Idx → Elt F .i8 :=
  rcChunk (split3 (recips (scales am))) j (pack256 (resX X br j hb hj))

/-- The codes of chunk `j` of the modulated states of a branch, as they are stored. -/
def hcP (X : Ins F) (br : ℕ) (hb : br < 2) (j : ℕ) (hj : j < 20) : (⟨S1x2x128x5120.rank, S1x1x128x256.size⟩ : Shape).Idx → Elt F .fp8e4m3 :=
  shapeCast S1x1x128x256 (hcX X br j hb hj) shapeCasts_S128x256_S1x1x128x256

/-- The second half of the body for one branch, of scratch arrays known by their windows. -/
theorem wp_branchP (M : Mems) (X : Ins F) (R U : S2x128x5120.Idx → Elt F .f32) (Z : S2x128x128.Idx → Elt F .f32)
    (hR : Has3 (fun br j hb hj => pack256 (resX X br j hb hj)) 20 R) (hU : Has3 (fun br j hb hj => pack256 (modX X br j hb hj)) 20 U)
    (C : S1x2x128x5120.Idx → Elt F .i8) (H : S1x2x128x5120.Idx → Elt F .fp8e4m3) (A : S1x2x40x128.Idx → Elt F .f32)
    (O : S1x2x64x128.Idx → Elt F .f32) (S : S1x2x128.Idx → Elt F .f32) (br : ℕ) (hb : br < 2) (K : Pr F) :
    (iprop(owns (c.tc : Thread nD τ) M.a10 fullShare X.x10 ∗ owns (c.tc : Thread nD τ) M.a11 fullShare X.x11
        ∗ owns (c.tc : Thread nD τ) M.a12 fullShare X.x12 ∗ owns (c.tc : Thread nD τ) M.a19 fullShare R
        ∗ owns (c.tc : Thread nD τ) M.a20 fullShare U ∗ owns (c.tc : Thread nD τ) M.a21 fullShare Z
        ∗ owns (c.tc : Thread nD τ) M.a14 fullShare C ∗ owns (c.tc : Thread nD τ) M.a16 fullShare H
        ∗ owns (c.tc : Thread nD τ) M.a15 fullShare A ∗ owns (c.tc : Thread nD τ) M.a17 fullShare O
        ∗ owns (c.tc : Thread nD τ) M.a18 fullShare S) : sProp 𝕄)
      ⊢ iprop(((owns (c.tc : Thread nD τ) M.a10 fullShare X.x10 ∗ owns (c.tc : Thread nD τ) M.a11 fullShare X.x11
          ∗ owns (c.tc : Thread nD τ) M.a12 fullShare X.x12 ∗ owns (c.tc : Thread nD τ) M.a19 fullShare R
          ∗ owns (c.tc : Thread nD τ) M.a20 fullShare U ∗ owns (c.tc : Thread nD τ) M.a21 fullShare Z
          ∗ (∃ C', ⌜Has4 br hb (rcX X (window Z ![br, 0, 0] S1x128x128.size (inb21w br hb)) br hb) C 20 C'⌝ ∗ owns (c.tc : Thread nD τ) M.a14 fullShare C')
          ∗ (∃ H', ⌜Has4 br hb (hcP X br hb) H 20 H'⌝ ∗ owns (c.tc : Thread nD τ) M.a16 fullShare H')
          ∗ owns (c.tc : Thread nD τ) M.a15 fullShare (put A ![0, br, 0, 0] S1x1x40x128.size
              (scalesT (scales (window Z ![br, 0, 0] S1x128x128.size (inb21w br hb)))))
          ∗ owns (c.tc : Thread nD τ) M.a17 fullShare (put O ![0, br, 0, 0] S1x1x64x128.size
              (outT (accX X br hb 20 le_rfl) (hsX X br hb) (window X.x11 ![0, 0] S1x64.size inb_S1x64_S1x64_0_0)
                (window X.x12 ![0, 0] S1x64.size inb_S1x64_S1x64_0_0)))
          ∗ owns (c.tc : Thread nD τ) M.a18 fullShare (put S ![0, br, 0] S1x1x128.size (hScaleT (hsX X br hb))))
          -∗ wp frame (wpE defs 𝒱 (c.tc : Thread nD τ) bd) E K Q)
        -∗ wp frame (wpE defs 𝒱 (c.tc : Thread nD τ) bd) E (branchP M br hb (sdX X.x7 br hb) (umX X br hb 20 le_rfl) K) Q) := by
  unfold branchP
  iintro ⟨H10, H11, H12, H19, H20, H21, H14, H16, H15, H17, H18⟩ HK
  iapply (wp_ldv 𝒱 c bd E) $$ H21
  iintro H21
  have hL := fun KK => wp_loop 𝒱 c bd E (defs := defs) (Q := Q) (n := 20) (a := (broadcast S128x64 (Scalar.ofBits .f32 0x00000000#32) : FVec F S128x64 .f32))
    (body := quantP M br hb (split3 (recips (scales (window Z ![br, 0, 0] S1x128x128.size (inb21w br hb)))))
      (recip1 (uScale (rowMax (umX X br hb 20 le_rfl)))))
    (K := KK)
    (fun i a => iprop(⌜∃ h : i ≤ 20, a = accX X br hb i h⌝ ∗ owns (c.tc : Thread nD τ) M.a10 fullShare X.x10
      ∗ owns (c.tc : Thread nD τ) M.a19 fullShare R ∗ owns (c.tc : Thread nD τ) M.a20 fullShare U
      ∗ (∃ C', ⌜Has4 br hb (rcX X (window Z ![br, 0, 0] S1x128x128.size (inb21w br hb)) br hb) C i C'⌝ ∗ owns (c.tc : Thread nD τ) M.a14 fullShare C')
      ∗ (∃ H', ⌜Has4 br hb (hcP X br hb) H i H'⌝ ∗ owns (c.tc : Thread nD τ) M.a16 fullShare H'))) (by
      intro i hi a k
      iintro ⟨%ha, H10, H19, H20, ⟨%C', %hC, H14⟩, ⟨%H', %hH, H16⟩⟩ HK
      obtain ⟨h, rfl⟩ := ha
      iapply (wp_quantP 𝒱 c bd E M X.x10 R U C' H' br hb) $$ [H10 H19 H20 H14 H16]
      · isplitl [H10]; · iexact H10
        isplitl [H19]; · iexact H19
        isplitl [H20]; · iexact H20
        isplitl [H14]; · iexact H14
        iexact H16
      rw [hR br i hb hi hi, hU br i hb hi hi]
      iintro ⟨H10, H19, H20, H14, H16⟩
      iapply HK
      isplitr
      · ipureintro; exact ⟨hi, rfl⟩
      isplitl [H10]; · iexact H10
      isplitl [H19]; · iexact H19
      isplitl [H20]; · iexact H20
      isplitl [H14]
      · iexists _
        isplitr [H14]
        rotate_left
        · iexact H14
        · ipureintro; exact hC.step hi
      · iexists _
        isplitr [H16]
        rotate_left
        · iexact H16
        · ipureintro; exact hH.step hi)
  iapply (hL _) $$ [H10 H19 H20 H14 H16]
  · isplitr
    · ipureintro; exact ⟨Nat.zero_le _, rfl⟩
    isplitl [H10]; · iexact H10
    isplitl [H19]; · iexact H19
    isplitl [H20]; · iexact H20
    isplitl [H14]
    · iexists C
      isplitr
      · ipureintro; exact Has4.zero _ _ _ _
      · iexact H14
    · iexists H
      isplitr
      · ipureintro; exact Has4.zero _ _ _ _
      · iexact H16
  iintro %r ⟨%hr, H10, H19, H20, H14, H16⟩
  obtain ⟨-, rfl⟩ := hr
  iapply (wp_ldv 𝒱 c bd E) $$ H11
  iintro H11
  iapply (wp_ldv 𝒱 c bd E) $$ H12
  iintro H12
  iapply (wp_ldv 𝒱 c bd E) $$ H15
  iintro H15
  iapply (wp_stv 𝒱 c bd E) $$ H15
  iintro H15
  iapply (wp_ldv 𝒱 c bd E) $$ H17
  iintro H17
  iapply (wp_stv 𝒱 c bd E) $$ H17
  iintro H17
  iapply (wp_ldv 𝒱 c bd E) $$ H18
  iintro H18
  iapply (wp_stv 𝒱 c bd E) $$ H18
  iintro H18
  iapply HK
  isplitl [H10]; · iexact H10
  isplitl [H11]; · iexact H11
  isplitl [H12]; · iexact H12
  isplitl [H19]; · iexact H19
  isplitl [H20]; · iexact H20
  isplitl [H21]; · iexact H21
  isplitl [H14]; · iexact H14
  isplitl [H16]; · iexact H16
  isplitl [H15]; · iexact H15
  isplitl [H17]; · iexact H17
  iexact H18

/-! ## What the body leaves in the output windows -/

/-- Every output window as a function of the input windows. -/
structure Post (X : Ins F) (Y : S1x128x640.Idx → Elt F .f32) (C : S1x2x128x5120.Idx → Elt F .i8) (A : S1x2x40x128.Idx → Elt F .f32)
    (H : S1x2x128x5120.Idx → Elt F .fp8e4m3) (O : S1x2x64x128.Idx → Elt F .f32) (S : S1x2x128.Idx → Elt F .f32) : Prop where
  emb : HasE X 20 Y
  res : ∃ Z, HasZ (fun br j hb hj => amLo (resX X br j hb hj)) (fun br j hb hj => amHi (resX X br j hb hj)) 20 Z
    ∧ (∀ br hb j hj, window C ![0, br, 0, 256 * j] S1x1x128x256.size (inb7b br j hb hj)
        = rcX X (window Z ![br, 0, 0] S1x128x128.size (inb21w br hb)) br hb j hj)
    ∧ (∀ br hb, window A ![0, br, 0, 0] S1x1x40x128.size (inb15 br hb)
        = scalesT (scales (window Z ![br, 0, 0] S1x128x128.size (inb21w br hb))))
  hc : ∀ br hb j hj, window H ![0, br, 0, 256 * j] S1x1x128x256.size (inb7b br j hb hj) = hcP X br hb j hj
  out : ∀ br hb, window O ![0, br, 0, 0] S1x1x64x128.size (inb17 br hb)
    = outT (accX X br hb 20 le_rfl) (hsX X br hb) (window X.x11 ![0, 0] S1x64.size inb_S1x64_S1x64_0_0)
        (window X.x12 ![0, 0] S1x64.size inb_S1x64_S1x64_0_0)
  hsc : ∀ br hb, window S ![0, br, 0] S1x1x128.size (inb18 br hb) = hScaleT (hsX X br hb)

/-- Both branches' chunks, of the two runs of the second half. -/
theorem Has4.both {α : Type} {w0 w1 : (j : ℕ) → j < 20 → (⟨S1x2x128x5120.rank, S1x1x128x256.size⟩ : Shape).Idx → α} {C₀ C₁ C : S1x2x128x5120.Idx → α}
    (h0 : Has4 0 (by omega) w0 C₀ 20 C₁) (h1 : Has4 1 (by omega) w1 C₁ 20 C)
    (w : (br : ℕ) → br < 2 → (j : ℕ) → j < 20 → (⟨S1x2x128x5120.rank, S1x1x128x256.size⟩ : Shape).Idx → α)
    (e0 : w 0 (by omega) = w0) (e1 : w 1 (by omega) = w1) (br : ℕ) (hb : br < 2) (j : ℕ) (hj : j < 20) :
    window C ![0, br, 0, 256 * j] S1x1x128x256.size (inb7b br j hb hj) = w br hb j hj := by
  by_cases hbr : br = 1
  · subst hbr; rw [e1]; exact h1.1 j hj hj
  · obtain rfl : br = 0 := by omega
    rw [e0, h1.2 0 hb j hj (by omega)]; exact h0.1 j hj hj

/-- The body, of any contents: its inputs are left as they were, its outputs meet `Post`, the scratch holds something. -/
theorem wp_bodyP (M : Mems) (X : Ins F) (Y : S1x128x640.Idx → Elt F .f32) (C : S1x2x128x5120.Idx → Elt F .i8) (A : S1x2x40x128.Idx → Elt F .f32)
    (H : S1x2x128x5120.Idx → Elt F .fp8e4m3) (O : S1x2x64x128.Idx → Elt F .f32) (S : S1x2x128.Idx → Elt F .f32)
    (R U : S2x128x5120.Idx → Elt F .f32) (Z : S2x128x128.Idx → Elt F .f32) :
    (iprop(owns (c.tc : Thread nD τ) M.a2 fullShare X.x2 ∗ owns (c.tc : Thread nD τ) M.a3 fullShare X.x3
        ∗ owns (c.tc : Thread nD τ) M.a4 fullShare X.x4 ∗ owns (c.tc : Thread nD τ) M.a5 fullShare X.x5
        ∗ owns (c.tc : Thread nD τ) M.a6 fullShare X.x6 ∗ owns (c.tc : Thread nD τ) M.a7 fullShare X.x7
        ∗ owns (c.tc : Thread nD τ) M.a8 fullShare X.x8 ∗ owns (c.tc : Thread nD τ) M.a9 fullShare X.x9
        ∗ owns (c.tc : Thread nD τ) M.a10 fullShare X.x10 ∗ owns (c.tc : Thread nD τ) M.a11 fullShare X.x11
        ∗ owns (c.tc : Thread nD τ) M.a12 fullShare X.x12
        ∗ owns (c.tc : Thread nD τ) M.a13 fullShare Y ∗ owns (c.tc : Thread nD τ) M.a14 fullShare C
        ∗ owns (c.tc : Thread nD τ) M.a15 fullShare A ∗ owns (c.tc : Thread nD τ) M.a16 fullShare H
        ∗ owns (c.tc : Thread nD τ) M.a17 fullShare O ∗ owns (c.tc : Thread nD τ) M.a18 fullShare S
        ∗ owns (c.tc : Thread nD τ) M.a19 fullShare R ∗ owns (c.tc : Thread nD τ) M.a20 fullShare U
        ∗ owns (c.tc : Thread nD τ) M.a21 fullShare Z) : sProp 𝕄)
      ⊢ iprop((∀ Y' C' A' H' O' S' R' U' Z', (⌜Post X Y' C' A' H' O' S'⌝
          ∗ owns (c.tc : Thread nD τ) M.a2 fullShare X.x2 ∗ owns (c.tc : Thread nD τ) M.a3 fullShare X.x3
          ∗ owns (c.tc : Thread nD τ) M.a4 fullShare X.x4 ∗ owns (c.tc : Thread nD τ) M.a5 fullShare X.x5
          ∗ owns (c.tc : Thread nD τ) M.a6 fullShare X.x6 ∗ owns (c.tc : Thread nD τ) M.a7 fullShare X.x7
          ∗ owns (c.tc : Thread nD τ) M.a8 fullShare X.x8 ∗ owns (c.tc : Thread nD τ) M.a9 fullShare X.x9
          ∗ owns (c.tc : Thread nD τ) M.a10 fullShare X.x10 ∗ owns (c.tc : Thread nD τ) M.a11 fullShare X.x11
          ∗ owns (c.tc : Thread nD τ) M.a12 fullShare X.x12
          ∗ owns (c.tc : Thread nD τ) M.a13 fullShare Y' ∗ owns (c.tc : Thread nD τ) M.a14 fullShare C'
          ∗ owns (c.tc : Thread nD τ) M.a15 fullShare A' ∗ owns (c.tc : Thread nD τ) M.a16 fullShare H'
          ∗ owns (c.tc : Thread nD τ) M.a17 fullShare O' ∗ owns (c.tc : Thread nD τ) M.a18 fullShare S'
          ∗ owns (c.tc : Thread nD τ) M.a19 fullShare R' ∗ owns (c.tc : Thread nD τ) M.a20 fullShare U'
          ∗ owns (c.tc : Thread nD τ) M.a21 fullShare Z') -∗ Q ⟨⟩)
        -∗ wp frame (wpE defs 𝒱 (c.tc : Thread nD τ) bd) E (bodyP M) Q) := by
  unfold bodyP
  iintro ⟨H2, H3, H4, H5, H6, H7, H8, H9, H10, H11, H12, H13, H14, H15, H16, H17, H18, H19, H20, H21⟩ HK
  iapply (wp_ldv 𝒱 c bd E) $$ H3
  iintro H3
  iapply (wp_meanP 𝒱 c bd E M X.x7) $$ H7
  iintro H7
  iapply (wp_stdP 𝒱 c bd E M X.x7) $$ H7
  iintro H7
  iapply (wp_meanP 𝒱 c bd E M X.x7) $$ H7
  iintro H7
  iapply (wp_stdP 𝒱 c bd E M X.x7) $$ H7
  iintro H7
  have hL := fun KK => wp_loop 𝒱 c bd E (defs := defs) (Q := Q) (n := 20) (a := ((zero128, zero128) : FVec F S128x128 .f32 × FVec F S128x128 .f32))
    (body := tripP M (pcodes (window X.x3 ![0, 0, 0] S1x64x128.size inb_S1x64x128_S1x64x128_0_0_0))
      (muX X.x7 0 (by omega)) (sdX X.x7 0 (by omega)) (muX X.x7 1 (by omega)) (sdX X.x7 1 (by omega)))
    (K := KK) (tripInv c M X) (wp_tripP 𝒱 c bd E M X)
  iapply (hL _) $$ [H2 H4 H5 H6 H7 H8 H9 H13 H19 H20 H21]
  · unfold tripInv
    isplitr
    · ipureintro; exact ⟨Nat.zero_le _, rfl⟩
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H13]
    · iexists Y
      isplitr
      · ipureintro; exact ⟨fun _ _ h => absurd h (Nat.not_lt_zero _), fun h => absurd h (Nat.not_lt_zero _)⟩
      · iexact H13
    isplitl [H19]
    · iexists R
      isplitr
      · ipureintro; exact fun _ _ _ _ h => absurd h (Nat.not_lt_zero _)
      · iexact H19
    isplitl [H20]
    · iexists U
      isplitr
      · ipureintro; exact fun _ _ _ _ h => absurd h (Nat.not_lt_zero _)
      · iexact H20
    · iexists Z
      isplitr
      · ipureintro; exact fun _ _ _ _ h => absurd h (Nat.not_lt_zero _)
      · iexact H21
  iintro %um
  unfold tripInv
  iintro ⟨%hum, H2, H4, H5, H6, H7, H8, H9, ⟨%Y, %hY, H13⟩, ⟨%R, %hR, H19⟩, ⟨%U, %hU, H20⟩, ⟨%Z, %hZ, H21⟩⟩
  obtain ⟨-, rfl⟩ := hum
  iapply (wp_branchP 𝒱 c bd E M X R U Z hR hU C H A O S) $$ [H10 H11 H12 H19 H20 H21 H14 H16 H15 H17 H18]
  · isplitl [H10]; · iexact H10
    isplitl [H11]; · iexact H11
    isplitl [H12]; · iexact H12
    isplitl [H19]; · iexact H19
    isplitl [H20]; · iexact H20
    isplitl [H21]; · iexact H21
    isplitl [H14]; · iexact H14
    isplitl [H16]; · iexact H16
    isplitl [H15]; · iexact H15
    isplitl [H17]; · iexact H17
    iexact H18
  iintro ⟨H10, H11, H12, H19, H20, H21, ⟨%C1, %hC1, H14⟩, ⟨%H1, %hH1, H16⟩, H15, H17, H18⟩
  iapply (wp_branchP 𝒱 c bd E M X R U Z hR hU C1 H1) $$ [H10 H11 H12 H19 H20 H21 H14 H16 H15 H17 H18]
  · isplitl [H10]; · iexact H10
    isplitl [H11]; · iexact H11
    isplitl [H12]; · iexact H12
    isplitl [H19]; · iexact H19
    isplitl [H20]; · iexact H20
    isplitl [H21]; · iexact H21
    isplitl [H14]; · iexact H14
    isplitl [H16]; · iexact H16
    isplitl [H15]; · iexact H15
    isplitl [H17]; · iexact H17
    iexact H18
  iintro ⟨H10, H11, H12, H19, H20, H21, ⟨%C2, %hC2, H14⟩, ⟨%H2', %hH2, H16⟩, H15, H17, H18⟩
  have hpost : Post X Y C2
      (put (put A ![0, 0, 0, 0] S1x1x40x128.size (scalesT (scales (window Z ![0, 0, 0] S1x128x128.size (inb21w 0 (by omega))))))
        ![0, 1, 0, 0] S1x1x40x128.size (scalesT (scales (window Z ![1, 0, 0] S1x128x128.size (inb21w 1 (by omega))))))
      H2'
      (put (put O ![0, 0, 0, 0] S1x1x64x128.size (outT (accX X 0 (by omega) 20 le_rfl) (hsX X 0 (by omega))
          (window X.x11 ![0, 0] S1x64.size inb_S1x64_S1x64_0_0) (window X.x12 ![0, 0] S1x64.size inb_S1x64_S1x64_0_0)))
        ![0, 1, 0, 0] S1x1x64x128.size (outT (accX X 1 (by omega) 20 le_rfl) (hsX X 1 (by omega))
          (window X.x11 ![0, 0] S1x64.size inb_S1x64_S1x64_0_0) (window X.x12 ![0, 0] S1x64.size inb_S1x64_S1x64_0_0)))
      (put (put S ![0, 0, 0] S1x1x128.size (hScaleT (hsX X 0 (by omega)))) ![0, 1, 0] S1x1x128.size (hScaleT (hsX X 1 (by omega)))) := by
    refine ⟨hY, ⟨Z, hZ, ?_, ?_⟩, ?_, ?_, ?_⟩
    · exact Has4.both hC1 hC2 (fun br hb => rcX X (window Z ![br, 0, 0] S1x128x128.size (inb21w br hb)) br hb) rfl rfl
    · intro br hb
      by_cases hbr : br = 1
      · subst hbr; exact window_put_same _ _ _ _ _
      · obtain rfl : br = 0 := by omega
        rw [window_put_of_disjoint _ _ _ _ _ _ _ (1 : Fin 4) (Or.inl (show 0 + 1 ≤ 1 by omega))]
        exact window_put_same _ _ _ _ _
    · exact Has4.both hH1 hH2 (hcP X) rfl rfl
    · intro br hb
      by_cases hbr : br = 1
      · subst hbr; exact window_put_same _ _ _ _ _
      · obtain rfl : br = 0 := by omega
        rw [window_put_of_disjoint _ _ _ _ _ _ _ (1 : Fin 4) (Or.inl (show 0 + 1 ≤ 1 by omega))]
        exact window_put_same _ _ _ _ _
    · intro br hb
      by_cases hbr : br = 1
      · subst hbr; exact window_put_same _ _ _ _ _
      · obtain rfl : br = 0 := by omega
        rw [window_put_of_disjoint _ _ _ _ _ _ _ (1 : Fin 3) (Or.inl (show 0 + 1 ≤ 1 by omega))]
        exact window_put_same _ _ _ _ _
  rw [wp_ret]
  imodintro
  iapply HK
  isplitr
  · ipureintro
    exact hpost
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.Kernel.Fold

end
-- ==== Proof.BodyEqBits.lean ====
/-
  The printed body is the program with loops.
-/
module

public import proofs.«01_k».proof.Proof.FoldBits

@[expose] public section

set_option maxRecDepth 1000000
set_option maxHeartbeats 4000000

noncomputable section

namespace Cert.Kernel.Fold

open Cert.Kernel Cert.Kernel.Gen Idealize.ShloMosaic Idealize.SL.Sem

variable {F : FTy → Type} [BitOps F]

/-- The printed body is the program with loops. -/
theorem body_eq (i : grid0.Coords) (arg2 : Memref sig .tc .smem S1 .f32) (harg2 : arg2.IsWhole) (arg3 : Memref sig .tc .vmem S1x64x128 .fp8e4m3) (harg3 : arg3.IsWhole) (arg4 : Memref sig .tc .vmem S64x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S1x2x128x5120 .bf16) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S1x64 .f32) (harg11 : arg11.IsWhole) (arg12 : Memref sig .tc .vmem S1x64 .f32) (harg12 : arg12.IsWhole) (arg13 : Memref sig .tc .vmem S1x128x640 .f32) (harg13 : arg13.IsWhole) (arg14 : Memref sig .tc .vmem S1x2x128x5120 .i8) (harg14 : arg14.IsWhole) (arg15 : Memref sig .tc .vmem S1x2x40x128 .f32) (harg15 : arg15.IsWhole) (arg16 : Memref sig .tc .vmem S1x2x128x5120 .fp8e4m3) (harg16 : arg16.IsWhole) (arg17 : Memref sig .tc .vmem S1x2x64x128 .f32) (harg17 : arg17.IsWhole) (arg18 : Memref sig .tc .vmem S1x2x128 .f32) (harg18 : arg18.IsWhole) (arg19 : Memref sig .tc .vmem S2x128x5120 .f32) (harg19 : arg19.IsWhole) (arg20 : Memref sig .tc .vmem S2x128x5120 .f32) (harg20 : arg20.IsWhole) (arg21 : Memref sig .tc .vmem S2x128x128 .f32) (harg21 : arg21.IsWhole) :
    cc0_phase_a (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyP ⟨arg2, arg3, arg4, arg5, arg6, arg7, arg8, arg9, arg10, arg11, arg12, arg13, arg14, harg14, arg15, arg16, harg16, arg17, arg18, arg19, arg20, arg21⟩ :=
  rfl

end Cert.Kernel.Fold

end
-- ==== Proof.ObligBits.lean ====
/-
  The kernel's run: the proof data of its pipeline, the body's obligation, and what every final state holds.
-/
module

public import proofs.«01_k».proof.Proof.TripleBits
public import proofs.«01_k».proof.Proof.BodyEqBits
public import proofs.«01_k».proof.Proof.Gen.Kernel.Frame
public import Idealize.ShloMosaic.Lib.Pipeline.DatRel
public import Idealize.ShloMosaic.Lib.Pipeline.ArrRel

@[expose] public section

set_option maxRecDepth 65536

noncomputable section

namespace Cert.Kernel.Fold

open Cert.Kernel Cert.Kernel.Gen Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Idealize.ShloMosaic.TcCoe
open Idealize.ShloMosaic.Pipeline (Dat RDat BodyObligationRel)
open Steps VecWindow

variable {F : FTy → Type} [BitOps F]
variable (m : (ℓ : Loc nD τ sig) → Buf (Elt F) ℓ) (ρ : Dev nD → PrngReg)

local notation "𝕄" => MT nD τ sig Unit (Elt F) ℕ (UR sig nD τ) ℕ

/-- The contents of the input windows at a point: their blocks, the two that overhang their arrays filled out with anything. -/
def ins (c : Dev nD) (t : Fin cfg0.N) (d1 : S1x64x128.Idx → Elt F .fp8e4m3) (d5 : S1x2x128x5120.Idx → Elt F .bf16) : Ins F where
  x2 := iblk m c 0 t
  x3 := (cfg0.win 1).fill (cfg0.grid.coords t) d1 (iblk m c 1 t)
  x4 := iblk m c 2 t
  x5 := iblk m c 3 t
  x6 := iblk m c 4 t
  x7 := (cfg0.win 5).fill (cfg0.grid.coords t) d5 (iblk m c 5 t)
  x8 := iblk m c 6 t
  x9 := iblk m c 7 t
  x10 := iblk m c 8 t
  x11 := iblk m c 9 t
  x12 := iblk m c 10 t

/-- What the body leaves in an output window: one of the windows `Post` is about. -/
def Rl (c : Dev nD) (w : Fin cfg0.W) (t : Fin cfg0.N) : ((cfg0.win w).block.Idx → Elt F (cfg0.win w).elt) → Prop :=
  match w with
  | ⟨11, _⟩ => fun Y => ∃ d1 d5 C A H O S, Post (ins m c t d1 d5) Y C A H O S
  | ⟨12, _⟩ => fun C => ∃ d1 d5 Y A H O S, Post (ins m c t d1 d5) Y C A H O S
  | ⟨13, _⟩ => fun A => ∃ d1 d5 Y C H O S, Post (ins m c t d1 d5) Y C A H O S
  | ⟨14, _⟩ => fun H => ∃ d1 d5 Y C A O S, Post (ins m c t d1 d5) Y C A H O S
  | ⟨15, _⟩ => fun O => ∃ d1 d5 Y C A H S, Post (ins m c t d1 d5) Y C A H O S
  | ⟨16, _⟩ => fun S => ∃ d1 d5 Y C A H O, Post (ins m c t d1 d5) Y C A H O S
  | _ => fun _ => True

/-- The output windows, whose contents `Rl` constrains. -/
def marked (w : Fin cfg0.W) : Bool :=
  match w with
  | ⟨11, _⟩ => true
  | ⟨12, _⟩ => true
  | ⟨13, _⟩ => true
  | ⟨14, _⟩ => true
  | ⟨15, _⟩ => true
  | ⟨16, _⟩ => true
  | _ => false

/-- The pipeline's proof data: the arrays as the region finds them, the input windows left as they were. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => iblk m c 2 t
    | ⟨3, _⟩ => iblk m c 3 t
    | ⟨4, _⟩ => iblk m c 4 t
    | ⟨5, _⟩ => (cfg0.win 5).fill (cfg0.grid.coords t) (fun _ => Classical.arbitrary _) (iblk m c 5 t)
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨_ + 17, h⟩ => absurd h (Nat.not_lt.2 (Nat.le_add_left _ _))
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_1 (c : Dev nD) (t : Fin cfg0.N) (d) : (dats m 0 c).before 1 t d = (cfg0.win 1).fill (cfg0.grid.coords t) d (iblk m c 1 t) := by
  unfold Dat.before; rw [if_pos (fetch0_1 t)]; rfl
theorem cut0_1 (c : Dev nD) (t : Fin cfg0.N) : (cfg0.win 1).cut (cfg0.grid.coords t) ((dats m 0 c).after 1 t) = iblk m c 1 t := by
  dsimp only [dats]; exact (cfg0.win 1).cut_fill _ _ _
theorem before0_5 (c : Dev nD) (t : Fin cfg0.N) (d) : (dats m 0 c).before 5 t d = (cfg0.win 5).fill (cfg0.grid.coords t) d (iblk m c 5 t) := by
  unfold Dat.before; rw [if_pos (fetch0_5 t)]; rfl
theorem cut0_5 (c : Dev nD) (t : Fin cfg0.N) : (cfg0.win 5).cut (cfg0.grid.coords t) ((dats m 0 c).after 5 t) = iblk m c 5 t := by
  dsimp only [dats]; exact (cfg0.win 5).cut_fill _ _ _

/-- The region's scratch, each buffer whole at some contents. -/
theorem scratch_eq (c : Dev nD) : (Pipeline.ΦA (Val := Elt F) (U := UR sig nD τ) spec0 c : sProp 𝕄)
    = iprop(((∃ f, owns (c.tc : Thread nD τ) (Memref.whole cc0_scratch0) fullShare f)
        ∗ (∃ f, owns (c.tc : Thread nD τ) (Memref.whole cc0_scratch1) fullShare f)
        ∗ (∃ f, owns (c.tc : Thread nD τ) (Memref.whole cc0_scratch2) fullShare f)) ∗ ∃ r, prngReg c r) := by
  unfold Pipeline.ΦA
  rw [scopedRest0_eq]
  simp only [owns_whole]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d))
    ∗ (∃ d, owns (c.tc : Thread nD τ) (st0_3 t) fullShare ((dats m 0 c).before 3 t d))
    ∗ (∃ d, owns (c.tc : Thread nD τ) (st0_4 t) fullShare ((dats m 0 c).before 4 t d))
    ∗ (∃ d, owns (c.tc : Thread nD τ) (st0_5 t) fullShare ((dats m 0 c).before 5 t d))
    ∗ (∃ d, owns (c.tc : Thread nD τ) (st0_6 t) fullShare ((dats m 0 c).before 6 t d))
    ∗ (∃ d, owns (c.tc : Thread nD τ) (st0_7 t) fullShare ((dats m 0 c).before 7 t d))
    ∗ (∃ d, owns (c.tc : Thread nD τ) (st0_8 t) fullShare ((dats m 0 c).before 8 t d))
    ∗ (∃ d, owns (c.tc : Thread nD τ) (st0_9 t) fullShare ((dats m 0 c).before 9 t d))
    ∗ (∃ d, owns (c.tc : Thread nD τ) (st0_10 t) fullShare ((dats m 0 c).before 10 t d))
    ∗ (∃ Y, ⌜((dats m 0 c).toRRel marked (Rl m c)).Finds 11 t Y⌝ ∗ owns (c.tc : Thread nD τ) (st0_11 t) fullShare Y)
    ∗ (∃ Y, ⌜((dats m 0 c).toRRel marked (Rl m c)).Finds 12 t Y⌝ ∗ owns (c.tc : Thread nD τ) (st0_12 t) fullShare Y)
    ∗ (∃ Y, ⌜((dats m 0 c).toRRel marked (Rl m c)).Finds 13 t Y⌝ ∗ owns (c.tc : Thread nD τ) (st0_13 t) fullShare Y)
    ∗ (∃ Y, ⌜((dats m 0 c).toRRel marked (Rl m c)).Finds 14 t Y⌝ ∗ owns (c.tc : Thread nD τ) (st0_14 t) fullShare Y)
    ∗ (∃ Y, ⌜((dats m 0 c).toRRel marked (Rl m c)).Finds 15 t Y⌝ ∗ owns (c.tc : Thread nD τ) (st0_15 t) fullShare Y)
    ∗ (∃ Y, ⌜((dats m 0 c).toRRel marked (Rl m c)).Finds 16 t Y⌝ ∗ owns (c.tc : Thread nD τ) (st0_16 t) fullShare Y))

/-- What it returns. -/
def bodyPost (c : Dev nD) (t : Fin cfg0.N) : sProp 𝕄 :=
  iprop((dats m 0 c).Φ t.succ ∗ (dats m 0 c).owesAt () t.succ
    ∗ owns (c.tc : Thread nD τ) (st0_0 t) fullShare ((dats m 0 c).after 0 t)
    ∗ (∃ d, owns (c.tc : Thread nD τ) (st0_1 t) fullShare ((cfg0.win 1).fill (cfg0.grid.coords t) d ((cfg0.win 1).cut (cfg0.grid.coords t) ((dats m 0 c).after 1 t))))
    ∗ owns (c.tc : Thread nD τ) (st0_2 t) fullShare ((dats m 0 c).after 2 t)
    ∗ owns (c.tc : Thread nD τ) (st0_3 t) fullShare ((dats m 0 c).after 3 t)
    ∗ owns (c.tc : Thread nD τ) (st0_4 t) fullShare ((dats m 0 c).after 4 t)
    ∗ (∃ d, owns (c.tc : Thread nD τ) (st0_5 t) fullShare ((cfg0.win 5).fill (cfg0.grid.coords t) d ((cfg0.win 5).cut (cfg0.grid.coords t) ((dats m 0 c).after 5 t))))
    ∗ owns (c.tc : Thread nD τ) (st0_6 t) fullShare ((dats m 0 c).after 6 t)
    ∗ owns (c.tc : Thread nD τ) (st0_7 t) fullShare ((dats m 0 c).after 7 t)
    ∗ owns (c.tc : Thread nD τ) (st0_8 t) fullShare ((dats m 0 c).after 8 t)
    ∗ owns (c.tc : Thread nD τ) (st0_9 t) fullShare ((dats m 0 c).after 9 t)
    ∗ owns (c.tc : Thread nD τ) (st0_10 t) fullShare ((dats m 0 c).after 10 t)
    ∗ (∃ X, ⌜Rl m c 11 t X⌝ ∗ owns (c.tc : Thread nD τ) (st0_11 t) fullShare X)
    ∗ (∃ X, ⌜Rl m c 12 t X⌝ ∗ owns (c.tc : Thread nD τ) (st0_12 t) fullShare X)
    ∗ (∃ X, ⌜Rl m c 13 t X⌝ ∗ owns (c.tc : Thread nD τ) (st0_13 t) fullShare X)
    ∗ (∃ X, ⌜Rl m c 14 t X⌝ ∗ owns (c.tc : Thread nD τ) (st0_14 t) fullShare X)
    ∗ (∃ X, ⌜Rl m c 15 t X⌝ ∗ owns (c.tc : Thread nD τ) (st0_15 t) fullShare X)
    ∗ (∃ X, ⌜Rl m c 16 t X⌝ ∗ owns (c.tc : Thread nD τ) (st0_16 t) fullShare X))

set_option maxHeartbeats 4000000 in
/-- The body at any point. -/
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost bodyAt0
  rw [body_eq]
  simp only [before0_0, before0_1, before0_2, before0_3, before0_4, before0_5, before0_6, before0_7, before0_8, before0_9, before0_10]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_2, after0_3, after0_4, after0_6, after0_7, after0_8, after0_9, after0_10, cut0_1, cut0_5, scratch_eq]
  iintro ⟨⟨⟨⟨%f0, Hs0⟩, ⟨%f1, Hs1⟩, ⟨%f2, Hs2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%e11, %h11, H11⟩, ⟨%e12, %h12, H12⟩, ⟨%e13, %h13, H13⟩, ⟨%e14, %h14, H14⟩, ⟨%e15, %h15, H15⟩, ⟨%e16, %h16, H16⟩⟩
  iapply (wp_bodyP Variants.none c none Set.univ _ (ins m c t d1 d5) e11 e12 e13 e14 e15 e16 f0 f1 f2) $$ [H0 H1 H2 H3 H4 H5 H6 H7 H8 H9 H10 H11 H12 H13 H14 H15 H16 Hs0 Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hs0]; · iexact Hs0
    isplitl [Hs1]; · iexact Hs1
    iexact Hs2
  iintro %Y %C %A %H %O %S %R %U %Z ⟨%hP, H0, H1, H2, H3, H4, H5, H6, H7, H8, H9, H10, H11, H12, H13, H14, H15, H16, Hs0, Hs1, Hs2⟩
  isplitl [Hs0 Hs1 Hs2 Hr]
  · isplitl [Hs0 Hs1 Hs2]
    · isplitl [Hs0]; · iexists R; iexact Hs0
      isplitl [Hs1]; · iexists U; iexact Hs1
      iexists Z; iexact Hs2
    · iexact Hr
  isplitl [Ho]; · iexact Ho
  isplitl [H0]; · iexact H0
  isplitl [H1]; · iexists d1; iexact H1
  isplitl [H2]; · iexact H2
  isplitl [H3]; · iexact H3
  isplitl [H4]; · iexact H4
  isplitl [H5]; · iexists d5; iexact H5
  isplitl [H6]; · iexact H6
  isplitl [H7]; · iexact H7
  isplitl [H8]; · iexact H8
  isplitl [H9]; · iexact H9
  isplitl [H10]; · iexact H10
  have q11 : Rl m c 11 t Y := ⟨d1, d5, C, A, H, O, S, hP⟩
  have q12 : Rl m c 12 t C := ⟨d1, d5, Y, A, H, O, S, hP⟩
  have q13 : Rl m c 13 t A := ⟨d1, d5, Y, C, H, O, S, hP⟩
  have q14 : Rl m c 14 t H := ⟨d1, d5, Y, C, A, O, S, hP⟩
  have q15 : Rl m c 15 t O := ⟨d1, d5, Y, C, A, H, S, hP⟩
  have q16 : Rl m c 16 t S := ⟨d1, d5, Y, C, A, H, O, hP⟩
  isplitl [H11]
  · iexists Y
    isplitr
    · ipureintro; exact q11
    · iexact H11
  isplitl [H12]
  · iexists C
    isplitr
    · ipureintro; exact q12
    · iexact H12
  isplitl [H13]
  · iexists A
    isplitr
    · ipureintro; exact q13
    · iexact H13
  isplitl [H14]
  · iexists H
    isplitr
    · ipureintro; exact q14
    · iexact H14
  isplitl [H15]
  · iexists O
    isplitr
    · ipureintro; exact q15
    · iexact H15
  iexists S
  isplitr
  · ipureintro; exact q16
  · iexact H16

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-- The same data read relationally. -/
def rdats (c : Dev nD) : RDat τ (Elt F) Unit ℕ (UR sig nD τ) ℕ cfg0 c := (dats m 0 c).toRRel marked (Rl m c)

set_option backward.isDefEq.respectTransparency.types false in
/-- The launch: every weakly fair execution terminates, with the arrays as the data say and the counters at zero. -/
theorem run_main : θ_run defs (onTc (τ := τ) (main (F := F))) (s₀ m ρ)
    (fun r => RDat.FramePost cfg0 (rdats m) (V m) r ∧ r.2.sem = fun _ => 0) :=
  RDat.θ_run_frame cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (Q' := _) (hQ' := fun _ h => h)

/-- Every final state that the run's data describe keeps the arguments. -/
theorem kept (r : PUnit × MemSt nD τ sig (Elt F)) (h : RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_⟩
  · exact ((h c).2 main_arg0 (Pipeline.mem_restRefs_of main_arg0 (by decide) (by decide))).trans (V_main_arg0 m c)
  · exact (RDat.FramePost.arr_in h c 1 rfl).trans ((A_eq m c 1).trans (V_main_arg1 m c))
  · exact (RDat.FramePost.arr_in h c 2 rfl).trans ((A_eq m c 2).trans (V_main_arg2 m c))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact (RDat.FramePost.arr_in h c 5 rfl).trans ((A_eq m c 5).trans (V_main_arg5 m c))
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)
  · exact ((h c).2 main_arg10 (Pipeline.mem_restRefs_of main_arg10 (by decide) (by decide))).trans (V_main_arg10 m c)

/-- The frame: the arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨kept m r h.1, h.2⟩) (run_main m ρ)

end Cert.Kernel.Fold

end
-- ==== Proof.FoldIdeal.lean ====
/-
  The kernel's body as a program with loops. The printed body unrolls every loop of the kernel's source; here
  its statements are gathered again: pure functions for what one trip computes, and counted loops around them.
  `body_eq` says that the printed body is this program.
-/
module

public import proofs.«01_k».proof.Proof.Steps
public import proofs.«01_k».proof.Proof.Gen.KernelIdeal

@[expose] public section

set_option maxRecDepth 65536

noncomputable section

namespace Cert.KernelIdeal.Fold

open Cert.KernelIdeal Cert.KernelIdeal.Gen Idealize.ShloMosaic Idealize.SL.Sem
open Steps (ldv stv loop loopFrom)

variable {F : FTy → Type} [FloatOps F] [Named F]

/-! ## What the statements compute -/

/-- The constant 1/5120 as the kernel writes it. -/
def invD : F .f32 := Named.named κ "inv_d" 0x394CCCCD#32

/-- The high half of a float's word (a bf16 number). -/
def hiPart (x : FVec F S128x128 .f32) : FVec F S128x128 .f32 := extf .f32 (truncf .bf16 x)

def zero128 : FVec F S128x128 .f32 := broadcast S128x128 (Scalar.ofBits .f32 0x00000000#32)

/-- The transposed block of patch codes. -/
def pcodes (x : Vec F S1x64x128 .fp8e4m3) : FVec F S128x64 .fp8e4m3 :=
  truncf .fp8e4m3 (transpose S128x64 [1, 0] (extf .f32 (shapeCast S64x128 x shapeCasts_S1x64x128_S64x128) bitsLt_fp8e4m3_f32)
    transposes_S64x128_p1_0_S128x64) bitsLt_fp8e4m3_f32

/-- 128 columns of the block of hidden states, widened. -/
def hid128 (x : Vec F S1x1x128x128 .bf16) : FVec F S128x128 .f32 :=
  extf .f32 (shapeCast S128x128 x shapeCasts_S1x1x128x128_S128x128) bitsLt_bf16_f32

/-- One trip of the sum behind the mean. -/
def meanStep (s : FVec F S128x128 .f32) (x : Vec F S1x1x128x128 .bf16) : FVec F S128x128 .f32 := addf s (hid128 x)

/-- One trip of the sum behind the variance. -/
def varStep (mu : FVec F S128x1 .f32) (s : FVec F S128x128 .f32) (x : Vec F S1x1x128x128 .bf16) : FVec F S128x128 .f32 :=
  addf s (mulf (subf (hid128 x) (broadcastTo S128x128 mu broadcasts_S128x1_S128x128))
    (subf (hid128 x) (broadcastTo S128x128 mu broadcasts_S128x1_S128x128)))

/-- A row's mean from its 128 partial sums. -/
def rowMean (s : FVec F S128x128 .f32) : FVec F S128x1 .f32 :=
  mulf (shapeCast S128x1 (multiReduction .add [1] S128 s 0x00000000#32 reduces_S128x128_S128 (.inl rfl) rfl) shapeCasts_S128_S128x1)
    (broadcast S128x1 invD)

/-- The standard deviation from the variance. -/
def stdOf (v : FVec F S128x1 .f32) : FVec F S128x1 .f32 :=
  sqrt (addf v (broadcast S128x1 (Scalar.ofBits .f32 0x358637BD#32)))

/-- 256 columns of the embedding of a block of patches. -/
def embChunk (pc : FVec F S128x64 .fp8e4m3) (w : Vec F S64x256 .fp8e4m3) (sp : Elt F .f32) (se be : Vec F S1x256 .f32) : FVec F S128x256 .f32 :=
  addf (mulf (mulf (matmul dot_S128x64_S64x256_S128x256_1_0_0_1_n_n none pc w (constant S128x256 .f32 0x00000000#32)) (broadcast S128x256 sp))
      (broadcastTo S128x256 (shapeCast S1x256 se shapeCasts_S1x256_S1x256) broadcasts_S1x256_S128x256))
    (broadcastTo S128x256 (shapeCast S1x256 be shapeCasts_S1x256_S1x256) broadcasts_S1x256_S128x256)

/-- The first 128 columns of a chunk. -/
def lo128 (x : FVec F S128x256 .f32) : FVec F S128x128 .f32 := extractStridedSlice S128x128 ![0, 0] x slices_S128x256_o0_0_S128x128
/-- The last 128 columns of a chunk. -/
def hi128 (x : FVec F S128x256 .f32) : FVec F S128x128 .f32 := extractStridedSlice S128x128 ![0, 128] x slices_S128x256_o0_128_S128x128

/-- A chunk as the block of scratch it is stored to. -/
def pack256 (x : FVec F S128x256 .f32) : FVec F S1x128x256 .f32 := shapeCast S1x128x256 x shapeCasts_S128x256_S1x128x256

/-- The layer norm's gain of a chunk. -/
def gain (x : Vec F S1x1x256 .f32) : FVec F S1x256 .f32 :=
  addf (broadcast S1x256 (Scalar.ofBits .f32 0x3F800000#32)) (shapeCast S1x256 x shapeCasts_S1x1x256_S1x256)

/-- 256 columns of the block of hidden states, widened. -/
def hid256 (x : Vec F S1x1x128x256 .bf16) : FVec F S128x256 .f32 :=
  extf .f32 (shapeCast S128x256 x shapeCasts_S1x1x128x256_S128x256) bitsLt_bf16_f32

/-- A row's greatest element. -/
def rowMax (x : FVec F S128x128 .f32) : FVec F S128x1 .f32 :=
  shapeCast S128x1 (multiReduction .maximumf [1] S128 x 0xFF800000#32 reduces_S128x128_S128 (.inl rfl) rfl) shapeCasts_S128_S128x1

/-- The greatest absolute value of each row's first 128 columns, as it is stored. -/
def amLo (r : FVec F S128x256 .f32) : FVec F S1x128x1 .f32 := shapeCast S1x128x1 (rowMax (lo128 (absf r))) shapeCasts_S128x1_S1x128x1
/-- The greatest absolute value of each row's last 128 columns, as it is stored. -/
def amHi (r : FVec F S128x256 .f32) : FVec F S1x128x1 .f32 := shapeCast S1x128x1 (rowMax (hi128 (absf r))) shapeCasts_S128x1_S1x128x1

/-- A chunk of the modulated hidden states, before the division by the standard deviation. -/
def modChunk (h : FVec F S128x256 .f32) (mu std : FVec F S128x1 .f32) (g : FVec F S1x256 .f32) (hs : Vec F S1x1x256 .f32) : FVec F S128x256 .f32 :=
  addf (mulf (subf h (broadcastTo S128x256 mu broadcasts_S128x1_S128x256)) (broadcastTo S128x256 g broadcasts_S1x256_S128x256))
    (mulf (broadcastTo S128x256 (shapeCast S1x256 hs shapeCasts_S1x1x256_S1x256) broadcasts_S1x256_S128x256)
      (broadcastTo S128x256 std broadcasts_S128x1_S128x256))

/-- The running maximum of absolute values. -/
def umaxStep (m : FVec F S128x128 .f32) (u : FVec F S128x256 .f32) : FVec F S128x128 .f32 :=
  maximumf (maximumf m (lo128 (absf u))) (hi128 (absf u))

/-- The scales of the groups of a row (one in the lanes past the groups). -/
def scales (am : Vec F S1x128x128 .f32) : FVec F S128x128 .f32 :=
  select (cmpi .slt (iota .tc S128x128 32 [1] iota_S128x128_d1_w32) (broadcast S128x128 40#32))
    (select (cmpf .ogt (shapeCast S128x128 am shapeCasts_S1x128x128_S128x128) (broadcast S128x128 (Scalar.ofBits .f32 0x00000000#32)))
      (divf (shapeCast S128x128 am shapeCasts_S1x128x128_S128x128) (broadcast S128x128 (Scalar.ofBits .f32 0x42FE0000#32)))
      (broadcast S128x128 (Scalar.ofBits .f32 0x3F800000#32)))
    (broadcast S128x128 (Scalar.ofBits .f32 0x3F800000#32))

/-- The reciprocals of the scales (zero in the lanes past the groups). -/
def recips (sc : FVec F S128x128 .f32) : FVec F S128x128 .f32 :=
  select (cmpi .slt (iota .tc S128x128 32 [1] iota_S128x128_d1_w32) (broadcast S128x128 40#32))
    (divf (broadcast S128x128 (Scalar.ofBits .f32 0x3F800000#32)) sc) (broadcast S128x128 (Scalar.ofBits .f32 0x00000000#32))

/-- The reciprocals split into three bf16 parts, side by side. -/
def split3 (x : FVec F S128x128 .f32) : FVec F S128x128 .bf16 :=
  truncf .bf16
    (addf (addf (hiPart x) (dynamicRotate 1 40#32 none (hiPart (subf x (hiPart x))) rotates_S128x128_d1))
      (dynamicRotate 1 80#32 none (subf (subf x (hiPart x)) (hiPart (subf x (hiPart x)))) rotates_S128x128_d1))
    bitsLt_bf16_f32

/-- The row maximum of the modulated states. -/
def uScale (m : FVec F S128x1 .f32) : FVec F S128x1 .f32 :=
  select (cmpf .ogt m (broadcast S128x1 (Scalar.ofBits .f32 0x00000000#32))) (divf m (broadcast S128x1 (Scalar.ofBits .f32 0x43E00000#32)))
    (broadcast S128x1 (Scalar.ofBits .f32 0x3F800000#32))

/-- The reciprocal of a column. -/
def recip1 (s : FVec F S128x1 .f32) : FVec F S128x1 .f32 := divf (broadcast S128x1 (Scalar.ofBits .f32 0x3F800000#32)) s

/-- The lane numbers of a chunk. -/
def lane : IVec S128x256 32 := iota .tc S128x256 32 [1] iota_S128x256_d1_w32

/-- The lane numbers divided by 128, rounded down. -/
def laneGroup : IVec S128x256 32 :=
  select
    (andi
      (cmpi .ne (subi (extui 32 (cmpi .sgt lane (broadcast S128x256 0#32)) natLt_1_32) (extui 32 (cmpi .slt lane (broadcast S128x256 0#32)) natLt_1_32))
        (broadcast S128x256 (Scalar.subi (Scalar.extui (Scalar.cmpi .sgt (128#32 : BitVec 32) 0#32)) (Scalar.extui (Scalar.cmpi .slt (128#32 : BitVec 32) 0#32)))))
      (cmpi .ne (remsi lane (broadcast S128x256 128#32)) (broadcast S128x256 0#32)))
    (subi (divsi lane (broadcast S128x256 128#32)) (broadcast S128x256 1#32)) (divsi lane (broadcast S128x256 128#32))

/-- The group of each lane of chunk `j`. -/
def group (j : ℕ) : IVec S128x256 32 := addi laneGroup (broadcast S128x256 (BitVec.ofNat 32 (2 * j)))

/-- The matrix that spreads the reciprocal of each group of chunk `j` over the group's lanes. -/
def selMat (j : ℕ) : FVec F S128x256 .bf16 :=
  truncf .bf16
    (sitofp .f32
      (extui 32
        (ori
          (ori (cmpi .eq (iota .tc S128x256 32 [0] iota_S128x256_d0_w32) (group j))
            (cmpi .eq (iota .tc S128x256 32 [0] iota_S128x256_d0_w32) (addi (group j) (broadcast S128x256 40#32))))
          (cmpi .eq (iota .tc S128x256 32 [0] iota_S128x256_d0_w32) (addi (group j) (broadcast S128x256 80#32))))
        natLt_1_32))
    bitsLt_bf16_f32

/-- The codes of a chunk of residuals. -/
def rcChunk (lhs : FVec F S128x128 .bf16) (j : ℕ) (r : Vec F S1x128x256 .f32) : IVec S1x1x128x256 8 :=
  shapeCast S1x1x128x256
    (fptosi 8
      (minimumf (broadcast S128x256 (Scalar.ofBits (F := F) .f32 0x42FE0000#32))
        (maximumf (broadcast S128x256 (Scalar.ofBits .f32 0xC2FE0000#32))
          (roundeven
            (mulf (shapeCast S128x256 r shapeCasts_S1x128x256_S128x256)
              (matmul dot_S128x128_S128x256_S128x256_1_0_0_1_n_n none lhs (selMat j) (constant S128x256 .f32 0x00000000#32)))))))
    shapeCasts_S128x256_S1x1x128x256

/-- The codes of a chunk of modulated states. -/
def hcChunk (ui : FVec F S128x1 .f32) (u : Vec F S1x128x256 .f32) : FVec F S128x256 .fp8e4m3 :=
  truncf .fp8e4m3
    (minimumf (broadcast S128x256 (Scalar.ofBits .f32 0x43E00000#32))
      (maximumf (broadcast S128x256 (Scalar.ofBits .f32 0xC3E00000#32))
        (mulf (shapeCast S128x256 u shapeCasts_S1x128x256_S128x256) (broadcastTo S128x256 ui broadcasts_S128x1_S128x256))))
    bitsLt_fp8e4m3_f32

/-- One trip of the head's product. -/
def headStep (acc : FVec F S128x64 .f32) (c : FVec F S128x256 .fp8e4m3) (w : Vec F S64x256 .fp8e4m3) : FVec F S128x64 .f32 :=
  addf acc (matmul dot_S128x256_S64x256_S128x64_1_1_0_0_n_n none c (shapeCast S64x256 w shapeCasts_S64x256_S64x256) (constant S128x64 .f32 0x00000000#32))

/-- The scale of a row of head codes. -/
def hScale (m us std : FVec F S128x1 .f32) : FVec F S128x1 .f32 :=
  select (cmpf .ogt m (broadcast S128x1 (Scalar.ofBits .f32 0x00000000#32))) (divf us std) (broadcast S128x1 (Scalar.ofBits .f32 0x3F800000#32))

/-- The head's result, transposed. -/
def outT (acc : FVec F S128x64 .f32) (hsc : FVec F S128x1 .f32) (s b : Vec F S1x64 .f32) : FVec F S1x1x64x128 .f32 :=
  shapeCast S1x1x64x128
    (transpose S64x128 [1, 0]
      (addf
        (mulf (mulf acc (broadcastTo S128x64 hsc broadcasts_S128x1_S128x64))
          (broadcastTo S128x64 (shapeCast S1x64 s shapeCasts_S1x64_S1x64) broadcasts_S1x64_S128x64))
        (broadcastTo S128x64 (shapeCast S1x64 b shapeCasts_S1x64_S1x64) broadcasts_S1x64_S128x64))
      transposes_S128x64_p1_0_S64x128)
    shapeCasts_S64x128_S1x1x64x128

/-- The residual scales, transposed, the groups' rows only. -/
def scalesT (sc : FVec F S128x128 .f32) : FVec F S1x1x40x128 .f32 :=
  shapeCast S1x1x40x128 (extractStridedSlice S40x128 ![0, 0] (transpose S128x128 [1, 0] sc transposes_S128x128_p1_0_S128x128) slices_S128x128_o0_0_S40x128)
    shapeCasts_S40x128_S1x1x40x128

/-- The head scales as a row. -/
def hScaleT (s : FVec F S128x1 .f32) : FVec F S1x1x128 .f32 :=
  shapeCast S1x1x128
    (extractStridedSlice S1x128 ![0, 0]
      (transpose S128x128 [1, 0] (broadcastTo S128x128 (shapeCast S128x1 s shapeCasts_S128x1_S128x1) broadcasts_S128x1_S128x128)
        transposes_S128x128_p1_0_S128x128)
      slices_S128x128_o0_0_S1x128)
    shapeCasts_S1x128_S1x1x128

/-! ## The bounds of the windows -/

theorem inb7a (br c : ℕ) (hb : br < 2) (hc : c < 40) : ∀ a, (![0, br, 0, 128 * c] : Fin 4 → ℕ) a + S1x1x128x128.size a ≤ S1x2x128x5120.size a := by
  intro a; fin_cases a
  · show 0 + 1 ≤ 1; omega
  · show br + 1 ≤ 2; omega
  · show 0 + 128 ≤ 128; omega
  · show 128 * c + 128 ≤ 5120; omega

theorem inb7b (br j : ℕ) (hb : br < 2) (hj : j < 20) : ∀ a, (![0, br, 0, 256 * j] : Fin 4 → ℕ) a + S1x1x128x256.size a ≤ S1x2x128x5120.size a := by
  intro a; fin_cases a
  · show 0 + 1 ≤ 1; omega
  · show br + 1 ≤ 2; omega
  · show 0 + 128 ≤ 128; omega
  · show 256 * j + 256 ≤ 5120; omega

theorem inb4 (j : ℕ) (hj : j < 20) : ∀ a, (![0, 256 * j] : Fin 2 → ℕ) a + S64x256.size a ≤ S64x5120.size a := by
  intro a; fin_cases a
  · show 0 + 64 ≤ 64; omega
  · show 256 * j + 256 ≤ 5120; omega

theorem inb5 (j : ℕ) (hj : j < 20) : ∀ a, (![0, 256 * j] : Fin 2 → ℕ) a + S1x256.size a ≤ S1x5120.size a := by
  intro a; fin_cases a
  · show 0 + 1 ≤ 1; omega
  · show 256 * j + 256 ≤ 5120; omega

theorem inb8 (j : ℕ) (hj : j < 20) : ∀ a, (![0, 0, 256 * j] : Fin 3 → ℕ) a + S1x1x256.size a ≤ S1x1x5120.size a := by
  intro a; fin_cases a
  · show 0 + 1 ≤ 1; omega
  · show 0 + 1 ≤ 1; omega
  · show 256 * j + 256 ≤ 5120; omega

theorem inb13 (j : ℕ) (hj : j < 2) : ∀ a, (![0, 0, 256 * j] : Fin 3 → ℕ) a + S1x128x256.size a ≤ S1x128x640.size a := by
  intro a; fin_cases a
  · show 0 + 1 ≤ 1; omega
  · show 0 + 128 ≤ 128; omega
  · show 256 * j + 256 ≤ 640; omega

theorem inb19 (br j : ℕ) (hb : br < 2) (hj : j < 20) : ∀ a, (![br, 0, 256 * j] : Fin 3 → ℕ) a + S1x128x256.size a ≤ S2x128x5120.size a := by
  intro a; fin_cases a
  · show br + 1 ≤ 2; omega
  · show 0 + 128 ≤ 128; omega
  · show 256 * j + 256 ≤ 5120; omega

theorem inb21 (br c : ℕ) (hb : br < 2) (hc : c < 40) : ∀ a, (![br, 0, c] : Fin 3 → ℕ) a + S1x128x1.size a ≤ S2x128x128.size a := by
  intro a; fin_cases a
  · show br + 1 ≤ 2; omega
  · show 0 + 128 ≤ 128; omega
  · show c + 1 ≤ 128; omega

theorem inb21w (br : ℕ) (hb : br < 2) : ∀ a, (![br, 0, 0] : Fin 3 → ℕ) a + S1x128x128.size a ≤ S2x128x128.size a := by
  intro a; fin_cases a
  · show br + 1 ≤ 2; omega
  · show 0 + 128 ≤ 128; omega
  · show 0 + 128 ≤ 128; omega

theorem inb15 (br : ℕ) (hb : br < 2) : ∀ a, (![0, br, 0, 0] : Fin 4 → ℕ) a + S1x1x40x128.size a ≤ S1x2x40x128.size a := by
  intro a; fin_cases a
  · show 0 + 1 ≤ 1; omega
  · show br + 1 ≤ 2; omega
  · show 0 + 40 ≤ 40; omega
  · show 0 + 128 ≤ 128; omega

theorem inb17 (br : ℕ) (hb : br < 2) : ∀ a, (![0, br, 0, 0] : Fin 4 → ℕ) a + S1x1x64x128.size a ≤ S1x2x64x128.size a := by
  intro a; fin_cases a
  · show 0 + 1 ≤ 1; omega
  · show br + 1 ≤ 2; omega
  · show 0 + 64 ≤ 64; omega
  · show 0 + 128 ≤ 128; omega

theorem inb18 (br : ℕ) (hb : br < 2) : ∀ a, (![0, br, 0] : Fin 3 → ℕ) a + S1x1x128.size a ≤ S1x2x128.size a := by
  intro a; fin_cases a
  · show 0 + 1 ≤ 1; omega
  · show br + 1 ≤ 2; omega
  · show 0 + 128 ≤ 128; omega

theorem packed (p : ℕ) (hp : p ∣ 128) (br j : ℕ) (hb : br < 2) (hj : j < 20) :
    (Rect.unit (s := S1x2x128x5120) ![0, br, 0, 256 * j] S1x1x128x256.size (inb7b br j hb hj)).PackedRows p := by
  have h2 : 2 ≤ S1x2x128x5120.rank := by decide
  refine Or.inr ⟨h2, rfl, Or.inl ⟨?_, ?_⟩⟩
  · exact dvd_zero p
  · exact hp

/-! ## The program -/

/-- The buffers the body works on. -/
structure Mems where
  a2 : Memref sig .tc .smem S1 .f32
  a3 : Memref sig .tc .vmem S1x64x128 .fp8e4m3
  a4 : Memref sig .tc .vmem S64x5120 .fp8e4m3
  a5 : Memref sig .tc .vmem S1x5120 .f32
  a6 : Memref sig .tc .vmem S1x5120 .f32
  a7 : Memref sig .tc .vmem S1x2x128x5120 .bf16
  a8 : Memref sig .tc .vmem S1x1x5120 .f32
  a9 : Memref sig .tc .vmem S1x1x5120 .f32
  a10 : Memref sig .tc .vmem S64x5120 .fp8e4m3
  a11 : Memref sig .tc .vmem S1x64 .f32
  a12 : Memref sig .tc .vmem S1x64 .f32
  a13 : Memref sig .tc .vmem S1x128x640 .f32
  a14 : Memref sig .tc .vmem S1x2x128x5120 .i8
  h14 : a14.IsWhole
  a15 : Memref sig .tc .vmem S1x2x40x128 .f32
  a16 : Memref sig .tc .vmem S1x2x128x5120 .fp8e4m3
  h16 : a16.IsWhole
  a17 : Memref sig .tc .vmem S1x2x64x128 .f32
  a18 : Memref sig .tc .vmem S1x2x128 .f32
  a19 : Memref sig .tc .vmem S2x128x5120 .f32
  a20 : Memref sig .tc .vmem S2x128x5120 .f32
  a21 : Memref sig .tc .vmem S2x128x128 .f32

/-- Programs of the body. -/
abbrev Pr (F : FTy → Type) := Prog (TpuEff nD τ sig (Elt F) Λ₀ .tc) PUnit

/-- The mean of the rows of branch `br`. -/
def meanP (M : Mems) (br : ℕ) (hb : br < 2) (K : FVec F S128x1 .f32 → Pr F) : Pr F :=
  loop 40 zero128 (fun c hc s k =>
      ldv M.a7 ![0, br, 0, 128 * c] S1x1x128x128.size (inb7a br c hb hc) h_S1x1x128x128 fun x => k (meanStep s x))
    fun s => K (rowMean s)

/-- The standard deviation of the rows of branch `br`. -/
def stdP (M : Mems) (br : ℕ) (hb : br < 2) (mu : FVec F S128x1 .f32) (K : FVec F S128x1 .f32 → Pr F) : Pr F :=
  loop 40 zero128 (fun c hc s k =>
      ldv M.a7 ![0, br, 0, 128 * c] S1x1x128x128.size (inb7a br c hb hc) h_S1x1x128x128 fun x => k (varStep mu s x))
    fun s => K (stdOf (rowMean s))

/-- Chunk `j` of the embedding. -/
def embP (M : Mems) (j : ℕ) (hj : j < 20) (pc : FVec F S128x64 .fp8e4m3) (K : FVec F S128x256 .f32 → Pr F) : Pr F :=
  ldv M.a4 ![0, 256 * j] S64x256.size (inb4 j hj) h_S64x256 fun w =>
  smemLoadElt M.a2 (Rect.unit (s := S1) ![0] S1.size inb_S1_S1_0) (View.loads_smem_one rfl numel1_S1)
    (Shape.Idx.first (numel1_S1.symm ▸ Nat.one_pos)) fun sp =>
  ldv M.a5 ![0, 256 * j] S1x256.size (inb5 j hj) h_S1x256 fun se =>
  ldv M.a6 ![0, 256 * j] S1x256.size (inb5 j hj) h_S1x256 fun be =>
  K (embChunk pc w sp se be)

/-- The part of chunk `j` of the embedding that is stored: the first 640 columns are. -/
def embStP (M : Mems) (j : ℕ) (e : FVec F S128x256 .f32) (K : Pr F) : Pr F :=
  if h : j < 2 then
    ldv M.a13 ![0, 0, 256 * j] S1x128x256.size (inb13 j h) h_S1x128x256 fun _ =>
    stv M.a13 ![0, 0, 256 * j] S1x128x256.size (inb13 j h) (pack256 e) (View.stores_vmem_bits_univ h_S1x128x256 rfl) K
  else if j = 2 then
    ldv M.a13 ![0, 0, 512] S1x128x128.size inb_S1x128x640_S1x128x128_0_0_512 h_S1x128x128 fun _ =>
    stv M.a13 ![0, 0, 512] S1x128x128.size inb_S1x128x640_S1x128x128_0_0_512
      (shapeCast S1x128x128 (lo128 e) shapeCasts_S128x128_S1x128x128) (View.stores_vmem_bits_univ h_S1x128x128 rfl) K
  else K

/-- Chunk `j` of branch `br`: its residuals and modulated states, and the running maximum. -/
def chunkP (M : Mems) (br : ℕ) (hb : br < 2) (j : ℕ) (hj : j < 20) (e : FVec F S128x256 .f32) (g : FVec F S1x256 .f32)
    (mu std : FVec F S128x1 .f32) (um : FVec F S128x128 .f32) (K : FVec F S128x128 .f32 → Pr F) : Pr F :=
  ldv M.a7 ![0, br, 0, 256 * j] S1x1x128x256.size (inb7b br j hb hj) h_S1x1x128x256 fun x =>
  ldv M.a19 ![br, 0, 256 * j] S1x128x256.size (inb19 br j hb hj) h_S1x128x256 fun _ =>
  stv M.a19 ![br, 0, 256 * j] S1x128x256.size (inb19 br j hb hj) (pack256 (subf (hid256 x) e)) (View.stores_vmem_bits_univ h_S1x128x256 rfl) <|
  ldv M.a21 ![br, 0, 2 * j] S1x128x1.size (inb21 br (2 * j) hb (by omega)) h_S1x128x1 fun _ =>
  stv M.a21 ![br, 0, 2 * j] S1x128x1.size (inb21 br (2 * j) hb (by omega)) (amLo (subf (hid256 x) e)) (View.stores_vmem_bits_univ h_S1x128x1 rfl) <|
  ldv M.a21 ![br, 0, 2 * j + 1] S1x128x1.size (inb21 br (2 * j + 1) hb (by omega)) h_S1x128x1 fun _ =>
  stv M.a21 ![br, 0, 2 * j + 1] S1x128x1.size (inb21 br (2 * j + 1) hb (by omega)) (amHi (subf (hid256 x) e)) (View.stores_vmem_bits_univ h_S1x128x1 rfl) <|
  ldv M.a8 ![0, 0, 256 * j] S1x1x256.size (inb8 j hj) h_S1x1x256 fun hs =>
  ldv M.a20 ![br, 0, 256 * j] S1x128x256.size (inb19 br j hb hj) h_S1x128x256 fun _ =>
  stv M.a20 ![br, 0, 256 * j] S1x128x256.size (inb19 br j hb hj) (pack256 (modChunk (hid256 x) mu std g hs)) (View.stores_vmem_bits_univ h_S1x128x256 rfl) <|
  K (umaxStep um (modChunk (hid256 x) mu std g hs))

/-- One trip of the first loop over chunks: both branches. -/
def tripP (M : Mems) (pc : FVec F S128x64 .fp8e4m3) (mu0 std0 mu1 std1 : FVec F S128x1 .f32) (j : ℕ) (hj : j < 20)
    (um : FVec F S128x128 .f32 × FVec F S128x128 .f32) (K : FVec F S128x128 .f32 × FVec F S128x128 .f32 → Pr F) : Pr F :=
  embP M j hj pc fun e =>
  embStP M j e <|
  ldv M.a9 ![0, 0, 256 * j] S1x1x256.size (inb8 j hj) h_S1x1x256 fun hsc =>
  chunkP M 0 (by omega) j hj e (gain hsc) mu0 std0 um.1 fun u0 =>
  chunkP M 1 (by omega) j hj e (gain hsc) mu1 std1 um.2 fun u1 =>
  K (u0, u1)

/-- One trip of the second loop over chunks, branch `br`. -/
def quantP (M : Mems) (br : ℕ) (hb : br < 2) (lhs : FVec F S128x128 .bf16) (ui : FVec F S128x1 .f32) (j : ℕ) (hj : j < 20)
    (acc : FVec F S128x64 .f32) (K : FVec F S128x64 .f32 → Pr F) : Pr F :=
  ldv M.a19 ![br, 0, 256 * j] S1x128x256.size (inb19 br j hb hj) h_S1x128x256 fun r =>
  ldv M.a14 ![0, br, 0, 256 * j] S1x1x128x256.size (inb7b br j hb hj) h_S1x1x128x256 fun _ =>
  stv M.a14 ![0, br, 0, 256 * j] S1x1x128x256.size (inb7b br j hb hj) (rcChunk lhs j r)
    (View.stores_vmem h_S1x1x128x256 (M.h14.storeExact_slice rfl _ (packed _ (by decide) br j hb hj)) (fun _ => rfl)) <|
  ldv M.a20 ![br, 0, 256 * j] S1x128x256.size (inb19 br j hb hj) h_S1x128x256 fun u =>
  ldv M.a16 ![0, br, 0, 256 * j] S1x1x128x256.size (inb7b br j hb hj) h_S1x1x128x256 fun _ =>
  stv M.a16 ![0, br, 0, 256 * j] S1x1x128x256.size (inb7b br j hb hj) (shapeCast S1x1x128x256 (hcChunk ui u) shapeCasts_S128x256_S1x1x128x256)
    (View.stores_vmem h_S1x1x128x256 (M.h16.storeExact_slice rfl _ (packed _ (by decide) br j hb hj)) (fun _ => rfl)) <|
  ldv M.a10 ![0, 256 * j] S64x256.size (inb4 j hj) h_S64x256 fun w =>
  K (headStep acc (hcChunk ui u) w)

/-- The second half of the body, for branch `br`. -/
def branchP (M : Mems) (br : ℕ) (hb : br < 2) (std : FVec F S128x1 .f32) (um : FVec F S128x128 .f32) (K : Pr F) : Pr F :=
  ldv M.a21 ![br, 0, 0] S1x128x128.size (inb21w br hb) h_S1x128x128 fun am =>
  loop 20 (broadcast S128x64 (Scalar.ofBits .f32 0x00000000#32))
    (quantP M br hb (split3 (recips (scales am))) (recip1 (uScale (rowMax um)))) fun acc =>
  ldv M.a11 ![0, 0] S1x64.size inb_S1x64_S1x64_0_0 h_S1x64 fun s =>
  ldv M.a12 ![0, 0] S1x64.size inb_S1x64_S1x64_0_0 h_S1x64 fun b =>
  ldv M.a15 ![0, br, 0, 0] S1x1x40x128.size (inb15 br hb) h_S1x1x40x128 fun _ =>
  stv M.a15 ![0, br, 0, 0] S1x1x40x128.size (inb15 br hb) (scalesT (scales am)) (View.stores_vmem_bits_univ h_S1x1x40x128 rfl) <|
  ldv M.a17 ![0, br, 0, 0] S1x1x64x128.size (inb17 br hb) h_S1x1x64x128 fun _ =>
  stv M.a17 ![0, br, 0, 0] S1x1x64x128.size (inb17 br hb) (outT acc (hScale (rowMax um) (uScale (rowMax um)) std) s b)
    (View.stores_vmem_bits_univ h_S1x1x64x128 rfl) <|
  ldv M.a18 ![0, br, 0] S1x1x128.size (inb18 br hb) h_S1x1x128 fun _ =>
  stv M.a18 ![0, br, 0] S1x1x128.size (inb18 br hb) (hScaleT (hScale (rowMax um) (uScale (rowMax um)) std)) (View.stores_vmem_bits_univ h_S1x1x128 rfl) K

/-- The kernel's body. -/
def bodyP (M : Mems) : Pr F :=
  ldv M.a3 ![0, 0, 0] S1x64x128.size inb_S1x64x128_S1x64x128_0_0_0 h_S1x64x128 fun x =>
  meanP M 0 (by omega) fun mu0 =>
  stdP M 0 (by omega) mu0 fun std0 =>
  meanP M 1 (by omega) fun mu1 =>
  stdP M 1 (by omega) mu1 fun std1 =>
  loop 20 ((zero128, zero128) : FVec F S128x128 .f32 × FVec F S128x128 .f32) (tripP M (pcodes x) mu0 std0 mu1 std1) fun um =>
  branchP M 0 (by omega) std0 um.1 <|
  branchP M 1 (by omega) std1 um.2 <|
  .ret ⟨⟩

end Cert.KernelIdeal.Fold

end
-- ==== Proof.TripleIdeal.lean ====
/-
  What the kernel's body leaves: every output window as a function of the input windows.
-/
module

public import proofs.«01_k».proof.Proof.FoldIdeal

@[expose] public section

set_option maxRecDepth 65536

noncomputable section

namespace Cert.KernelIdeal.Fold

open Cert.KernelIdeal Cert.KernelIdeal.Gen Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Steps VecWindow

variable {F : FTy → Type} [FloatOps F] [Named F]

local notation "𝕄" => MT nD τ sig Unit (Elt F) ℕ (UR sig nD τ) ℕ

/-! ## The input windows and what is computed from them -/

/-- The contents of the input windows. -/
structure Ins (F : FTy → Type) where
  x2 : S1.Idx → Elt F .f32
  x3 : S1x64x128.Idx → Elt F .fp8e4m3
  x4 : S64x5120.Idx → Elt F .fp8e4m3
  x5 : S1x5120.Idx → Elt F .f32
  x6 : S1x5120.Idx → Elt F .f32
  x7 : S1x2x128x5120.Idx → Elt F .bf16
  x8 : S1x1x5120.Idx → Elt F .f32
  x9 : S1x1x5120.Idx → Elt F .f32
  x10 : S64x5120.Idx → Elt F .fp8e4m3
  x11 : S1x64.Idx → Elt F .f32
  x12 : S1x64.Idx → Elt F .f32

/-- The sum behind the mean after `n` trips. -/
def meanAcc (x7 : S1x2x128x5120.Idx → Elt F .bf16) (br : ℕ) (hb : br < 2) : (n : ℕ) → n ≤ 40 → FVec F S128x128 .f32
  | 0, _ => zero128
  | n + 1, h => meanStep (meanAcc x7 br hb n (Nat.le_of_succ_le h)) (window x7 ![0, br, 0, 128 * n] S1x1x128x128.size (inb7a br n hb h))

/-- The rows' means, branch `br`. -/
def muX (x7 : S1x2x128x5120.Idx → Elt F .bf16) (br : ℕ) (hb : br < 2) : FVec F S128x1 .f32 := rowMean (meanAcc x7 br hb 40 le_rfl)

/-- The sum behind the variance after `n` trips. -/
def varAcc (x7 : S1x2x128x5120.Idx → Elt F .bf16) (br : ℕ) (hb : br < 2) (mu : FVec F S128x1 .f32) : (n : ℕ) → n ≤ 40 → FVec F S128x128 .f32
  | 0, _ => zero128
  | n + 1, h => varStep mu (varAcc x7 br hb mu n (Nat.le_of_succ_le h)) (window x7 ![0, br, 0, 128 * n] S1x1x128x128.size (inb7a br n hb h))

/-- The rows' standard deviations, branch `br`. -/
def sdX (x7 : S1x2x128x5120.Idx → Elt F .bf16) (br : ℕ) (hb : br < 2) : FVec F S128x1 .f32 :=
  stdOf (rowMean (varAcc x7 br hb (muX x7 br hb) 40 le_rfl))

/-- Chunk `j` of the embedding. -/
def embX (X : Ins F) (j : ℕ) (hj : j < 20) : FVec F S128x256 .f32 :=
  embChunk (pcodes (window X.x3 ![0, 0, 0] S1x64x128.size inb_S1x64x128_S1x64x128_0_0_0)) (window X.x4 ![0, 256 * j] S64x256.size (inb4 j hj))
    (window X.x2 ![0] S1.size inb_S1_S1_0 (Shape.Idx.first (numel1_S1.symm ▸ Nat.one_pos)))
    (window X.x5 ![0, 256 * j] S1x256.size (inb5 j hj)) (window X.x6 ![0, 256 * j] S1x256.size (inb5 j hj))

/-- Chunk `j` of the hidden states, branch `br`. -/
def hidX (X : Ins F) (br j : ℕ) (hb : br < 2) (hj : j < 20) : FVec F S128x256 .f32 :=
  hid256 (window X.x7 ![0, br, 0, 256 * j] S1x1x128x256.size (inb7b br j hb hj))

/-- Chunk `j` of the residuals, branch `br`. -/
def resX (X : Ins F) (br j : ℕ) (hb : br < 2) (hj : j < 20) : FVec F S128x256 .f32 := subf (hidX X br j hb hj) (embX X j hj)

/-- Chunk `j` of the modulated states, branch `br`. -/
def modX (X : Ins F) (br j : ℕ) (hb : br < 2) (hj : j < 20) : FVec F S128x256 .f32 :=
  modChunk (hidX X br j hb hj) (muX X.x7 br hb) (sdX X.x7 br hb) (gain (window X.x9 ![0, 0, 256 * j] S1x1x256.size (inb8 j hj)))
    (window X.x8 ![0, 0, 256 * j] S1x1x256.size (inb8 j hj))

/-- The running maximum after `n` chunks. -/
def umX (X : Ins F) (br : ℕ) (hb : br < 2) : (n : ℕ) → n ≤ 20 → FVec F S128x128 .f32
  | 0, _ => zero128
  | n + 1, h => umaxStep (umX X br hb n (Nat.le_of_succ_le h)) (modX X br n hb h)

/-- The rows' maxima. -/
def umaxX (X : Ins F) (br : ℕ) (hb : br < 2) : FVec F S128x1 .f32 := rowMax (umX X br hb 20 le_rfl)

/-- The codes of chunk `j` of the modulated states. -/
def hcX (X : Ins F) (br j : ℕ) (hb : br < 2) (hj : j < 20) : FVec F S128x256 .fp8e4m3 :=
  hcChunk (recip1 (uScale (umaxX X br hb))) (pack256 (modX X br j hb hj))

/-- The head's product after `n` chunks. -/
def accX (X : Ins F) (br : ℕ) (hb : br < 2) : (n : ℕ) → n ≤ 20 → FVec F S128x64 .f32
  | 0, _ => broadcast S128x64 (Scalar.ofBits .f32 0x00000000#32)
  | n + 1, h => headStep (accX X br hb n (Nat.le_of_succ_le h)) (hcX X br n hb h) (window X.x10 ![0, 256 * n] S64x256.size (inb4 n h))

/-- The head's scales. -/
def hsX (X : Ins F) (br : ℕ) (hb : br < 2) : FVec F S128x1 .f32 := hScale (umaxX X br hb) (uScale (umaxX X br hb)) (sdX X.x7 br hb)

/-! ## Arrays known by their windows -/

/-- The first `n` chunks of both branches of a scratch array are `w`'s. -/
def Has3 {α : Type} (w : (br j : ℕ) → br < 2 → j < 20 → (⟨S2x128x5120.rank, S1x128x256.size⟩ : Shape).Idx → α) (n : ℕ) (R : S2x128x5120.Idx → α) : Prop :=
  ∀ br j hb hj, j < n → window R ![br, 0, 256 * j] S1x128x256.size (inb19 br j hb hj) = w br j hb hj

theorem Has3.step {α : Type} {w : (br j : ℕ) → br < 2 → j < 20 → (⟨S2x128x5120.rank, S1x128x256.size⟩ : Shape).Idx → α} {n : ℕ} {R : S2x128x5120.Idx → α}
    (h : Has3 w n R) (hn : n < 20) :
    Has3 w (n + 1) (put (put R ![0, 0, 256 * n] S1x128x256.size (w 0 n (by omega) hn)) ![1, 0, 256 * n] S1x128x256.size (w 1 n (by omega) hn)) := by
  intro br j hb hj hjn
  by_cases hjn' : j = n
  · subst hjn'
    by_cases h1 : br = 1
    · subst h1; exact window_put_same _ _ _ _ _
    · obtain rfl : br = 0 := by omega
      rw [window_put_of_disjoint _ _ _ _ _ _ _ (0 : Fin 3) (Or.inl (show 0 + 1 ≤ 1 by omega))]
      exact window_put_same _ _ _ _ _
  · have hlt : j < n := by omega
    rw [window_put_of_disjoint _ _ _ _ _ _ _ (2 : Fin 3) (Or.inl (show 256 * j + 256 ≤ 256 * n by omega)),
      window_put_of_disjoint _ _ _ _ _ _ _ (2 : Fin 3) (Or.inl (show 256 * j + 256 ≤ 256 * n by omega))]
    exact h br j hb hj hlt

/-- The first `2 n` columns of both branches of the scratch of group maxima are known. -/
def HasZ {α : Type} (lo hi : (br j : ℕ) → br < 2 → j < 20 → (⟨S2x128x128.rank, S1x128x1.size⟩ : Shape).Idx → α) (n : ℕ) (Z : S2x128x128.Idx → α) : Prop :=
  ∀ br j (hb : br < 2) (hj : j < 20), j < n → window Z ![br, 0, 2 * j] S1x128x1.size (inb21 br (2 * j) hb (by omega)) = lo br j hb hj
    ∧ window Z ![br, 0, 2 * j + 1] S1x128x1.size (inb21 br (2 * j + 1) hb (by omega)) = hi br j hb hj

/-- The two columns of a chunk written, one branch. -/
def putZ {α : Type} (br j : ℕ) (lo hi : (⟨S2x128x128.rank, S1x128x1.size⟩ : Shape).Idx → α) (Z : S2x128x128.Idx → α) : S2x128x128.Idx → α :=
  put (put Z ![br, 0, 2 * j] S1x128x1.size lo) ![br, 0, 2 * j + 1] S1x128x1.size hi

theorem HasZ.step {α : Type} {lo hi : (br j : ℕ) → br < 2 → j < 20 → (⟨S2x128x128.rank, S1x128x1.size⟩ : Shape).Idx → α} {n : ℕ} {Z : S2x128x128.Idx → α}
    (h : HasZ lo hi n Z) (hn : n < 20) :
    HasZ lo hi (n + 1) (putZ 1 n (lo 1 n (by omega) hn) (hi 1 n (by omega) hn) (putZ 0 n (lo 0 n (by omega) hn) (hi 0 n (by omega) hn) Z)) := by
  intro br j hb hj hjn
  unfold putZ
  by_cases hjn' : j = n
  · subst hjn'
    by_cases h1 : br = 1
    · subst h1
      refine ⟨?_, window_put_same _ _ _ _ _⟩
      rw [window_put_of_disjoint _ _ _ _ _ _ _ (2 : Fin 3) (Or.inl (show 2 * j + 1 ≤ 2 * j + 1 by omega))]
      exact window_put_same _ _ _ _ _
    · obtain rfl : br = 0 := by omega
      constructor
      · rw [window_put_of_disjoint _ _ _ _ _ _ _ (0 : Fin 3) (Or.inl (show 0 + 1 ≤ 1 by omega)),
          window_put_of_disjoint _ _ _ _ _ _ _ (0 : Fin 3) (Or.inl (show 0 + 1 ≤ 1 by omega)),
          window_put_of_disjoint _ _ _ _ _ _ _ (2 : Fin 3) (Or.inl (show 2 * j + 1 ≤ 2 * j + 1 by omega))]
        exact window_put_same _ _ _ _ _
      · rw [window_put_of_disjoint _ _ _ _ _ _ _ (0 : Fin 3) (Or.inl (show 0 + 1 ≤ 1 by omega)),
          window_put_of_disjoint _ _ _ _ _ _ _ (0 : Fin 3) (Or.inl (show 0 + 1 ≤ 1 by omega))]
        exact window_put_same _ _ _ _ _
  · have hlt : j < n := by omega
    constructor
    · rw [window_put_of_disjoint _ _ _ _ _ _ _ (2 : Fin 3) (Or.inl (show 2 * j + 1 ≤ 2 * n + 1 by omega)),
        window_put_of_disjoint _ _ _ _ _ _ _ (2 : Fin 3) (Or.inl (show 2 * j + 1 ≤ 2 * n by omega)),
        window_put_of_disjoint _ _ _ _ _ _ _ (2 : Fin 3) (Or.inl (show 2 * j + 1 ≤ 2 * n + 1 by omega)),
        window_put_of_disjoint _ _ _ _ _ _ _ (2 : Fin 3) (Or.inl (show 2 * j + 1 ≤ 2 * n by omega))]
      exact (h br j hb hj hlt).1
    · rw [window_put_of_disjoint _ _ _ _ _ _ _ (2 : Fin 3) (Or.inl (show 2 * j + 1 + 1 ≤ 2 * n + 1 by omega)),
        window_put_of_disjoint _ _ _ _ _ _ _ (2 : Fin 3) (Or.inl (show 2 * j + 1 + 1 ≤ 2 * n by omega)),
        window_put_of_disjoint _ _ _ _ _ _ _ (2 : Fin 3) (Or.inl (show 2 * j + 1 + 1 ≤ 2 * n + 1 by omega)),
        window_put_of_disjoint _ _ _ _ _ _ _ (2 : Fin 3) (Or.inl (show 2 * j + 1 + 1 ≤ 2 * n by omega))]
      exact (h br j hb hj hlt).2

/-- The part of the embedding that is stored, after chunk `j`. -/
def embSt (Y : S1x128x640.Idx → Elt F .f32) (j : ℕ) (e : FVec F S128x256 .f32) : S1x128x640.Idx → Elt F .f32 :=
  if j < 2 then put Y ![0, 0, 256 * j] S1x128x256.size (pack256 e)
  else if j = 2 then put Y ![0, 0, 512] S1x128x128.size (shapeCast S1x128x128 (lo128 e) shapeCasts_S128x128_S1x128x128)
  else Y

/-- The stored part of the embedding after `n` chunks. -/
def HasE (X : Ins F) (n : ℕ) (Y : S1x128x640.Idx → Elt F .f32) : Prop :=
  (∀ j (hj : j < 2), j < n → window Y ![0, 0, 256 * j] S1x128x256.size (inb13 j hj) = pack256 (embX X j (by omega)))
  ∧ (2 < n → window Y ![0, 0, 512] S1x128x128.size inb_S1x128x640_S1x128x128_0_0_512
      = shapeCast S1x128x128 (lo128 (embX X 2 (by omega))) shapeCasts_S128x128_S1x128x128)

theorem HasE.step {X : Ins F} {n : ℕ} {Y : S1x128x640.Idx → Elt F .f32} (h : HasE X n Y) (hn : n < 20) :
    HasE X (n + 1) (embSt Y n (embX X n hn)) := by
  unfold embSt
  split
  · rename_i h2
    refine ⟨fun j hj hjn => ?_, fun hc => absurd hc (by omega)⟩
    by_cases hjn' : j = n
    · subst hjn'; exact window_put_same _ _ _ _ _
    · rw [window_put_of_disjoint _ _ _ _ _ _ _ (2 : Fin 3) (Or.inl (show 256 * j + 256 ≤ 256 * n by omega))]
      exact h.1 j hj (by omega)
  · split
    · rename_i h2 h3
      subst h3
      refine ⟨fun j hj hjn => ?_, fun hc => window_put_same _ _ _ _ _⟩
      rw [window_put_of_disjoint _ _ _ _ _ _ _ (2 : Fin 3) (Or.inl (show 256 * j + 256 ≤ 512 by omega))]
      exact h.1 j hj (by omega)
    · exact ⟨fun j hj hjn => h.1 j hj (by omega), fun hc => h.2 (by omega)⟩

/-- The first `n` chunks of branch `br` are `w`'s; the other branch is `C₀`'s. -/
def Has4 {α : Type} (br : ℕ) (hb : br < 2) (w : (j : ℕ) → j < 20 → (⟨S1x2x128x5120.rank, S1x1x128x256.size⟩ : Shape).Idx → α)
    (C₀ : S1x2x128x5120.Idx → α) (n : ℕ) (C : S1x2x128x5120.Idx → α) : Prop :=
  (∀ j hj, j < n → window C ![0, br, 0, 256 * j] S1x1x128x256.size (inb7b br j hb hj) = w j hj)
  ∧ ∀ br' hb' j hj, br' ≠ br → window C ![0, br', 0, 256 * j] S1x1x128x256.size (inb7b br' j hb' hj)
      = window C₀ ![0, br', 0, 256 * j] S1x1x128x256.size (inb7b br' j hb' hj)

theorem Has4.zero {α : Type} (br : ℕ) (hb : br < 2) (w : (j : ℕ) → j < 20 → (⟨S1x2x128x5120.rank, S1x1x128x256.size⟩ : Shape).Idx → α)
    (C₀ : S1x2x128x5120.Idx → α) : Has4 br hb w C₀ 0 C₀ := ⟨fun _ _ h => absurd h (Nat.not_lt_zero _), fun _ _ _ _ _ => rfl⟩

theorem Has4.step {α : Type} {br : ℕ} {hb : br < 2} {w : (j : ℕ) → j < 20 → (⟨S1x2x128x5120.rank, S1x1x128x256.size⟩ : Shape).Idx → α}
    {C₀ C : S1x2x128x5120.Idx → α} {n : ℕ} (h : Has4 br hb w C₀ n C) (hn : n < 20) :
    Has4 br hb w C₀ (n + 1) (put C ![0, br, 0, 256 * n] S1x1x128x256.size (w n hn)) := by
  refine ⟨fun j hj hjn => ?_, fun br' hb' j hj hne => ?_⟩
  · by_cases hjn' : j = n
    · subst hjn'; exact window_put_same _ _ _ _ _
    · rw [window_put_of_disjoint _ _ _ _ _ _ _ (3 : Fin 4) (Or.inl (show 256 * j + 256 ≤ 256 * n by omega))]
      exact h.1 j hj (by omega)
  · rw [window_put_of_disjoint _ _ _ _ _ _ _ (1 : Fin 4) (show br' + 1 ≤ br ∨ br + 1 ≤ br' by omega)]
    exact h.2 br' hb' j hj hne

/-! ## What each part of the program leaves -/

variable {defs : Defs nD τ sig (Elt F) Λ₀} (𝒱 : Variants) (c : Dev nD) (bd : Option 𝒱.V) (E : Set ℕ)

variable {Q : PUnit → sProp (MT nD τ sig Unit (Elt F) ℕ (UR sig nD τ) ℕ)}

/-- The mean's loop reads the hidden states and continues at the mean. -/
theorem wp_meanP (M : Mems) (x7 : S1x2x128x5120.Idx → Elt F .bf16) (br : ℕ) (hb : br < 2) (K : FVec F S128x1 .f32 → Pr F) :
    (owns (c.tc : Thread nD τ) M.a7 fullShare x7 : sProp 𝕄)
      ⊢ iprop((owns (c.tc : Thread nD τ) M.a7 fullShare x7 -∗ wp frame (wpE defs 𝒱 (c.tc : Thread nD τ) bd) E (K (muX x7 br hb)) Q)
        -∗ wp frame (wpE defs 𝒱 (c.tc : Thread nD τ) bd) E (meanP M br hb K) Q) := by
  unfold meanP
  have hL := wp_loop 𝒱 c bd E (defs := defs) (Q := Q) (n := 40) (a := (zero128 : FVec F S128x128 .f32))
    (body := fun c hc s k => ldv M.a7 ![0, br, 0, 128 * c] S1x1x128x128.size (inb7a br c hb hc) h_S1x1x128x128 fun x => k (meanStep s x))
    (K := fun s => K (rowMean s))
    (fun i a => iprop(⌜∃ h : i ≤ 40, a = meanAcc x7 br hb i h⌝ ∗ owns (c.tc : Thread nD τ) M.a7 fullShare x7)) (by
      intro i hi a k
      iintro ⟨%ha, H⟩ HK
      obtain ⟨h, rfl⟩ := ha
      have hl := wp_ldv 𝒱 c bd E (defs := defs) (Q := Q) (m := M.a7) (off := ![0, br, 0, 128 * i]) (size := S1x1x128x128.size)
        (inb := inb7a br i hb hi) (h := h_S1x1x128x128) (k := fun x => k (meanStep (meanAcc x7 br hb i h) x)) (q := fullShare) (X := x7)
      iapply hl $$ H
      iintro H
      iapply HK
      isplitr
      · ipureintro; exact ⟨hi, rfl⟩
      · iexact H)
  iintro H HK
  iapply hL $$ [H]
  · isplitr
    · ipureintro; exact ⟨Nat.zero_le _, rfl⟩
    · iexact H
  iintro %r ⟨%hr, H⟩
  obtain ⟨-, rfl⟩ := hr
  iapply HK
  iexact H

/-- The standard deviation's loop reads the hidden states and continues at the standard deviation. -/
theorem wp_stdP (M : Mems) (x7 : S1x2x128x5120.Idx → Elt F .bf16) (br : ℕ) (hb : br < 2) (K : FVec F S128x1 .f32 → Pr F) :
    (owns (c.tc : Thread nD τ) M.a7 fullShare x7 : sProp 𝕄)
      ⊢ iprop((owns (c.tc : Thread nD τ) M.a7 fullShare x7 -∗ wp frame (wpE defs 𝒱 (c.tc : Thread nD τ) bd) E (K (sdX x7 br hb)) Q)
        -∗ wp frame (wpE defs 𝒱 (c.tc : Thread nD τ) bd) E (stdP M br hb (muX x7 br hb) K) Q) := by
  unfold stdP
  have hL := wp_loop 𝒱 c bd E (defs := defs) (Q := Q) (n := 40) (a := (zero128 : FVec F S128x128 .f32))
    (body := fun c hc s k => ldv M.a7 ![0, br, 0, 128 * c] S1x1x128x128.size (inb7a br c hb hc) h_S1x1x128x128 fun x =>
      k (varStep (muX x7 br hb) s x))
    (K := fun s => K (stdOf (rowMean s)))
    (fun i a => iprop(⌜∃ h : i ≤ 40, a = varAcc x7 br hb (muX x7 br hb) i h⌝ ∗ owns (c.tc : Thread nD τ) M.a7 fullShare x7)) (by
      intro i hi a k
      iintro ⟨%ha, H⟩ HK
      obtain ⟨h, rfl⟩ := ha
      iapply (wp_ldv 𝒱 c bd E) $$ H
      iintro H
      iapply HK
      isplitr
      · ipureintro; exact ⟨hi, rfl⟩
      · iexact H)
  iintro H HK
  iapply hL $$ [H]
  · isplitr
    · ipureintro; exact ⟨Nat.zero_le _, rfl⟩
    · iexact H
  iintro %r ⟨%hr, H⟩
  obtain ⟨-, rfl⟩ := hr
  iapply HK
  iexact H

/-- A chunk of the embedding is read and computed. -/
theorem wp_embP (M : Mems) (X : Ins F) (j : ℕ) (hj : j < 20) (K : FVec F S128x256 .f32 → Pr F) :
    (iprop(owns (c.tc : Thread nD τ) M.a4 fullShare X.x4 ∗ owns (c.tc : Thread nD τ) M.a2 fullShare X.x2
        ∗ owns (c.tc : Thread nD τ) M.a5 fullShare X.x5 ∗ owns (c.tc : Thread nD τ) M.a6 fullShare X.x6) : sProp 𝕄)
      ⊢ iprop(((owns (c.tc : Thread nD τ) M.a4 fullShare X.x4 ∗ owns (c.tc : Thread nD τ) M.a2 fullShare X.x2
          ∗ owns (c.tc : Thread nD τ) M.a5 fullShare X.x5 ∗ owns (c.tc : Thread nD τ) M.a6 fullShare X.x6)
          -∗ wp frame (wpE defs 𝒱 (c.tc : Thread nD τ) bd) E (K (embX X j hj)) Q)
        -∗ wp frame (wpE defs 𝒱 (c.tc : Thread nD τ) bd) E
          (embP M j hj (pcodes (window X.x3 ![0, 0, 0] S1x64x128.size inb_S1x64x128_S1x64x128_0_0_0)) K) Q) := by
  unfold embP embX
  iintro ⟨H4, H2, H5, H6⟩ HK
  iapply (wp_ldv 𝒱 c bd E) $$ H4
  iintro H4
  iapply (wp_smem 𝒱 c bd E) $$ H2
  iintro H2
  iapply (wp_ldv 𝒱 c bd E) $$ H5
  iintro H5
  iapply (wp_ldv 𝒱 c bd E) $$ H6
  iintro H6
  iapply HK
  isplitl [H4]; · iexact H4
  isplitl [H2]; · iexact H2
  isplitl [H5]; · iexact H5
  iexact H6

/-- The embedding's stored part. -/
theorem wp_embStP (M : Mems) (Y : S1x128x640.Idx → Elt F .f32) (j : ℕ) (e : FVec F S128x256 .f32) (K : Pr F) :
    (owns (c.tc : Thread nD τ) M.a13 fullShare Y : sProp 𝕄)
      ⊢ iprop((owns (c.tc : Thread nD τ) M.a13 fullShare (embSt Y j e) -∗ wp frame (wpE defs 𝒱 (c.tc : Thread nD τ) bd) E K Q)
        -∗ wp frame (wpE defs 𝒱 (c.tc : Thread nD τ) bd) E (embStP M j e K) Q) := by
  unfold embStP embSt
  split
  · rename_i h2
    iintro H HK
    iapply (wp_ldv 𝒱 c bd E) $$ H
    iintro H
    iapply (wp_stv 𝒱 c bd E) $$ H
    iexact HK
  · split
    · iintro H HK
      iapply (wp_ldv 𝒱 c bd E) $$ H
      iintro H
      iapply (wp_stv 𝒱 c bd E) $$ H
      iexact HK
    · iintro H HK
      iapply HK
      iexact H

/-- One branch's part of a trip: the residuals, their group maxima and the modulated states are stored. -/
theorem wp_chunkP (M : Mems) (x7 : S1x2x128x5120.Idx → Elt F .bf16) (x8 : S1x1x5120.Idx → Elt F .f32)
    (R U : S2x128x5120.Idx → Elt F .f32) (Z : S2x128x128.Idx → Elt F .f32)
    (br : ℕ) (hb : br < 2) (j : ℕ) (hj : j < 20) (e : FVec F S128x256 .f32) (g : FVec F S1x256 .f32)
    (mu std : FVec F S128x1 .f32) (um : FVec F S128x128 .f32) (K : FVec F S128x128 .f32 → Pr F) :
    (iprop(owns (c.tc : Thread nD τ) M.a7 fullShare x7 ∗ owns (c.tc : Thread nD τ) M.a8 fullShare x8
        ∗ owns (c.tc : Thread nD τ) M.a19 fullShare R ∗ owns (c.tc : Thread nD τ) M.a20 fullShare U
        ∗ owns (c.tc : Thread nD τ) M.a21 fullShare Z) : sProp 𝕄)
      ⊢ iprop(((owns (c.tc : Thread nD τ) M.a7 fullShare x7 ∗ owns (c.tc : Thread nD τ) M.a8 fullShare x8
          ∗ owns (c.tc : Thread nD τ) M.a19 fullShare (put R ![br, 0, 256 * j] S1x128x256.size
              (pack256 (subf (hid256 (window x7 ![0, br, 0, 256 * j] S1x1x128x256.size (inb7b br j hb hj))) e)))
          ∗ owns (c.tc : Thread nD τ) M.a20 fullShare (put U ![br, 0, 256 * j] S1x128x256.size
              (pack256 (modChunk (hid256 (window x7 ![0, br, 0, 256 * j] S1x1x128x256.size (inb7b br j hb hj))) mu std g
                (window x8 ![0, 0, 256 * j] S1x1x256.size (inb8 j hj)))))
          ∗ owns (c.tc : Thread nD τ) M.a21 fullShare (putZ br j
              (amLo (subf (hid256 (window x7 ![0, br, 0, 256 * j] S1x1x128x256.size (inb7b br j hb hj))) e))
              (amHi (subf (hid256 (window x7 ![0, br, 0, 256 * j] S1x1x128x256.size (inb7b br j hb hj))) e)) Z))
          -∗ wp frame (wpE defs 𝒱 (c.tc : Thread nD τ) bd) E
            (K (umaxStep um (modChunk (hid256 (window x7 ![0, br, 0, 256 * j] S1x1x128x256.size (inb7b br j hb hj))) mu std g
                (window x8 ![0, 0, 256 * j] S1x1x256.size (inb8 j hj))))) Q)
        -∗ wp frame (wpE defs 𝒱 (c.tc : Thread nD τ) bd) E (chunkP M br hb j hj e g mu std um K) Q) := by
  unfold chunkP putZ
  iintro ⟨H7, H8, H19, H20, H21⟩ HK
  iapply (wp_ldv 𝒱 c bd E) $$ H7
  iintro H7
  iapply (wp_ldv 𝒱 c bd E) $$ H19
  iintro H19
  iapply (wp_stv 𝒱 c bd E) $$ H19
  iintro H19
  iapply (wp_ldv 𝒱 c bd E) $$ H21
  iintro H21
  iapply (wp_stv 𝒱 c bd E) $$ H21
  iintro H21
  iapply (wp_ldv 𝒱 c bd E) $$ H21
  iintro H21
  iapply (wp_stv 𝒱 c bd E) $$ H21
  iintro H21
  iapply (wp_ldv 𝒱 c bd E) $$ H8
  iintro H8
  iapply (wp_ldv 𝒱 c bd E) $$ H20
  iintro H20
  iapply (wp_stv 𝒱 c bd E) $$ H20
  iintro H20
  iapply HK
  isplitl [H7]; · iexact H7
  isplitl [H8]; · iexact H8
  isplitl [H19]; · iexact H19
  isplitl [H20]; · iexact H20
  iexact H21

/-- What the first loop over chunks works on, after `n` trips. -/
def tripInv (M : Mems) (X : Ins F) (n : ℕ) (um : FVec F S128x128 .f32 × FVec F S128x128 .f32) : sProp (MT nD τ sig Unit (Elt F) ℕ (UR sig nD τ) ℕ) :=
  iprop(⌜∃ h : n ≤ 20, um = (umX X 0 (by omega) n h, umX X 1 (by omega) n h)⌝
    ∗ owns (c.tc : Thread nD τ) M.a2 fullShare X.x2 ∗ owns (c.tc : Thread nD τ) M.a4 fullShare X.x4
    ∗ owns (c.tc : Thread nD τ) M.a5 fullShare X.x5 ∗ owns (c.tc : Thread nD τ) M.a6 fullShare X.x6
    ∗ owns (c.tc : Thread nD τ) M.a7 fullShare X.x7 ∗ owns (c.tc : Thread nD τ) M.a8 fullShare X.x8
    ∗ owns (c.tc : Thread nD τ) M.a9 fullShare X.x9
    ∗ (∃ Y, ⌜HasE X n Y⌝ ∗ owns (c.tc : Thread nD τ) M.a13 fullShare Y)
    ∗ (∃ R, ⌜Has3 (fun br j hb hj => pack256 (resX X br j hb hj)) n R⌝ ∗ owns (c.tc : Thread nD τ) M.a19 fullShare R)
    ∗ (∃ U, ⌜Has3 (fun br j hb hj => pack256 (modX X br j hb hj)) n U⌝ ∗ owns (c.tc : Thread nD τ) M.a20 fullShare U)
    ∗ (∃ Z, ⌜HasZ (fun br j hb hj => amLo (resX X br j hb hj)) (fun br j hb hj => amHi (resX X br j hb hj)) n Z⌝
        ∗ owns (c.tc : Thread nD τ) M.a21 fullShare Z))

/-- One trip of the first loop over chunks. -/
theorem wp_tripP (M : Mems) (X : Ins F) (i : ℕ) (hi : i < 20) (a : FVec F S128x128 .f32 × FVec F S128x128 .f32)
    (k : FVec F S128x128 .f32 × FVec F S128x128 .f32 → Pr F) :
    tripInv c M X i a
      ⊢ iprop((∀ a', tripInv c M X (i + 1) a' -∗ wp frame (wpE defs 𝒱 (c.tc : Thread nD τ) bd) E (k a') Q)
        -∗ wp frame (wpE defs 𝒱 (c.tc : Thread nD τ) bd) E
          (tripP M (pcodes (window X.x3 ![0, 0, 0] S1x64x128.size inb_S1x64x128_S1x64x128_0_0_0))
            (muX X.x7 0 (by omega)) (sdX X.x7 0 (by omega)) (muX X.x7 1 (by omega)) (sdX X.x7 1 (by omega)) i hi a k) Q) := by
  unfold tripInv tripP
  iintro ⟨%ha, H2, H4, H5, H6, H7, H8, H9, ⟨%Y, %hY, H13⟩, ⟨%R, %hR, H19⟩, ⟨%U, %hU, H20⟩, ⟨%Z, %hZ, H21⟩⟩ HK
  obtain ⟨h, rfl⟩ := ha
  iapply (wp_embP 𝒱 c bd E M X i hi) $$ [H4 H2 H5 H6]
  · isplitl [H4]; · iexact H4
    isplitl [H2]; · iexact H2
    isplitl [H5]; · iexact H5
    iexact H6
  iintro ⟨H4, H2, H5, H6⟩
  iapply (wp_embStP 𝒱 c bd E M Y i) $$ H13
  iintro H13
  iapply (wp_ldv 𝒱 c bd E) $$ H9
  iintro H9
  iapply (wp_chunkP 𝒱 c bd E M X.x7 X.x8 R U Z) $$ [H7 H8 H19 H20 H21]
  · isplitl [H7]; · iexact H7
    isplitl [H8]; · iexact H8
    isplitl [H19]; · iexact H19
    isplitl [H20]; · iexact H20
    iexact H21
  iintro ⟨H7, H8, H19, H20, H21⟩
  iapply (wp_chunkP 𝒱 c bd E M X.x7 X.x8) $$ [H7 H8 H19 H20 H21]
  · isplitl [H7]; · iexact H7
    isplitl [H8]; · iexact H8
    isplitl [H19]; · iexact H19
    isplitl [H20]; · iexact H20
    iexact H21
  iintro ⟨H7, H8, H19, H20, H21⟩
  iapply HK
  isplitr
  · ipureintro; exact ⟨hi, rfl⟩
  isplitl [H2]; · iexact H2
  isplitl [H4]; · iexact H4
  isplitl [H5]; · iexact H5
  isplitl [H6]; · iexact H6
  isplitl [H7]; · iexact H7
  isplitl [H8]; · iexact H8
  isplitl [H9]; · iexact H9
  isplitl [H13]
  · iexists _
    isplitr [H13]
    rotate_left
    · iexact H13
    · ipureintro; exact hY.step hi
  isplitl [H19]
  · iexists _
    isplitr [H19]
    rotate_left
    · iexact H19
    · ipureintro; exact hR.step hi
  isplitl [H20]
  · iexists _
    isplitr [H20]
    rotate_left
    · iexact H20
    · ipureintro; exact hU.step hi
  · iexists _
    isplitr [H21]
    rotate_left
    · iexact H21
    · ipureintro; exact hZ.step hi

/-- One trip of the second loop over chunks: the residuals' codes and the modulated states' codes are stored. -/
theorem wp_quantP (M : Mems) (x10 : S64x5120.Idx → Elt F .fp8e4m3) (R U : S2x128x5120.Idx → Elt F .f32)
    (C : S1x2x128x5120.Idx → Elt F .i8) (H : S1x2x128x5120.Idx → Elt F .fp8e4m3)
    (br : ℕ) (hb : br < 2) (lhs : FVec F S128x128 .bf16) (ui : FVec F S128x1 .f32) (j : ℕ) (hj : j < 20) (acc : FVec F S128x64 .f32)
    (K : FVec F S128x64 .f32 → Pr F) :
    (iprop(owns (c.tc : Thread nD τ) M.a10 fullShare x10 ∗ owns (c.tc : Thread nD τ) M.a19 fullShare R
        ∗ owns (c.tc : Thread nD τ) M.a20 fullShare U ∗ owns (c.tc : Thread nD τ) M.a14 fullShare C
        ∗ owns (c.tc : Thread nD τ) M.a16 fullShare H) : sProp 𝕄)
      ⊢ iprop(((owns (c.tc : Thread nD τ) M.a10 fullShare x10 ∗ owns (c.tc : Thread nD τ) M.a19 fullShare R
          ∗ owns (c.tc : Thread nD τ) M.a20 fullShare U
          ∗ owns (c.tc : Thread nD τ) M.a14 fullShare (put C ![0, br, 0, 256 * j] S1x1x128x256.size
              (rcChunk lhs j (window R ![br, 0, 256 * j] S1x128x256.size (inb19 br j hb hj))))
          ∗ owns (c.tc : Thread nD τ) M.a16 fullShare (put H ![0, br, 0, 256 * j] S1x1x128x256.size
              (shapeCast S1x1x128x256 (hcChunk ui (window U ![br, 0, 256 * j] S1x128x256.size (inb19 br j hb hj))) shapeCasts_S128x256_S1x1x128x256)))
          -∗ wp frame (wpE defs 𝒱 (c.tc : Thread nD τ) bd) E
            (K (headStep acc (hcChunk ui (window U ![br, 0, 256 * j] S1x128x256.size (inb19 br j hb hj)))
              (window x10 ![0, 256 * j] S64x256.size (inb4 j hj)))) Q)
        -∗ wp frame (wpE defs 𝒱 (c.tc : Thread nD τ) bd) E (quantP M br hb lhs ui j hj acc K) Q) := by
  unfold quantP
  iintro ⟨H10, H19, H20, H14, H16⟩ HK
  iapply (wp_ldv 𝒱 c bd E) $$ H19
  iintro H19
  iapply (wp_ldv 𝒱 c bd E) $$ H14
  iintro H14
  iapply (wp_stv 𝒱 c bd E) $$ H14
  iintro H14
  iapply (wp_ldv 𝒱 c bd E) $$ H20
  iintro H20
  iapply (wp_ldv 𝒱 c bd E) $$ H16
  iintro H16
  iapply (wp_stv 𝒱 c bd E) $$ H16
  iintro H16
  iapply (wp_ldv 𝒱 c bd E) $$ H10
  iintro H10
  iapply HK
  isplitl [H10]; · iexact H10
  isplitl [H19]; · iexact H19
  isplitl [H20]; · iexact H20
  isplitl [H14]; · iexact H14
  iexact H16

/-- The codes of chunk `j` of the residuals of a branch, of the branch's group maxima `am`. -/
def rcX (X : Ins F) (am : Vec F S1x128x128 .f32) (br : ℕ) (hb : br < 2) (j : ℕ) (hj : j < 20) : (⟨S1x2x128x5120.rank, S1x1x128x256.size⟩ : Shape).Idx → Elt F .i8 :=
  rcChunk (split3 (recips (scales am))) j (pack256 (resX X br j hb hj))

/-- The codes of chunk `j` of the modulated states of a branch, as they are stored. -/
def hcP (X : Ins F) (br : ℕ) (hb : br < 2) (j : ℕ) (hj : j < 20) : (⟨S1x2x128x5120.rank, S1x1x128x256.size⟩ : Shape).Idx → Elt F .fp8e4m3 :=
  shapeCast S1x1x128x256 (hcX X br j hb hj) shapeCasts_S128x256_S1x1x128x256

/-- The second half of the body for one branch, of scratch arrays known by their windows. -/
theorem wp_branchP (M : Mems) (X : Ins F) (R U : S2x128x5120.Idx → Elt F .f32) (Z : S2x128x128.Idx → Elt F .f32)
    (hR : Has3 (fun br j hb hj => pack256 (resX X br j hb hj)) 20 R) (hU : Has3 (fun br j hb hj => pack256 (modX X br j hb hj)) 20 U)
    (C : S1x2x128x5120.Idx → Elt F .i8) (H : S1x2x128x5120.Idx → Elt F .fp8e4m3) (A : S1x2x40x128.Idx → Elt F .f32)
    (O : S1x2x64x128.Idx → Elt F .f32) (S : S1x2x128.Idx → Elt F .f32) (br : ℕ) (hb : br < 2) (K : Pr F) :
    (iprop(owns (c.tc : Thread nD τ) M.a10 fullShare X.x10 ∗ owns (c.tc : Thread nD τ) M.a11 fullShare X.x11
        ∗ owns (c.tc : Thread nD τ) M.a12 fullShare X.x12 ∗ owns (c.tc : Thread nD τ) M.a19 fullShare R
        ∗ owns (c.tc : Thread nD τ) M.a20 fullShare U ∗ owns (c.tc : Thread nD τ) M.a21 fullShare Z
        ∗ owns (c.tc : Thread nD τ) M.a14 fullShare C ∗ owns (c.tc : Thread nD τ) M.a16 fullShare H
        ∗ owns (c.tc : Thread nD τ) M.a15 fullShare A ∗ owns (c.tc : Thread nD τ) M.a17 fullShare O
        ∗ owns (c.tc : Thread nD τ) M.a18 fullShare S) : sProp 𝕄)
      ⊢ iprop(((owns (c.tc : Thread nD τ) M.a10 fullShare X.x10 ∗ owns (c.tc : Thread nD τ) M.a11 fullShare X.x11
          ∗ owns (c.tc : Thread nD τ) M.a12 fullShare X.x12 ∗ owns (c.tc : Thread nD τ) M.a19 fullShare R
          ∗ owns (c.tc : Thread nD τ) M.a20 fullShare U ∗ owns (c.tc : Thread nD τ) M.a21 fullShare Z
          ∗ (∃ C', ⌜Has4 br hb (rcX X (window Z ![br, 0, 0] S1x128x128.size (inb21w br hb)) br hb) C 20 C'⌝ ∗ owns (c.tc : Thread nD τ) M.a14 fullShare C')
          ∗ (∃ H', ⌜Has4 br hb (hcP X br hb) H 20 H'⌝ ∗ owns (c.tc : Thread nD τ) M.a16 fullShare H')
          ∗ owns (c.tc : Thread nD τ) M.a15 fullShare (put A ![0, br, 0, 0] S1x1x40x128.size
              (scalesT (scales (window Z ![br, 0, 0] S1x128x128.size (inb21w br hb)))))
          ∗ owns (c.tc : Thread nD τ) M.a17 fullShare (put O ![0, br, 0, 0] S1x1x64x128.size
              (outT (accX X br hb 20 le_rfl) (hsX X br hb) (window X.x11 ![0, 0] S1x64.size inb_S1x64_S1x64_0_0)
                (window X.x12 ![0, 0] S1x64.size inb_S1x64_S1x64_0_0)))
          ∗ owns (c.tc : Thread nD τ) M.a18 fullShare (put S ![0, br, 0] S1x1x128.size (hScaleT (hsX X br hb))))
          -∗ wp frame (wpE defs 𝒱 (c.tc : Thread nD τ) bd) E K Q)
        -∗ wp frame (wpE defs 𝒱 (c.tc : Thread nD τ) bd) E (branchP M br hb (sdX X.x7 br hb) (umX X br hb 20 le_rfl) K) Q) := by
  unfold branchP
  iintro ⟨H10, H11, H12, H19, H20, H21, H14, H16, H15, H17, H18⟩ HK
  iapply (wp_ldv 𝒱 c bd E) $$ H21
  iintro H21
  have hL := fun KK => wp_loop 𝒱 c bd E (defs := defs) (Q := Q) (n := 20) (a := (broadcast S128x64 (Scalar.ofBits .f32 0x00000000#32) : FVec F S128x64 .f32))
    (body := quantP M br hb (split3 (recips (scales (window Z ![br, 0, 0] S1x128x128.size (inb21w br hb)))))
      (recip1 (uScale (rowMax (umX X br hb 20 le_rfl)))))
    (K := KK)
    (fun i a => iprop(⌜∃ h : i ≤ 20, a = accX X br hb i h⌝ ∗ owns (c.tc : Thread nD τ) M.a10 fullShare X.x10
      ∗ owns (c.tc : Thread nD τ) M.a19 fullShare R ∗ owns (c.tc : Thread nD τ) M.a20 fullShare U
      ∗ (∃ C', ⌜Has4 br hb (rcX X (window Z ![br, 0, 0] S1x128x128.size (inb21w br hb)) br hb) C i C'⌝ ∗ owns (c.tc : Thread nD τ) M.a14 fullShare C')
      ∗ (∃ H', ⌜Has4 br hb (hcP X br hb) H i H'⌝ ∗ owns (c.tc : Thread nD τ) M.a16 fullShare H'))) (by
      intro i hi a k
      iintro ⟨%ha, H10, H19, H20, ⟨%C', %hC, H14⟩, ⟨%H', %hH, H16⟩⟩ HK
      obtain ⟨h, rfl⟩ := ha
      iapply (wp_quantP 𝒱 c bd E M X.x10 R U C' H' br hb) $$ [H10 H19 H20 H14 H16]
      · isplitl [H10]; · iexact H10
        isplitl [H19]; · iexact H19
        isplitl [H20]; · iexact H20
        isplitl [H14]; · iexact H14
        iexact H16
      rw [hR br i hb hi hi, hU br i hb hi hi]
      iintro ⟨H10, H19, H20, H14, H16⟩
      iapply HK
      isplitr
      · ipureintro; exact ⟨hi, rfl⟩
      isplitl [H10]; · iexact H10
      isplitl [H19]; · iexact H19
      isplitl [H20]; · iexact H20
      isplitl [H14]
      · iexists _
        isplitr [H14]
        rotate_left
        · iexact H14
        · ipureintro; exact hC.step hi
      · iexists _
        isplitr [H16]
        rotate_left
        · iexact H16
        · ipureintro; exact hH.step hi)
  iapply (hL _) $$ [H10 H19 H20 H14 H16]
  · isplitr
    · ipureintro; exact ⟨Nat.zero_le _, rfl⟩
    isplitl [H10]; · iexact H10
    isplitl [H19]; · iexact H19
    isplitl [H20]; · iexact H20
    isplitl [H14]
    · iexists C
      isplitr
      · ipureintro; exact Has4.zero _ _ _ _
      · iexact H14
    · iexists H
      isplitr
      · ipureintro; exact Has4.zero _ _ _ _
      · iexact H16
  iintro %r ⟨%hr, H10, H19, H20, H14, H16⟩
  obtain ⟨-, rfl⟩ := hr
  iapply (wp_ldv 𝒱 c bd E) $$ H11
  iintro H11
  iapply (wp_ldv 𝒱 c bd E) $$ H12
  iintro H12
  iapply (wp_ldv 𝒱 c bd E) $$ H15
  iintro H15
  iapply (wp_stv 𝒱 c bd E) $$ H15
  iintro H15
  iapply (wp_ldv 𝒱 c bd E) $$ H17
  iintro H17
  iapply (wp_stv 𝒱 c bd E) $$ H17
  iintro H17
  iapply (wp_ldv 𝒱 c bd E) $$ H18
  iintro H18
  iapply (wp_stv 𝒱 c bd E) $$ H18
  iintro H18
  iapply HK
  isplitl [H10]; · iexact H10
  isplitl [H11]; · iexact H11
  isplitl [H12]; · iexact H12
  isplitl [H19]; · iexact H19
  isplitl [H20]; · iexact H20
  isplitl [H21]; · iexact H21
  isplitl [H14]; · iexact H14
  isplitl [H16]; · iexact H16
  isplitl [H15]; · iexact H15
  isplitl [H17]; · iexact H17
  iexact H18

/-! ## What the body leaves in the output windows -/

/-- Every output window as a function of the input windows. -/
structure Post (X : Ins F) (Y : S1x128x640.Idx → Elt F .f32) (C : S1x2x128x5120.Idx → Elt F .i8) (A : S1x2x40x128.Idx → Elt F .f32)
    (H : S1x2x128x5120.Idx → Elt F .fp8e4m3) (O : S1x2x64x128.Idx → Elt F .f32) (S : S1x2x128.Idx → Elt F .f32) : Prop where
  emb : HasE X 20 Y
  res : ∃ Z, HasZ (fun br j hb hj => amLo (resX X br j hb hj)) (fun br j hb hj => amHi (resX X br j hb hj)) 20 Z
    ∧ (∀ br hb j hj, window C ![0, br, 0, 256 * j] S1x1x128x256.size (inb7b br j hb hj)
        = rcX X (window Z ![br, 0, 0] S1x128x128.size (inb21w br hb)) br hb j hj)
    ∧ (∀ br hb, window A ![0, br, 0, 0] S1x1x40x128.size (inb15 br hb)
        = scalesT (scales (window Z ![br, 0, 0] S1x128x128.size (inb21w br hb))))
  hc : ∀ br hb j hj, window H ![0, br, 0, 256 * j] S1x1x128x256.size (inb7b br j hb hj) = hcP X br hb j hj
  out : ∀ br hb, window O ![0, br, 0, 0] S1x1x64x128.size (inb17 br hb)
    = outT (accX X br hb 20 le_rfl) (hsX X br hb) (window X.x11 ![0, 0] S1x64.size inb_S1x64_S1x64_0_0)
        (window X.x12 ![0, 0] S1x64.size inb_S1x64_S1x64_0_0)
  hsc : ∀ br hb, window S ![0, br, 0] S1x1x128.size (inb18 br hb) = hScaleT (hsX X br hb)

/-- Both branches' chunks, of the two runs of the second half. -/
theorem Has4.both {α : Type} {w0 w1 : (j : ℕ) → j < 20 → (⟨S1x2x128x5120.rank, S1x1x128x256.size⟩ : Shape).Idx → α} {C₀ C₁ C : S1x2x128x5120.Idx → α}
    (h0 : Has4 0 (by omega) w0 C₀ 20 C₁) (h1 : Has4 1 (by omega) w1 C₁ 20 C)
    (w : (br : ℕ) → br < 2 → (j : ℕ) → j < 20 → (⟨S1x2x128x5120.rank, S1x1x128x256.size⟩ : Shape).Idx → α)
    (e0 : w 0 (by omega) = w0) (e1 : w 1 (by omega) = w1) (br : ℕ) (hb : br < 2) (j : ℕ) (hj : j < 20) :
    window C ![0, br, 0, 256 * j] S1x1x128x256.size (inb7b br j hb hj) = w br hb j hj := by
  by_cases hbr : br = 1
  · subst hbr; rw [e1]; exact h1.1 j hj hj
  · obtain rfl : br = 0 := by omega
    rw [e0, h1.2 0 hb j hj (by omega)]; exact h0.1 j hj hj

/-- The body, of any contents: its inputs are left as they were, its outputs meet `Post`, the scratch holds something. -/
theorem wp_bodyP (M : Mems) (X : Ins F) (Y : S1x128x640.Idx → Elt F .f32) (C : S1x2x128x5120.Idx → Elt F .i8) (A : S1x2x40x128.Idx → Elt F .f32)
    (H : S1x2x128x5120.Idx → Elt F .fp8e4m3) (O : S1x2x64x128.Idx → Elt F .f32) (S : S1x2x128.Idx → Elt F .f32)
    (R U : S2x128x5120.Idx → Elt F .f32) (Z : S2x128x128.Idx → Elt F .f32) :
    (iprop(owns (c.tc : Thread nD τ) M.a2 fullShare X.x2 ∗ owns (c.tc : Thread nD τ) M.a3 fullShare X.x3
        ∗ owns (c.tc : Thread nD τ) M.a4 fullShare X.x4 ∗ owns (c.tc : Thread nD τ) M.a5 fullShare X.x5
        ∗ owns (c.tc : Thread nD τ) M.a6 fullShare X.x6 ∗ owns (c.tc : Thread nD τ) M.a7 fullShare X.x7
        ∗ owns (c.tc : Thread nD τ) M.a8 fullShare X.x8 ∗ owns (c.tc : Thread nD τ) M.a9 fullShare X.x9
        ∗ owns (c.tc : Thread nD τ) M.a10 fullShare X.x10 ∗ owns (c.tc : Thread nD τ) M.a11 fullShare X.x11
        ∗ owns (c.tc : Thread nD τ) M.a12 fullShare X.x12
        ∗ owns (c.tc : Thread nD τ) M.a13 fullShare Y ∗ owns (c.tc : Thread nD τ) M.a14 fullShare C
        ∗ owns (c.tc : Thread nD τ) M.a15 fullShare A ∗ owns (c.tc : Thread nD τ) M.a16 fullShare H
        ∗ owns (c.tc : Thread nD τ) M.a17 fullShare O ∗ owns (c.tc : Thread nD τ) M.a18 fullShare S
        ∗ owns (c.tc : Thread nD τ) M.a19 fullShare R ∗ owns (c.tc : Thread nD τ) M.a20 fullShare U
        ∗ owns (c.tc : Thread nD τ) M.a21 fullShare Z) : sProp 𝕄)
      ⊢ iprop((∀ Y' C' A' H' O' S' R' U' Z', (⌜Post X Y' C' A' H' O' S'⌝
          ∗ owns (c.tc : Thread nD τ) M.a2 fullShare X.x2 ∗ owns (c.tc : Thread nD τ) M.a3 fullShare X.x3
          ∗ owns (c.tc : Thread nD τ) M.a4 fullShare X.x4 ∗ owns (c.tc : Thread nD τ) M.a5 fullShare X.x5
          ∗ owns (c.tc : Thread nD τ) M.a6 fullShare X.x6 ∗ owns (c.tc : Thread nD τ) M.a7 fullShare X.x7
          ∗ owns (c.tc : Thread nD τ) M.a8 fullShare X.x8 ∗ owns (c.tc : Thread nD τ) M.a9 fullShare X.x9
          ∗ owns (c.tc : Thread nD τ) M.a10 fullShare X.x10 ∗ owns (c.tc : Thread nD τ) M.a11 fullShare X.x11
          ∗ owns (c.tc : Thread nD τ) M.a12 fullShare X.x12
          ∗ owns (c.tc : Thread nD τ) M.a13 fullShare Y' ∗ owns (c.tc : Thread nD τ) M.a14 fullShare C'
          ∗ owns (c.tc : Thread nD τ) M.a15 fullShare A' ∗ owns (c.tc : Thread nD τ) M.a16 fullShare H'
          ∗ owns (c.tc : Thread nD τ) M.a17 fullShare O' ∗ owns (c.tc : Thread nD τ) M.a18 fullShare S'
          ∗ owns (c.tc : Thread nD τ) M.a19 fullShare R' ∗ owns (c.tc : Thread nD τ) M.a20 fullShare U'
          ∗ owns (c.tc : Thread nD τ) M.a21 fullShare Z') -∗ Q ⟨⟩)
        -∗ wp frame (wpE defs 𝒱 (c.tc : Thread nD τ) bd) E (bodyP M) Q) := by
  unfold bodyP
  iintro ⟨H2, H3, H4, H5, H6, H7, H8, H9, H10, H11, H12, H13, H14, H15, H16, H17, H18, H19, H20, H21⟩ HK
  iapply (wp_ldv 𝒱 c bd E) $$ H3
  iintro H3
  iapply (wp_meanP 𝒱 c bd E M X.x7) $$ H7
  iintro H7
  iapply (wp_stdP 𝒱 c bd E M X.x7) $$ H7
  iintro H7
  iapply (wp_meanP 𝒱 c bd E M X.x7) $$ H7
  iintro H7
  iapply (wp_stdP 𝒱 c bd E M X.x7) $$ H7
  iintro H7
  have hL := fun KK => wp_loop 𝒱 c bd E (defs := defs) (Q := Q) (n := 20) (a := ((zero128, zero128) : FVec F S128x128 .f32 × FVec F S128x128 .f32))
    (body := tripP M (pcodes (window X.x3 ![0, 0, 0] S1x64x128.size inb_S1x64x128_S1x64x128_0_0_0))
      (muX X.x7 0 (by omega)) (sdX X.x7 0 (by omega)) (muX X.x7 1 (by omega)) (sdX X.x7 1 (by omega)))
    (K := KK) (tripInv c M X) (wp_tripP 𝒱 c bd E M X)
  iapply (hL _) $$ [H2 H4 H5 H6 H7 H8 H9 H13 H19 H20 H21]
  · unfold tripInv
    isplitr
    · ipureintro; exact ⟨Nat.zero_le _, rfl⟩
    isplitl [H2]; · iexact H2
    isplitl [H4]; · iexact H4
    isplitl [H5]; · iexact H5
    isplitl [H6]; · iexact H6
    isplitl [H7]; · iexact H7
    isplitl [H8]; · iexact H8
    isplitl [H9]; · iexact H9
    isplitl [H13]
    · iexists Y
      isplitr
      · ipureintro; exact ⟨fun _ _ h => absurd h (Nat.not_lt_zero _), fun h => absurd h (Nat.not_lt_zero _)⟩
      · iexact H13
    isplitl [H19]
    · iexists R
      isplitr
      · ipureintro; exact fun _ _ _ _ h => absurd h (Nat.not_lt_zero _)
      · iexact H19
    isplitl [H20]
    · iexists U
      isplitr
      · ipureintro; exact fun _ _ _ _ h => absurd h (Nat.not_lt_zero _)
      · iexact H20
    · iexists Z
      isplitr
      · ipureintro; exact fun _ _ _ _ h => absurd h (Nat.not_lt_zero _)
      · iexact H21
  iintro %um
  unfold tripInv
  iintro ⟨%hum, H2, H4, H5, H6, H7, H8, H9, ⟨%Y, %hY, H13⟩, ⟨%R, %hR, H19⟩, ⟨%U, %hU, H20⟩, ⟨%Z, %hZ, H21⟩⟩
  obtain ⟨-, rfl⟩ := hum
  iapply (wp_branchP 𝒱 c bd E M X R U Z hR hU C H A O S) $$ [H10 H11 H12 H19 H20 H21 H14 H16 H15 H17 H18]
  · isplitl [H10]; · iexact H10
    isplitl [H11]; · iexact H11
    isplitl [H12]; · iexact H12
    isplitl [H19]; · iexact H19
    isplitl [H20]; · iexact H20
    isplitl [H21]; · iexact H21
    isplitl [H14]; · iexact H14
    isplitl [H16]; · iexact H16
    isplitl [H15]; · iexact H15
    isplitl [H17]; · iexact H17
    iexact H18
  iintro ⟨H10, H11, H12, H19, H20, H21, ⟨%C1, %hC1, H14⟩, ⟨%H1, %hH1, H16⟩, H15, H17, H18⟩
  iapply (wp_branchP 𝒱 c bd E M X R U Z hR hU C1 H1) $$ [H10 H11 H12 H19 H20 H21 H14 H16 H15 H17 H18]
  · isplitl [H10]; · iexact H10
    isplitl [H11]; · iexact H11
    isplitl [H12]; · iexact H12
    isplitl [H19]; · iexact H19
    isplitl [H20]; · iexact H20
    isplitl [H21]; · iexact H21
    isplitl [H14]; · iexact H14
    isplitl [H16]; · iexact H16
    isplitl [H15]; · iexact H15
    isplitl [H17]; · iexact H17
    iexact H18
  iintro ⟨H10, H11, H12, H19, H20, H21, ⟨%C2, %hC2, H14⟩, ⟨%H2', %hH2, H16⟩, H15, H17, H18⟩
  have hpost : Post X Y C2
      (put (put A ![0, 0, 0, 0] S1x1x40x128.size (scalesT (scales (window Z ![0, 0, 0] S1x128x128.size (inb21w 0 (by omega))))))
        ![0, 1, 0, 0] S1x1x40x128.size (scalesT (scales (window Z ![1, 0, 0] S1x128x128.size (inb21w 1 (by omega))))))
      H2'
      (put (put O ![0, 0, 0, 0] S1x1x64x128.size (outT (accX X 0 (by omega) 20 le_rfl) (hsX X 0 (by omega))
          (window X.x11 ![0, 0] S1x64.size inb_S1x64_S1x64_0_0) (window X.x12 ![0, 0] S1x64.size inb_S1x64_S1x64_0_0)))
        ![0, 1, 0, 0] S1x1x64x128.size (outT (accX X 1 (by omega) 20 le_rfl) (hsX X 1 (by omega))
          (window X.x11 ![0, 0] S1x64.size inb_S1x64_S1x64_0_0) (window X.x12 ![0, 0] S1x64.size inb_S1x64_S1x64_0_0)))
      (put (put S ![0, 0, 0] S1x1x128.size (hScaleT (hsX X 0 (by omega)))) ![0, 1, 0] S1x1x128.size (hScaleT (hsX X 1 (by omega)))) := by
    refine ⟨hY, ⟨Z, hZ, ?_, ?_⟩, ?_, ?_, ?_⟩
    · exact Has4.both hC1 hC2 (fun br hb => rcX X (window Z ![br, 0, 0] S1x128x128.size (inb21w br hb)) br hb) rfl rfl
    · intro br hb
      by_cases hbr : br = 1
      · subst hbr; exact window_put_same _ _ _ _ _
      · obtain rfl : br = 0 := by omega
        rw [window_put_of_disjoint _ _ _ _ _ _ _ (1 : Fin 4) (Or.inl (show 0 + 1 ≤ 1 by omega))]
        exact window_put_same _ _ _ _ _
    · exact Has4.both hH1 hH2 (hcP X) rfl rfl
    · intro br hb
      by_cases hbr : br = 1
      · subst hbr; exact window_put_same _ _ _ _ _
      · obtain rfl : br = 0 := by omega
        rw [window_put_of_disjoint _ _ _ _ _ _ _ (1 : Fin 4) (Or.inl (show 0 + 1 ≤ 1 by omega))]
        exact window_put_same _ _ _ _ _
    · intro br hb
      by_cases hbr : br = 1
      · subst hbr; exact window_put_same _ _ _ _ _
      · obtain rfl : br = 0 := by omega
        rw [window_put_of_disjoint _ _ _ _ _ _ _ (1 : Fin 3) (Or.inl (show 0 + 1 ≤ 1 by omega))]
        exact window_put_same _ _ _ _ _
  rw [wp_ret]
  imodintro
  iapply HK
  isplitr
  · ipureintro
    exact hpost
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Fold

end
-- ==== Proof.BodyEqIdeal.lean ====
/-
  The printed body is the program with loops.
-/
module

public import proofs.«01_k».proof.Proof.FoldIdeal

@[expose] public section

set_option maxRecDepth 1000000
set_option maxHeartbeats 4000000

noncomputable section

namespace Cert.KernelIdeal.Fold

open Cert.KernelIdeal Cert.KernelIdeal.Gen Idealize.ShloMosaic Idealize.SL.Sem

variable {F : FTy → Type} [FloatOps F] [Named F]

/-- The printed body is the program with loops. -/
theorem body_eq (i : grid0.Coords) (arg2 : Memref sig .tc .smem S1 .f32) (harg2 : arg2.IsWhole) (arg3 : Memref sig .tc .vmem S1x64x128 .fp8e4m3) (harg3 : arg3.IsWhole) (arg4 : Memref sig .tc .vmem S64x5120 .fp8e4m3) (harg4 : arg4.IsWhole) (arg5 : Memref sig .tc .vmem S1x5120 .f32) (harg5 : arg5.IsWhole) (arg6 : Memref sig .tc .vmem S1x5120 .f32) (harg6 : arg6.IsWhole) (arg7 : Memref sig .tc .vmem S1x2x128x5120 .bf16) (harg7 : arg7.IsWhole) (arg8 : Memref sig .tc .vmem S1x1x5120 .f32) (harg8 : arg8.IsWhole) (arg9 : Memref sig .tc .vmem S1x1x5120 .f32) (harg9 : arg9.IsWhole) (arg10 : Memref sig .tc .vmem S64x5120 .fp8e4m3) (harg10 : arg10.IsWhole) (arg11 : Memref sig .tc .vmem S1x64 .f32) (harg11 : arg11.IsWhole) (arg12 : Memref sig .tc .vmem S1x64 .f32) (harg12 : arg12.IsWhole) (arg13 : Memref sig .tc .vmem S1x128x640 .f32) (harg13 : arg13.IsWhole) (arg14 : Memref sig .tc .vmem S1x2x128x5120 .i8) (harg14 : arg14.IsWhole) (arg15 : Memref sig .tc .vmem S1x2x40x128 .f32) (harg15 : arg15.IsWhole) (arg16 : Memref sig .tc .vmem S1x2x128x5120 .fp8e4m3) (harg16 : arg16.IsWhole) (arg17 : Memref sig .tc .vmem S1x2x64x128 .f32) (harg17 : arg17.IsWhole) (arg18 : Memref sig .tc .vmem S1x2x128 .f32) (harg18 : arg18.IsWhole) (arg19 : Memref sig .tc .vmem S2x128x5120 .f32) (harg19 : arg19.IsWhole) (arg20 : Memref sig .tc .vmem S2x128x5120 .f32) (harg20 : arg20.IsWhole) (arg21 : Memref sig .tc .vmem S2x128x128 .f32) (harg21 : arg21.IsWhole) :
    cc0_phase_a (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = bodyP ⟨arg2, arg3, arg4, arg5, arg6, arg7, arg8, arg9, arg10, arg11, arg12, arg13, arg14, harg14, arg15, arg16, harg16, arg17, arg18, arg19, arg20, arg21⟩ :=
  rfl

end Cert.KernelIdeal.Fold

end
-- ==== Proof.ObligIdeal.lean ====
/-
  The kernel's run: the proof data of its pipeline, the body's obligation, and what every final state holds.
-/
module

public import proofs.«01_k».proof.Proof.TripleIdeal
public import proofs.«01_k».proof.Proof.BodyEqIdeal
public import proofs.«01_k».proof.Proof.Gen.KernelIdeal.Frame
public import Idealize.ShloMosaic.Lib.Pipeline.DatRel
public import Idealize.ShloMosaic.Lib.Pipeline.ArrRel

@[expose] public section

set_option maxRecDepth 65536

noncomputable section

namespace Cert.KernelIdeal.Fold

open Cert.KernelIdeal Cert.KernelIdeal.Gen Idealize.ShloMosaic
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Rounds
open Idealize.ShloMosaic.TcCoe
open Idealize.ShloMosaic.Pipeline (Dat RDat BodyObligationRel)
open Steps VecWindow

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The contents of the input windows at a point: their blocks, the two that overhang their arrays filled out with anything. -/
def ins (c : Dev nD) (t : Fin cfg0.N) (d1 : S1x64x128.Idx → Elt F .fp8e4m3) (d5 : S1x2x128x5120.Idx → Elt F .bf16) : Ins F where
  x2 := iblk m c 0 t
  x3 := (cfg0.win 1).fill (cfg0.grid.coords t) d1 (iblk m c 1 t)
  x4 := iblk m c 2 t
  x5 := iblk m c 3 t
  x6 := iblk m c 4 t
  x7 := (cfg0.win 5).fill (cfg0.grid.coords t) d5 (iblk m c 5 t)
  x8 := iblk m c 6 t
  x9 := iblk m c 7 t
  x10 := iblk m c 8 t
  x11 := iblk m c 9 t
  x12 := iblk m c 10 t

/-- What the body leaves in an output window: one of the windows `Post` is about. -/
def Rl (c : Dev nD) (w : Fin cfg0.W) (t : Fin cfg0.N) : ((cfg0.win w).block.Idx → Elt F (cfg0.win w).elt) → Prop :=
  match w with
  | ⟨11, _⟩ => fun Y => ∃ d1 d5 C A H O S, Post (ins m c t d1 d5) Y C A H O S
  | ⟨12, _⟩ => fun C => ∃ d1 d5 Y A H O S, Post (ins m c t d1 d5) Y C A H O S
  | ⟨13, _⟩ => fun A => ∃ d1 d5 Y C H O S, Post (ins m c t d1 d5) Y C A H O S
  | ⟨14, _⟩ => fun H => ∃ d1 d5 Y C A O S, Post (ins m c t d1 d5) Y C A H O S
  | ⟨15, _⟩ => fun O => ∃ d1 d5 Y C A H S, Post (ins m c t d1 d5) Y C A H O S
  | ⟨16, _⟩ => fun S => ∃ d1 d5 Y C A H O, Post (ins m c t d1 d5) Y C A H O S
  | _ => fun _ => True

/-- The output windows, whose contents `Rl` constrains. -/
def marked (w : Fin cfg0.W) : Bool :=
  match w with
  | ⟨11, _⟩ => true
  | ⟨12, _⟩ => true
  | ⟨13, _⟩ => true
  | ⟨14, _⟩ => true
  | ⟨15, _⟩ => true
  | ⟨16, _⟩ => true
  | _ => false

/-- The pipeline's proof data: the arrays as the region finds them, the input windows left as they were. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => (cfg0.win 1).fill (cfg0.grid.coords t) (fun _ => Classical.arbitrary _) (iblk m c 1 t)
    | ⟨2, _⟩ => iblk m c 2 t
    | ⟨3, _⟩ => iblk m c 3 t
    | ⟨4, _⟩ => iblk m c 4 t
    | ⟨5, _⟩ => (cfg0.win 5).fill (cfg0.grid.coords t) (fun _ => Classical.arbitrary _) (iblk m c 5 t)
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => fun _ => Classical.arbitrary _
    | ⟨12, _⟩ => fun _ => Classical.arbitrary _
    | ⟨13, _⟩ => fun _ => Classical.arbitrary _
    | ⟨14, _⟩ => fun _ => Classical.arbitrary _
    | ⟨15, _⟩ => fun _ => Classical.arbitrary _
    | ⟨16, _⟩ => fun _ => Classical.arbitrary _
    | ⟨_ + 17, h⟩ => absurd h (Nat.not_lt.2 (Nat.le_add_left _ _))
  Φ _ := Pipeline.ΦA spec0 c
  q _ := fullShare
  owed _ := 0

/-- The proof data's arrays are the contents the region finds. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem before0_0 (c : Dev nD) (t : Fin cfg0.N) (d) : (dats m 0 c).before 0 t d = iblk m c 0 t :=
  before0_0_of m (dats m 0 c) (A_eq m c 0) (after0_0 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_1 (c : Dev nD) (t : Fin cfg0.N) (d) : (dats m 0 c).before 1 t d = (cfg0.win 1).fill (cfg0.grid.coords t) d (iblk m c 1 t) := by
  unfold Dat.before; rw [if_pos (fetch0_1 t)]; rfl
theorem cut0_1 (c : Dev nD) (t : Fin cfg0.N) : (cfg0.win 1).cut (cfg0.grid.coords t) ((dats m 0 c).after 1 t) = iblk m c 1 t := by
  dsimp only [dats]; exact (cfg0.win 1).cut_fill _ _ _
theorem before0_5 (c : Dev nD) (t : Fin cfg0.N) (d) : (dats m 0 c).before 5 t d = (cfg0.win 5).fill (cfg0.grid.coords t) d (iblk m c 5 t) := by
  unfold Dat.before; rw [if_pos (fetch0_5 t)]; rfl
theorem cut0_5 (c : Dev nD) (t : Fin cfg0.N) : (cfg0.win 5).cut (cfg0.grid.coords t) ((dats m 0 c).after 5 t) = iblk m c 5 t := by
  dsimp only [dats]; exact (cfg0.win 5).cut_fill _ _ _

/-- The region's scratch, each buffer whole at some contents. -/
theorem scratch_eq (c : Dev nD) : (Pipeline.ΦA (Val := Elt F) (U := UR sig nD τ) spec0 c : sProp 𝕄)
    = iprop(((∃ f, owns (c.tc : Thread nD τ) (Memref.whole cc0_scratch0) fullShare f)
        ∗ (∃ f, owns (c.tc : Thread nD τ) (Memref.whole cc0_scratch1) fullShare f)
        ∗ (∃ f, owns (c.tc : Thread nD τ) (Memref.whole cc0_scratch2) fullShare f)) ∗ ∃ r, prngReg c r) := by
  unfold Pipeline.ΦA
  rw [scopedRest0_eq]
  simp only [owns_whole]

/-- What the body is called with at a point, window by window. -/
def bodyPre (c : Dev nD) (t : Fin cfg0.N) : sProp 𝕄 :=
  iprop((dats m 0 c).Φ t.castSucc ∗ (dats m 0 c).owesAt () t.castSucc
    ∗ (∃ d, owns (c.tc : Thread nD τ) (st0_0 t) fullShare ((dats m 0 c).before 0 t d))
    ∗ (∃ d, owns (c.tc : Thread nD τ) (st0_1 t) fullShare ((dats m 0 c).before 1 t d))
    ∗ (∃ d, owns (c.tc : Thread nD τ) (st0_2 t) fullShare ((dats m 0 c).before 2 t d))
    ∗ (∃ d, owns (c.tc : Thread nD τ) (st0_3 t) fullShare ((dats m 0 c).before 3 t d))
    ∗ (∃ d, owns (c.tc : Thread nD τ) (st0_4 t) fullShare ((dats m 0 c).before 4 t d))
    ∗ (∃ d, owns (c.tc : Thread nD τ) (st0_5 t) fullShare ((dats m 0 c).before 5 t d))
    ∗ (∃ d, owns (c.tc : Thread nD τ) (st0_6 t) fullShare ((dats m 0 c).before 6 t d))
    ∗ (∃ d, owns (c.tc : Thread nD τ) (st0_7 t) fullShare ((dats m 0 c).before 7 t d))
    ∗ (∃ d, owns (c.tc : Thread nD τ) (st0_8 t) fullShare ((dats m 0 c).before 8 t d))
    ∗ (∃ d, owns (c.tc : Thread nD τ) (st0_9 t) fullShare ((dats m 0 c).before 9 t d))
    ∗ (∃ d, owns (c.tc : Thread nD τ) (st0_10 t) fullShare ((dats m 0 c).before 10 t d))
    ∗ (∃ Y, ⌜((dats m 0 c).toRRel marked (Rl m c)).Finds 11 t Y⌝ ∗ owns (c.tc : Thread nD τ) (st0_11 t) fullShare Y)
    ∗ (∃ Y, ⌜((dats m 0 c).toRRel marked (Rl m c)).Finds 12 t Y⌝ ∗ owns (c.tc : Thread nD τ) (st0_12 t) fullShare Y)
    ∗ (∃ Y, ⌜((dats m 0 c).toRRel marked (Rl m c)).Finds 13 t Y⌝ ∗ owns (c.tc : Thread nD τ) (st0_13 t) fullShare Y)
    ∗ (∃ Y, ⌜((dats m 0 c).toRRel marked (Rl m c)).Finds 14 t Y⌝ ∗ owns (c.tc : Thread nD τ) (st0_14 t) fullShare Y)
    ∗ (∃ Y, ⌜((dats m 0 c).toRRel marked (Rl m c)).Finds 15 t Y⌝ ∗ owns (c.tc : Thread nD τ) (st0_15 t) fullShare Y)
    ∗ (∃ Y, ⌜((dats m 0 c).toRRel marked (Rl m c)).Finds 16 t Y⌝ ∗ owns (c.tc : Thread nD τ) (st0_16 t) fullShare Y))

/-- What it returns. -/
def bodyPost (c : Dev nD) (t : Fin cfg0.N) : sProp 𝕄 :=
  iprop((dats m 0 c).Φ t.succ ∗ (dats m 0 c).owesAt () t.succ
    ∗ owns (c.tc : Thread nD τ) (st0_0 t) fullShare ((dats m 0 c).after 0 t)
    ∗ (∃ d, owns (c.tc : Thread nD τ) (st0_1 t) fullShare ((cfg0.win 1).fill (cfg0.grid.coords t) d ((cfg0.win 1).cut (cfg0.grid.coords t) ((dats m 0 c).after 1 t))))
    ∗ owns (c.tc : Thread nD τ) (st0_2 t) fullShare ((dats m 0 c).after 2 t)
    ∗ owns (c.tc : Thread nD τ) (st0_3 t) fullShare ((dats m 0 c).after 3 t)
    ∗ owns (c.tc : Thread nD τ) (st0_4 t) fullShare ((dats m 0 c).after 4 t)
    ∗ (∃ d, owns (c.tc : Thread nD τ) (st0_5 t) fullShare ((cfg0.win 5).fill (cfg0.grid.coords t) d ((cfg0.win 5).cut (cfg0.grid.coords t) ((dats m 0 c).after 5 t))))
    ∗ owns (c.tc : Thread nD τ) (st0_6 t) fullShare ((dats m 0 c).after 6 t)
    ∗ owns (c.tc : Thread nD τ) (st0_7 t) fullShare ((dats m 0 c).after 7 t)
    ∗ owns (c.tc : Thread nD τ) (st0_8 t) fullShare ((dats m 0 c).after 8 t)
    ∗ owns (c.tc : Thread nD τ) (st0_9 t) fullShare ((dats m 0 c).after 9 t)
    ∗ owns (c.tc : Thread nD τ) (st0_10 t) fullShare ((dats m 0 c).after 10 t)
    ∗ (∃ X, ⌜Rl m c 11 t X⌝ ∗ owns (c.tc : Thread nD τ) (st0_11 t) fullShare X)
    ∗ (∃ X, ⌜Rl m c 12 t X⌝ ∗ owns (c.tc : Thread nD τ) (st0_12 t) fullShare X)
    ∗ (∃ X, ⌜Rl m c 13 t X⌝ ∗ owns (c.tc : Thread nD τ) (st0_13 t) fullShare X)
    ∗ (∃ X, ⌜Rl m c 14 t X⌝ ∗ owns (c.tc : Thread nD τ) (st0_14 t) fullShare X)
    ∗ (∃ X, ⌜Rl m c 15 t X⌝ ∗ owns (c.tc : Thread nD τ) (st0_15 t) fullShare X)
    ∗ (∃ X, ⌜Rl m c 16 t X⌝ ∗ owns (c.tc : Thread nD τ) (st0_16 t) fullShare X))

set_option maxHeartbeats 4000000 in
/-- The body at any point. -/
theorem sound_body (c : Dev nD) (t : Fin cfg0.N) :
    bodyPre m c t ⊢ wp frame (wpE (defs₀ (F := F)) Variants.none (c.tc : Thread nD τ) none) Set.univ (bodyAt0 t) (fun _ => bodyPost m c t) := by
  unfold bodyPre bodyPost bodyAt0
  rw [body_eq]
  simp only [before0_0, before0_1, before0_2, before0_3, before0_4, before0_5, before0_6, before0_7, before0_8, before0_9, before0_10]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_2, after0_3, after0_4, after0_6, after0_7, after0_8, after0_9, after0_10, cut0_1, cut0_5, scratch_eq]
  iintro ⟨⟨⟨⟨%f0, Hs0⟩, ⟨%f1, Hs1⟩, ⟨%f2, Hs2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%e11, %h11, H11⟩, ⟨%e12, %h12, H12⟩, ⟨%e13, %h13, H13⟩, ⟨%e14, %h14, H14⟩, ⟨%e15, %h15, H15⟩, ⟨%e16, %h16, H16⟩⟩
  iapply (wp_bodyP Variants.none c none Set.univ _ (ins m c t d1 d5) e11 e12 e13 e14 e15 e16 f0 f1 f2) $$ [H0 H1 H2 H3 H4 H5 H6 H7 H8 H9 H10 H11 H12 H13 H14 H15 H16 Hs0 Hs1 Hs2]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [Hs0]; · iexact Hs0
    isplitl [Hs1]; · iexact Hs1
    iexact Hs2
  iintro %Y %C %A %H %O %S %R %U %Z ⟨%hP, H0, H1, H2, H3, H4, H5, H6, H7, H8, H9, H10, H11, H12, H13, H14, H15, H16, Hs0, Hs1, Hs2⟩
  isplitl [Hs0 Hs1 Hs2 Hr]
  · isplitl [Hs0 Hs1 Hs2]
    · isplitl [Hs0]; · iexists R; iexact Hs0
      isplitl [Hs1]; · iexists U; iexact Hs1
      iexists Z; iexact Hs2
    · iexact Hr
  isplitl [Ho]; · iexact Ho
  isplitl [H0]; · iexact H0
  isplitl [H1]; · iexists d1; iexact H1
  isplitl [H2]; · iexact H2
  isplitl [H3]; · iexact H3
  isplitl [H4]; · iexact H4
  isplitl [H5]; · iexists d5; iexact H5
  isplitl [H6]; · iexact H6
  isplitl [H7]; · iexact H7
  isplitl [H8]; · iexact H8
  isplitl [H9]; · iexact H9
  isplitl [H10]; · iexact H10
  have q11 : Rl m c 11 t Y := ⟨d1, d5, C, A, H, O, S, hP⟩
  have q12 : Rl m c 12 t C := ⟨d1, d5, Y, A, H, O, S, hP⟩
  have q13 : Rl m c 13 t A := ⟨d1, d5, Y, C, H, O, S, hP⟩
  have q14 : Rl m c 14 t H := ⟨d1, d5, Y, C, A, O, S, hP⟩
  have q15 : Rl m c 15 t O := ⟨d1, d5, Y, C, A, H, S, hP⟩
  have q16 : Rl m c 16 t S := ⟨d1, d5, Y, C, A, H, O, hP⟩
  isplitl [H11]
  · iexists Y
    isplitr
    · ipureintro; exact q11
    · iexact H11
  isplitl [H12]
  · iexists C
    isplitr
    · ipureintro; exact q12
    · iexact H12
  isplitl [H13]
  · iexists A
    isplitr
    · ipureintro; exact q13
    · iexact H13
  isplitl [H14]
  · iexists H
    isplitr
    · ipureintro; exact q14
    · iexact H14
  isplitl [H15]
  · iexists O
    isplitr
    · ipureintro; exact q15
    · iexact H15
  iexists S
  isplitr
  · ipureintro; exact q16
  · iexact H16

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The body's obligation, at every point. -/
theorem body_obligation (c : Dev nD) :
    BodyObligationRel (dats (F := F) m 0 c) (defs₀ (F := F)) Variants.none () Set.univ marked (Rl m c) := fun t => by
  rw [bigSep_W0, bigSep_W0, defs₀_row]
  exact triple_restated (sound_body m c t) rfl .rfl fun _ => .rfl

/-- The same data read relationally. -/
def rdats (c : Dev nD) : RDat τ (Elt F) Unit ℕ (UR sig nD τ) ℕ cfg0 c := (dats m 0 c).toRRel marked (Rl m c)

set_option backward.isDefEq.respectTransparency.types false in
/-- The launch: every weakly fair execution terminates, with the arrays as the data say and the counters at zero. -/
theorem run_main : θ_run defs (onTc (τ := τ) (main (F := F))) (s₀ m ρ)
    (fun r => RDat.FramePost cfg0 (rdats m) (V m) r ∧ r.2.sem = fun _ => 0) :=
  RDat.θ_run_frame cfgs (0 : Fin 1) launch0 defs₀ Variants.none (rdats m) m ρ main
    (hbody := fun c => (body_obligation m c).toRRel) (hshare := fun c => (dats m 0 c).share_full fun _ => rfl)
    (howed := fun _ _ => rfl) (V := V m) (hmain := hmain m Variants.none) (hA := A_eq m) (hΦ := fun _ _ => rfl)
    (Q' := _) (hQ' := fun _ h => h)

/-- Every final state that the run's data describe keeps the arguments. -/
theorem kept (r : PUnit × MemSt nD τ sig (Elt F)) (h : RDat.FramePost cfg0 (rdats m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine ⟨?_, ?_, ?_, ?_, ?_, ?_, ?_, ?_, ?_, ?_, ?_⟩
  · exact ((h c).2 main_arg0 (Pipeline.mem_restRefs_of main_arg0 (by decide) (by decide))).trans (V_main_arg0 m c)
  · exact (RDat.FramePost.arr_in h c 1 rfl).trans ((A_eq m c 1).trans (V_main_arg1 m c))
  · exact (RDat.FramePost.arr_in h c 2 rfl).trans ((A_eq m c 2).trans (V_main_arg2 m c))
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact (RDat.FramePost.arr_in h c 5 rfl).trans ((A_eq m c 5).trans (V_main_arg5 m c))
  · exact ((h c).2 main_arg6 (Pipeline.mem_restRefs_of main_arg6 (by decide) (by decide))).trans (V_main_arg6 m c)
  · exact ((h c).2 main_arg7 (Pipeline.mem_restRefs_of main_arg7 (by decide) (by decide))).trans (V_main_arg7 m c)
  · exact ((h c).2 main_arg8 (Pipeline.mem_restRefs_of main_arg8 (by decide) (by decide))).trans (V_main_arg8 m c)
  · exact ((h c).2 main_arg9 (Pipeline.mem_restRefs_of main_arg9 (by decide) (by decide))).trans (V_main_arg9 m c)
  · exact ((h c).2 main_arg10 (Pipeline.mem_restRefs_of main_arg10 (by decide) (by decide))).trans (V_main_arg10 m c)

/-- The frame: the arguments end unchanged and the counters at zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun r h => ⟨kept m r h.1, h.2⟩) (run_main m ρ)

end Cert.KernelIdeal.Fold

end
-- ==== Proof.Spec.lean ====
/- What the results are, one row of patches at a time, over the extended reals: the embedding, the residuals against it
   with their group scales and codes, the modulated layer norm with its row scale and codes, and the head. -/
module

public import Idealize.ShloMosaic.Lib.Pointwise
public import Idealize.ShloMosaic.Lib.IdealHost
public import Mathlib.Data.EReal.Inv

@[expose] public section

noncomputable section

namespace Cert.Spec

open Idealize.ShloMosaic

/-- What one row of the results depends on: the patch scale, the patch codes, the embedding's weights, scales and bias, the
    two branches' hidden states, the modulation's shift and gain, the head's weights, scales and bias. -/
@[ext] structure Row where
  sp : EReal
  p : Fin 64 → EReal
  w : Fin 64 → Fin 5120 → EReal
  se : Fin 5120 → EReal
  be : Fin 5120 → EReal
  h : Fin 2 → Fin 5120 → EReal
  hs : Fin 5120 → EReal
  hg : Fin 5120 → EReal
  wh : Fin 5120 → Fin 64 → EReal
  sh : Fin 64 → EReal
  bh : Fin 64 → EReal

/-- The constants 127, −127, 448, −448, 5120 and the layer norm's epsilon as the programs write them. -/
abbrev c127 : EReal := Ideal.ofBits .f32 0x42FE0000#32
abbrev n127 : EReal := Ideal.ofBits .f32 0xC2FE0000#32
abbrev c448 : EReal := Ideal.ofBits .f32 0x43E00000#32
abbrev n448 : EReal := Ideal.ofBits .f32 0xC3E00000#32
abbrev c5120 : EReal := Ideal.ofBits .f32 0x45A00000#32
abbrev ceps : EReal := Ideal.ofBits .f32 0x358637BD#32

/-- The absolute value. -/
abbrev abs (x : EReal) : EReal := FloatOps.absf (F := Ideal) (φ := .f32) x

/-- An int8 code. -/
def code (x : EReal) : BitVec 8 := Ideal.fptosi 8 (min c127 (max n127 (Ideal.liftRound Ideal.roundHalfEven x)))

/-- An fp8 code. -/
def clip (x : EReal) : EReal := min c448 (max n448 x)

/-- The scale of a group whose greatest absolute value is `a`. -/
def gscale (a : EReal) : EReal := if 0 < a then Ideal.div a c127 else 1

/-- The scale of a row whose greatest absolute value is `a`. -/
def rscale (a : EReal) : EReal := if 0 < a then Ideal.div a c448 else 1

namespace Row

variable (R : Row)

/-- The embedding. -/
def emb (d : Fin 5120) : EReal := (∑ k, R.p k * R.w k d) * R.sp * R.se d + R.be d
/-- The residual. -/
def res (br : Fin 2) (d : Fin 5120) : EReal := R.h br d - R.emb d
/-- The greatest absolute residual of a group. -/
def am (br : Fin 2) (g : Fin 40) : EReal := ⨆ k : Fin 128, abs (R.res br ⟨128 * g.val + k.val, by omega⟩)
/-- The scale of a group of residuals. -/
def sc (br : Fin 2) (g : Fin 40) : EReal := gscale (R.am br g)
/-- The code of a residual. -/
def rc (br : Fin 2) (d : Fin 5120) : BitVec 8 := code (Ideal.div (R.res br d) (R.sc br ⟨d.val / 128, by omega⟩))
/-- The row's mean. -/
def mu (br : Fin 2) : EReal := Ideal.div (∑ d, R.h br d) c5120
/-- The centred hidden states. -/
def ctr (br : Fin 2) (d : Fin 5120) : EReal := R.h br d - R.mu br
/-- The row's variance. -/
def var (br : Fin 2) : EReal := Ideal.div (∑ d, R.ctr br d * R.ctr br d) c5120
/-- The row's standard deviation. -/
def std (br : Fin 2) : EReal := Ideal.sqrt (R.var br + ceps)
/-- The modulated layer norm. -/
def hm (br : Fin 2) (d : Fin 5120) : EReal := Ideal.div (R.ctr br d) (R.std br) * (1 + R.hg d) + R.hs d
/-- The scale of a row of the modulated layer norm. -/
def hsc (br : Fin 2) : EReal := rscale (⨆ d, abs (R.hm br d))
/-- The code of an element of the modulated layer norm. -/
def hc (br : Fin 2) (d : Fin 5120) : EReal := clip (Ideal.div (R.hm br d) (R.hsc br))
/-- The head's result. -/
def out (br : Fin 2) (o : Fin 64) : EReal := (∑ d, R.hc br d * R.wh d o) * R.hsc br * R.sh o + R.bh o

end Row

/-! ## Arithmetic -/

theorem negInf : Ideal.ofBits .f32 0xFF800000#32 = ⊥ := by simp [Ideal.ofBits, Ideal.ieee]

theorem c127_eq : c127 = ((127 : ℝ) : EReal) := by
  simp [c127, Ideal.ofBits, Ideal.ieee]; norm_num; rw [← EReal.coe_mul]; norm_num
theorem c448_eq : c448 = ((448 : ℝ) : EReal) := by
  simp [c448, Ideal.ofBits, Ideal.ieee]; norm_num; rw [← EReal.coe_mul]; norm_num
theorem c5120_eq : c5120 = ((5120 : ℝ) : EReal) := by
  simp [c5120, Ideal.ofBits, Ideal.ieee]; norm_num; rw [← EReal.coe_mul]; norm_num
theorem ceps_pos : ∃ e : ℝ, 0 < e ∧ ceps = (e : EReal) := by
  refine ⟨_, ?_, by simp only [ceps, Ideal.ofBits, Ideal.ieee]; rw [if_neg (by decide), if_neg (by decide)]⟩
  have : (0x358637BD#32 : BitVec 32).extractLsb' (8+23) 1 = 0#1 := by decide
  simp [this]

/-- A maximum folded from minus infinity is the supremum. -/
theorem fold_max {n : ℕ} (f : Fin n → EReal) : Finset.univ.fold max ⊥ f = ⨆ i, f i := by
  rw [← Finset.sup_univ_eq_iSup]; rfl

/-- A sum over 5120 lanes by 40 chunks of 128, lanes outside. -/
theorem sum_lanes (f : Fin 5120 → EReal) : (∑ l : Fin 128, ∑ i : Fin 40, f ⟨128 * i.val + l.val, by omega⟩) = ∑ d, f d := by
  rw [Finset.sum_comm, ← Fintype.sum_prod_type']
  exact Fintype.sum_equiv (finProdFinEquiv (m := 40) (n := 128)) _ f fun x => congrArg f (Fin.ext (by simp [finProdFinEquiv]; omega))

/-- A sum over 5120 lanes by 20 chunks of 256. -/
theorem sum_chunks (f : Fin 5120 → EReal) : (∑ i : Fin 20, ∑ l : Fin 256, f ⟨256 * i.val + l.val, by omega⟩) = ∑ d, f d := by
  rw [← Fintype.sum_prod_type']
  exact Fintype.sum_equiv (finProdFinEquiv (m := 20) (n := 256)) _ f fun x => congrArg f (Fin.ext (by simp [finProdFinEquiv]; omega))

theorem div_eq {x s : EReal} (h : 0 < s) : Ideal.div x s = x * s⁻¹ := by
  unfold Ideal.div; rw [if_neg h.ne']

theorem c127_pos : 0 < c127 := by rw [c127_eq]; exact_mod_cast (by norm_num : (0:ℝ) < 127)
theorem c448_pos : 0 < c448 := by rw [c448_eq]; exact_mod_cast (by norm_num : (0:ℝ) < 448)
theorem c5120_pos : 0 < c5120 := by rw [c5120_eq]; exact_mod_cast (by norm_num : (0:ℝ) < 5120)

theorem gscale_pos (a : EReal) : 0 < gscale a := by
  unfold gscale; split
  · rename_i h; rw [div_eq c127_pos, c127_eq, ← EReal.coe_inv]
    exact EReal.mul_pos h (by exact_mod_cast (by norm_num : (0:ℝ) < 127⁻¹))
  · exact zero_lt_one

theorem Row.sc_pos (R : Row) (br : Fin 2) (g : Fin 40) : 0 < R.sc br g := gscale_pos _

theorem inv_real {s : EReal} (h : 0 < s) : ∃ r : ℝ, 0 ≤ r ∧ s⁻¹ = (r : EReal) := by
  induction s with
  | bot => simp at h
  | coe x => exact ⟨x⁻¹, inv_nonneg.2 (by exact_mod_cast h.le), (EReal.coe_inv x).symm⟩
  | top => exact ⟨0, le_rfl, by simp⟩

theorem mul_recip {x s : EReal} (h : 0 < s) : x * Ideal.div 1 s = Ideal.div x s := by
  rw [div_eq h, div_eq h, one_mul]

theorem abs_eq (x : EReal) : abs x = max x (-x) := rfl

theorem abs_nonneg (x : EReal) : 0 ≤ abs x := by
  rw [abs_eq]
  rcases le_total 0 x with h | h
  · exact le_max_of_le_left h
  · exact le_max_of_le_right (by simpa using h)

end Cert.Spec

end
-- ==== Proof.HeadSpec.lean ====
/- The modulated layer norm without its division: what a row's codes and scale are when the division by the standard deviation is
   put off, the standard deviation being a positive number. -/
module

public import proofs.«01_k».proof.Proof.Spec

@[expose] public section

noncomputable section

namespace Cert.Spec

open Idealize.ShloMosaic

/-- The modulated layer norm times the standard deviation. -/
def Row.u (R : Row) (br : Fin 2) (d : Fin 5120) : EReal := R.ctr br d * (1 + R.hg d) + R.hs d * R.std br

/-- The greatest absolute value of that. -/
def Row.um (R : Row) (br : Fin 2) : EReal := ⨆ d, abs (R.u br d)

theorem coe_sum {n : ℕ} (f : Fin n → ℝ) : (∑ i, (f i : EReal)) = ((∑ i, f i : ℝ) : EReal) :=
  (map_sum (⟨⟨Real.toEReal, EReal.coe_zero⟩, EReal.coe_add⟩ : ℝ →+ EReal) f Finset.univ).symm

/-- Finite hidden states have a positive, finite standard deviation. -/
theorem std_pos {R : Row} {br : Fin 2} (h : ∀ d, ∃ x : ℝ, R.h br d = (x : EReal)) : ∃ s : ℝ, 0 < s ∧ R.std br = (s : EReal) := by
  choose x hx using h
  obtain ⟨e, he, hee⟩ := ceps_pos
  have hmu : R.mu br = (((∑ d, x d) * 5120⁻¹ : ℝ) : EReal) := by
    unfold Row.mu
    rw [div_eq c5120_pos, c5120_eq, Finset.sum_congr rfl fun d _ => hx d, coe_sum, ← EReal.coe_inv, ← EReal.coe_mul]
  have hctr : ∀ d, R.ctr br d = ((x d - (∑ d, x d) * 5120⁻¹ : ℝ) : EReal) := fun d => by
    unfold Row.ctr; rw [hmu, hx, EReal.coe_sub]
  have hvar : R.var br = (((∑ d, (x d - (∑ d, x d) * 5120⁻¹) * (x d - (∑ d, x d) * 5120⁻¹)) * 5120⁻¹ : ℝ) : EReal) := by
    unfold Row.var
    rw [div_eq c5120_pos, c5120_eq, Finset.sum_congr rfl fun d _ => by rw [hctr d, ← EReal.coe_mul], coe_sum, ← EReal.coe_inv, ← EReal.coe_mul]
  have h0 : 0 ≤ (∑ d, (x d - (∑ d, x d) * 5120⁻¹) * (x d - (∑ d, x d) * 5120⁻¹)) * (5120⁻¹ : ℝ) :=
    mul_nonneg (Finset.sum_nonneg fun d _ => mul_self_nonneg _) (by norm_num)
  refine ⟨_, Real.sqrt_pos.2 (add_pos_of_nonneg_of_pos h0 he), ?_⟩
  unfold Row.std
  rw [hvar, hee, ← EReal.coe_add]
  show (if _ < 0 then ⊥ else _) = _
  rw [if_neg (not_lt.2 (add_nonneg h0 he.le))]

variable {R : Row} {br : Fin 2} {s : ℝ} (hs : 0 < s) (hstd : R.std br = (s : EReal))

include hs hstd

theorem hm_eq (d : Fin 5120) : R.hm br d = R.u br d * ((s⁻¹ : ℝ) : EReal) := by
  have hp : (0 : EReal) < (s : EReal) := by exact_mod_cast hs
  have hi : (0 : EReal) ≤ ((s⁻¹ : ℝ) : EReal) := by exact_mod_cast (inv_pos.2 hs).le
  unfold Row.hm Row.u
  rw [hstd, div_eq hp, ← EReal.coe_inv, EReal.right_distrib_of_nonneg_of_ne_top hi (EReal.coe_ne_top _), mul_assoc (R.hs d), ← EReal.coe_mul,
    mul_inv_cancel₀ hs.ne', EReal.coe_one, mul_one, mul_right_comm]

omit hstd in
theorem abs_mul (x : EReal) : abs (x * ((s⁻¹ : ℝ) : EReal)) = abs x * ((s⁻¹ : ℝ) : EReal) := by
  have hi : (0 : EReal) ≤ ((s⁻¹ : ℝ) : EReal) := by exact_mod_cast (inv_pos.2 hs).le
  rw [abs_eq, abs_eq, ← EReal.neg_mul]
  have hm : Monotone fun y : EReal => y * ((s⁻¹ : ℝ) : EReal) := fun a b h => mul_le_mul_of_nonneg_right h hi
  exact hm.map_max.symm

omit hstd in
theorem iSup_mul (f : Fin 5120 → EReal) : (⨆ d, f d * ((s⁻¹ : ℝ) : EReal)) = (⨆ d, f d) * ((s⁻¹ : ℝ) : EReal) := by
  have hi : (0 : EReal) ≤ ((s⁻¹ : ℝ) : EReal) := by exact_mod_cast (inv_pos.2 hs).le
  have hp : (0 : EReal) ≤ (s : EReal) := by exact_mod_cast hs.le
  have e1 : ∀ y : EReal, y * ((s⁻¹ : ℝ) : EReal) * (s : EReal) = y := fun y => by
    rw [mul_assoc, ← EReal.coe_mul, inv_mul_cancel₀ hs.ne', EReal.coe_one, mul_one]
  have e2 : ∀ y : EReal, y * (s : EReal) * ((s⁻¹ : ℝ) : EReal) = y := fun y => by
    rw [mul_assoc, ← EReal.coe_mul, mul_inv_cancel₀ hs.ne', EReal.coe_one, mul_one]
  refine le_antisymm (iSup_le fun d => mul_le_mul_of_nonneg_right (le_iSup f d) hi) ?_
  have h : (⨆ d, f d) ≤ (⨆ d, f d * ((s⁻¹ : ℝ) : EReal)) * (s : EReal) :=
    iSup_le fun d => (e1 (f d)).symm.le.trans (mul_le_mul_of_nonneg_right (le_iSup (fun d => f d * ((s⁻¹ : ℝ) : EReal)) d) hp)
  exact (mul_le_mul_of_nonneg_right h hi).trans (e2 _).le

/-- The greatest absolute value of the modulated layer norm. -/
theorem hmax_eq : (⨆ d, abs (R.hm br d)) = R.um br * ((s⁻¹ : ℝ) : EReal) := by
  unfold Row.um
  rw [← iSup_mul hs]
  exact iSup_congr fun d => by rw [hm_eq hs hstd, abs_mul hs]

theorem hmax_pos : 0 < (⨆ d, abs (R.hm br d)) ↔ 0 < R.um br := by
  have hi : (0 : EReal) < ((s⁻¹ : ℝ) : EReal) := by exact_mod_cast inv_pos.2 hs
  rw [hmax_eq hs hstd]
  constructor
  · intro h
    by_contra hn
    have := mul_le_mul_of_nonneg_right (not_lt.1 hn) hi.le
    rw [zero_mul] at this
    exact absurd h (not_lt.2 this)
  · intro h; exact EReal.mul_pos h hi

/-- The row's scale. -/
theorem hsc_eq : R.hsc br = if 0 < R.um br then Ideal.div (rscale (R.um br)) (R.std br) else 1 := by
  have hp : (0 : EReal) < (s : EReal) := by exact_mod_cast hs
  unfold Row.hsc rscale
  by_cases h : 0 < R.um br
  · rw [if_pos ((hmax_pos hs hstd).2 h), if_pos h, if_pos h, hmax_eq hs hstd, hstd, div_eq hp, div_eq c448_pos, div_eq c448_pos, ← EReal.coe_inv,
      mul_right_comm]
  · rw [if_neg ((hmax_pos hs hstd).not.2 h), if_neg h]

/-- An element's code before rounding. -/
theorem ratio_eq (d : Fin 5120) : R.u br d * Ideal.div 1 (rscale (R.um br)) = Ideal.div (R.hm br d) (R.hsc br) := by
  have hp : (0 : EReal) < (s : EReal) := by exact_mod_cast hs
  have hi : (0 : EReal) < ((s⁻¹ : ℝ) : EReal) := by exact_mod_cast inv_pos.2 hs
  rw [hsc_eq hs hstd, hm_eq hs hstd]
  by_cases h : 0 < R.um br
  · have hr : 0 < rscale (R.um br) := by
      unfold rscale; rw [if_pos h, div_eq c448_pos, c448_eq, ← EReal.coe_inv]
      exact EReal.mul_pos h (by exact_mod_cast (by norm_num : (0:ℝ) < 448⁻¹))
    rw [if_pos h, mul_recip hr, div_eq hr, hstd, div_eq hp, ← EReal.coe_inv, div_eq (EReal.mul_pos hr hi), EReal.mul_inv, ← EReal.coe_inv, inv_inv,
      mul_mul_mul_comm, ← EReal.coe_mul, inv_mul_cancel₀ hs.ne', EReal.coe_one, mul_one]
  · have hu : R.u br d = 0 := by
      have hle : abs (R.u br d) ≤ 0 := (le_iSup (fun d => abs (R.u br d)) d).trans (not_lt.1 h)
      rw [abs_eq, max_le_iff] at hle
      exact le_antisymm hle.1 (by simpa using hle.2)
    rw [if_neg h, hu, zero_mul, zero_mul, div_eq zero_lt_one, zero_mul]

end Cert.Spec

end
-- ==== Proof.Arrays.lean ====
/-
  The arguments of the two programs, their rows, and the six results as functions of them.
-/
module

public import proofs.«01_k».proof.Proof.HeadSpec

@[expose] public section

noncomputable section

namespace Cert.Spec

open Idealize.ShloMosaic

/-- The eleven arguments, in order. -/
structure Args where
  sp : (⟨0, ![]⟩ : Shape).Idx → EReal
  p : (⟨3, ![3, 64, 7800]⟩ : Shape).Idx → EReal
  w : (⟨2, ![64, 5120]⟩ : Shape).Idx → EReal
  se : (⟨1, ![5120]⟩ : Shape).Idx → EReal
  be : (⟨1, ![5120]⟩ : Shape).Idx → EReal
  h : (⟨4, ![3, 2, 7800, 5120]⟩ : Shape).Idx → EReal
  hs : (⟨2, ![3, 5120]⟩ : Shape).Idx → EReal
  hg : (⟨2, ![3, 5120]⟩ : Shape).Idx → EReal
  wh : (⟨2, ![5120, 64]⟩ : Shape).Idx → EReal
  sh : (⟨1, ![64]⟩ : Shape).Idx → EReal
  bh : (⟨1, ![64]⟩ : Shape).Idx → EReal

variable (A : Args)

/-- What row `n` of batch `b` is computed from. -/
def Args.row (b : Fin 3) (n : Fin 7800) : Row where
  sp := A.sp ix0
  p k := A.p (ix3 b k n)
  w k d := A.w (ix2 k d)
  se d := A.se (ix1 d)
  be d := A.be (ix1 d)
  h br d := A.h (ix4 b br n d)
  hs d := A.hs (ix2 b d)
  hg d := A.hg (ix2 b d)
  wh d o := A.wh (ix2 d o)
  sh o := A.sh (ix1 o)
  bh o := A.bh (ix1 o)

/-- The part of the embedding returned: its first 640 columns. -/
def Args.emb : (⟨3, ![3, 7800, 640]⟩ : Shape).Idx → EReal :=
  fun y => (A.row (y 0) (y 1)).emb ⟨(y 2).val, lt_of_lt_of_le (y 2).isLt (by decide)⟩

/-- The residuals' codes. -/
def Args.rc : (⟨4, ![3, 2, 7800, 5120]⟩ : Shape).Idx → BitVec 8 := fun y => (A.row (y 0) (y 2)).rc (y 1) (y 3)

/-- Their scales, one for each 128 columns. -/
def Args.rs : (⟨4, ![3, 2, 40, 7800]⟩ : Shape).Idx → EReal := fun y => (A.row (y 0) (y 3)).sc (y 1) (y 2)

/-- The head's quantized activations. -/
def Args.hc : (⟨4, ![3, 2, 7800, 5120]⟩ : Shape).Idx → EReal := fun y => (A.row (y 0) (y 2)).hc (y 1) (y 3)

/-- The head's output. -/
def Args.out : (⟨4, ![3, 2, 64, 7800]⟩ : Shape).Idx → EReal := fun y => (A.row (y 0) (y 3)).out (y 1) (y 2)

/-- The scales of the head's activations, one for each row. -/
def Args.hsc : (⟨3, ![3, 2, 7800]⟩ : Shape).Idx → EReal := fun y => (A.row (y 0) (y 2)).hsc (y 1)

theorem Args.emb_at {y : (⟨3, ![3, 7800, 640]⟩ : Shape).Idx} {b : Fin 3} {n : Fin 7800} {d : Fin 5120} (hb : (y 0).val = b.val)
    (hn : (y 1).val = n.val) (hd : (y 2).val = d.val) : A.emb y = (A.row b n).emb d := by
  obtain rfl : y 0 = b := Fin.ext hb
  obtain rfl : y 1 = n := Fin.ext hn
  exact congrArg _ (Fin.ext hd)

theorem Args.rc_at {y : (⟨4, ![3, 2, 7800, 5120]⟩ : Shape).Idx} {b : Fin 3} {br : Fin 2} {n : Fin 7800} {d : Fin 5120} (hb : (y 0).val = b.val)
    (hr : (y 1).val = br.val) (hn : (y 2).val = n.val) (hd : (y 3).val = d.val) : A.rc y = (A.row b n).rc br d := by
  obtain rfl : y 0 = b := Fin.ext hb
  obtain rfl : y 1 = br := Fin.ext hr
  obtain rfl : y 2 = n := Fin.ext hn
  obtain rfl : y 3 = d := Fin.ext hd
  rfl

theorem Args.rs_at {y : (⟨4, ![3, 2, 40, 7800]⟩ : Shape).Idx} {b : Fin 3} {br : Fin 2} {n : Fin 7800} {g : Fin 40} (hb : (y 0).val = b.val)
    (hr : (y 1).val = br.val) (hg : (y 2).val = g.val) (hn : (y 3).val = n.val) : A.rs y = (A.row b n).sc br g := by
  obtain rfl : y 0 = b := Fin.ext hb
  obtain rfl : y 1 = br := Fin.ext hr
  obtain rfl : y 3 = n := Fin.ext hn
  obtain rfl : y 2 = g := Fin.ext hg
  rfl

theorem Args.hc_at {y : (⟨4, ![3, 2, 7800, 5120]⟩ : Shape).Idx} {b : Fin 3} {br : Fin 2} {n : Fin 7800} {d : Fin 5120} (hb : (y 0).val = b.val)
    (hr : (y 1).val = br.val) (hn : (y 2).val = n.val) (hd : (y 3).val = d.val) : A.hc y = (A.row b n).hc br d := by
  obtain rfl : y 0 = b := Fin.ext hb
  obtain rfl : y 1 = br := Fin.ext hr
  obtain rfl : y 2 = n := Fin.ext hn
  obtain rfl : y 3 = d := Fin.ext hd
  rfl

theorem Args.out_at {y : (⟨4, ![3, 2, 64, 7800]⟩ : Shape).Idx} {b : Fin 3} {br : Fin 2} {n : Fin 7800} {o : Fin 64} (hb : (y 0).val = b.val)
    (hr : (y 1).val = br.val) (ho : (y 2).val = o.val) (hn : (y 3).val = n.val) : A.out y = (A.row b n).out br o := by
  obtain rfl : y 0 = b := Fin.ext hb
  obtain rfl : y 1 = br := Fin.ext hr
  obtain rfl : y 3 = n := Fin.ext hn
  obtain rfl : y 2 = o := Fin.ext ho
  rfl

theorem Args.hsc_at {y : (⟨3, ![3, 2, 7800]⟩ : Shape).Idx} {b : Fin 3} {br : Fin 2} {n : Fin 7800} (hb : (y 0).val = b.val)
    (hr : (y 1).val = br.val) (hn : (y 2).val = n.val) : A.hsc y = (A.row b n).hsc br := by
  obtain rfl : y 0 = b := Fin.ext hb
  obtain rfl : y 1 = br := Fin.ext hr
  obtain rfl : y 2 = n := Fin.ext hn
  rfl

/-- Every hidden state is a real number. -/
def Args.Real : Prop := ∀ y, ∃ x : ℝ, A.h y = x

/-- Then every row's standard deviation is a positive real number. -/
theorem Args.Real.std {A : Args} (hA : A.Real) (b : Fin 3) (n : Fin 7800) (br : Fin 2) :
    ∃ s : ℝ, 0 < s ∧ (A.row b n).std br = (s : EReal) := std_pos fun _ => hA _

end Cert.Spec
-- ==== Proof.RefRow.lean ====
/-
  The reference's body, row by row.
-/
module

public import proofs.«01_k».proof.Proof.Arrays
public import proofs.«01_k».proof.Proof.Gen.ReferenceIdeal.Value
public import Idealize.ShloMosaic.Lib.Pipeline.ValueKit.Point
public import Idealize.ShloMosaic.Lib.Pointwise

@[expose] public section

set_option maxRecDepth 65536

noncomputable section

namespace Cert.ReferenceIdeal.Ref

open Cert.ReferenceIdeal Cert.ReferenceIdeal.Gen Idealize.ShloMosaic
open Cert.Spec

/-- The reference's blocks: its whole operands. -/
structure Blocks where
  p : S23400x64.Idx → EReal
  w : S64x5120.Idx → EReal
  h : S3x2x7800x5120.Idx → EReal
  sp : S1x1.Idx → EReal
  se : S1x5120.Idx → EReal
  be : S1x5120.Idx → EReal
  hs : S3x1x1x5120.Idx → EReal
  hg : S3x1x1x5120.Idx → EReal
  wh : S5120x64.Idx → EReal
  sh : S1x64.Idx → EReal
  bh : S1x64.Idx → EReal

variable (B : Blocks) (b : Fin 3) (n : Fin 7800)

/-- What a row is computed from. -/
def Blocks.row : Row where
  sp := B.sp (ix2 0 0)
  p k := B.p (ix2 ⟨b.val * 7800 + n.val, by omega⟩ k)
  w k d := B.w (ix2 k d)
  se d := B.se (ix2 0 d)
  be d := B.be (ix2 0 d)
  h br d := B.h (ix4 b br n d)
  hs d := B.hs (ix4 b 0 0 d)
  hg d := B.hg (ix4 b 0 0 d)
  wh d o := B.wh (ix2 d o)
  sh o := B.sh (ix2 0 o)
  bh o := B.bh (ix2 0 o)

/-- The embedding. -/
abbrev Blocks.E : FVec Ideal S3x7800x5120 .f32 := k0_pay1 (F := Ideal) B.p B.w B.sp B.se B.be

theorem emb_apply (d : Fin 5120) : B.E (ix3 b n d) = (B.row b n).emb d := by
  unfold Blocks.E k0_pay1
  pointwise
  rfl

/-- The modulated layer norm. -/
abbrev Blocks.M : FVec Ideal S3x2x7800x5120 .f32 := k0_pay9 (F := Ideal) (k0_pay3 B.h) B.hg

theorem hm_apply (br : Fin 2) (d : Fin 5120) : k0_pay11 (F := Ideal) B.M (k0_pay10 B.hs) (ix4 b br n d) = (B.row b n).hm br d := by
  unfold Blocks.M k0_pay11 k0_pay9 k0_pay10 k0_pay3
  pointwise
  rfl

/-- The residuals by groups. -/
abbrev Blocks.G : FVec Ideal S3x2x7800x40x128 .f32 := k0_pay4 (F := Ideal) B.p B.w B.sp B.se B.be B.h

theorem res_apply (br : Fin 2) (g : Fin 40) (k : Fin 128) : B.G (ix5 b br n g k) = (B.row b n).res br ⟨128 * g.val + k.val, by omega⟩ := by
  have e := emb_apply B b n ⟨g.val * 128 + k.val, by omega⟩
  unfold Blocks.G k0_pay4 k0_pay3
  pointwise
  refine (congrArg (B.h (ix4 b br n ⟨g.val * 128 + k.val, by omega⟩) - ·) e).trans ?_
  rw [show (⟨128 * g.val + k.val, by omega⟩ : Fin 5120) = ⟨g.val * 128 + k.val, by omega⟩ from Fin.ext (by simp only; omega)]
  rfl

theorem gmax_apply (x : FVec Ideal S3x2x7800x40x128 .f32) (br : Fin 2) (g : Fin 40) :
    multiReduction (F := Ideal) .maximumf [4] S3x2x7800x40 (absf x) 0xFF800000#32 reduces_S3x2x7800x40x128_S3x2x7800x40 (.inl rfl) rfl (ix4 b br n g)
      = ⨆ k : Fin 128, abs (x (ix5 b br n g k)) := by
  pointwise
  rw [negInf, fold_max]

/-- A scale, of any greatest absolute value. -/
theorem gscale_eq (a : FVec Ideal S3x2x7800x40 .f32) (y : S3x2x7800x40.Idx) :
    select (cmpf .ogt a (broadcast S3x2x7800x40 (Scalar.ofBits .f32 0x00000000#32))) (divf a (broadcast S3x2x7800x40 (Scalar.ofBits .f32 0x42FE0000#32)))
      (broadcast S3x2x7800x40 (Scalar.ofBits .f32 0x3F800000#32)) y = gscale (a y) := by
  pointwise
  rfl

/-- The scales of the groups. -/
abbrev Blocks.Sc : FVec Ideal S3x2x7800x40 .f32 := k0_pay5 (F := Ideal) B.p B.w B.sp B.se B.be B.h

theorem sc_apply (br : Fin 2) (g : Fin 40) : B.Sc (ix4 b br n g) = (B.row b n).sc br g := by
  refine (gscale_eq _ _).trans (congrArg gscale ((gmax_apply b n B.G br g).trans ?_))
  unfold Row.am
  congr 1
  funext k
  rw [res_apply]

theorem rs_apply (br : Fin 2) (g : Fin 40) : k0_pay8 (F := Ideal) B.Sc (ix4 b br g n) = (B.row b n).sc br g := by
  rw [← sc_apply]
  unfold k0_pay8
  pointwise

theorem quot_apply (x : FVec Ideal S3x2x7800x40x128 .f32) (s : FVec Ideal S3x2x7800x40 .f32) (br : Fin 2) (g : Fin 40) (k : Fin 128) :
    divf x (broadcastTo S3x2x7800x40x128 (shapeCast S3x2x7800x40x1 s shapeCasts_S3x2x7800x40_S3x2x7800x40x1) broadcasts_S3x2x7800x40x1_S3x2x7800x40x128)
      (ix5 b br n g k) = Ideal.div (x (ix5 b br n g k)) (s (ix4 b br n g)) := by
  pointwise

theorem code_apply (x : FVec Ideal S3x2x7800x40x128 .f32) (br : Fin 2) (d : Fin 5120) :
    k0_pay7 (F := Ideal) (roundeven x) (ix4 b br n d) = code (x (ix5 b br n ⟨d.val / 128, by omega⟩ ⟨d.val % 128, by omega⟩)) := by
  unfold k0_pay7
  pointwise
  rfl

theorem rc_apply (br : Fin 2) (d : Fin 5120) :
    k0_pay7 (F := Ideal) (k0_pay6 B.p B.w B.sp B.se B.be B.h) (ix4 b br n d) = (B.row b n).rc br d := by
  refine (code_apply b n _ br d).trans ?_
  refine congrArg code ((quot_apply b n B.G B.Sc br _ _).trans ?_)
  rw [res_apply, sc_apply]
  congr 2
  exact Fin.ext (by simp only; omega)

theorem hmax_apply (x : FVec Ideal S3x2x7800x5120 .f32) (br : Fin 2) :
    multiReduction (F := Ideal) .maximumf [3] S3x2x7800 (absf x) 0xFF800000#32 reduces_S3x2x7800x5120_S3x2x7800 (.inl rfl) rfl (ix3 b br n)
      = ⨆ d : Fin 5120, abs (x (ix4 b br n d)) := by
  pointwise
  rw [negInf, fold_max]

theorem rscale_eq (a : FVec Ideal S3x2x7800 .f32) (y : S3x2x7800.Idx) :
    select (cmpf .ogt a (broadcast S3x2x7800 (Scalar.ofBits .f32 0x00000000#32))) (divf a (broadcast S3x2x7800 (Scalar.ofBits .f32 0x43E00000#32)))
      (broadcast S3x2x7800 (Scalar.ofBits .f32 0x3F800000#32)) y = rscale (a y) := by
  pointwise
  rfl

/-- The scales of the rows. -/
abbrev Blocks.Hs : FVec Ideal S3x2x7800 .f32 := k0_pay12 (F := Ideal) B.M (k0_pay10 B.hs)

theorem hsc_apply (br : Fin 2) : B.Hs (ix3 b br n) = (B.row b n).hsc br := by
  refine (rscale_eq _ _).trans (congrArg rscale ((hmax_apply b n _ br).trans ?_))
  congr 1
  funext d
  rw [hm_apply]

theorem hquot_apply (x : FVec Ideal S3x2x7800x5120 .f32) (s : FVec Ideal S3x2x7800 .f32) (br : Fin 2) (d : Fin 5120) :
    truncf .fp8e4m3 (minimumf (broadcast S3x2x7800x5120 (Scalar.ofBits .f32 0x43E00000#32)) (maximumf (broadcast S3x2x7800x5120 (Scalar.ofBits .f32 0xC3E00000#32))
      (divf x (broadcastTo S3x2x7800x5120 (shapeCast S3x2x7800x1 s shapeCasts_S3x2x7800_S3x2x7800x1) broadcasts_S3x2x7800x1_S3x2x7800x5120)))) bitsLt_fp8e4m3_f32
      (ix4 b br n d) = clip (Ideal.div (x (ix4 b br n d)) (s (ix3 b br n))) := by
  pointwise
  rfl

/-- The head's codes. -/
abbrev Blocks.Hc : FVec Ideal S3x2x7800x5120 .fp8e4m3 := k0_pay13 (F := Ideal) B.M (k0_pay10 B.hs)

theorem hc_apply (br : Fin 2) (d : Fin 5120) : B.Hc (ix4 b br n d) = (B.row b n).hc br d := by
  refine (hquot_apply b n _ B.Hs br d).trans ?_
  rw [hm_apply, hsc_apply]
  rfl

theorem head_apply (x : FVec Ideal S3x2x7800x5120 .fp8e4m3) (s : FVec Ideal S3x2x7800 .f32) (wh : FVec Ideal S5120x64 .fp8e4m3) (sh bh : FVec Ideal S1x64 .f32)
    (br : Fin 2) (o : Fin 64) :
    transpose S3x2x64x7800 [0, 1, 3, 2]
      (addf (mulf (mulf (shapeCast S3x2x7800x64 (matmul dot_S46800x5120_S5120x64_S46800x64_1_0_0_1_n_n none
          (shapeCast S46800x5120 x shapeCasts_S3x2x7800x5120_S46800x5120) wh (constant S46800x64 .f32 0x00000000#32)) shapeCasts_S46800x64_S3x2x7800x64)
        (broadcastTo S3x2x7800x64 (shapeCast S3x2x7800x1 s shapeCasts_S3x2x7800_S3x2x7800x1) broadcasts_S3x2x7800x1_S3x2x7800x64))
        (broadcastTo S3x2x7800x64 (shapeCast S1x1x1x64 (shapeCast S1x64 sh shapeCasts_S1x64_S1x64) shapeCasts_S1x64_S1x1x1x64) broadcasts_S1x1x1x64_S3x2x7800x64))
        (broadcastTo S3x2x7800x64 (shapeCast S1x1x1x64 (shapeCast S1x64 bh shapeCasts_S1x64_S1x64) shapeCasts_S1x64_S1x1x1x64) broadcasts_S1x1x1x64_S3x2x7800x64))
      transposes_S3x2x7800x64_p0_1_3_2_S3x2x64x7800 (ix4 b br o n)
      = (∑ d : Fin 5120, x (ix4 b br n d) * wh (ix2 d o) : EReal) * s (ix3 b br n) * sh (ix2 0 o) + bh (ix2 0 o) := by
  pointwise

theorem out_apply (br : Fin 2) (o : Fin 64) :
    k0_pay14 (F := Ideal) B.M (k0_pay10 B.hs) B.wh B.sh B.bh (ix4 b br o n) = (B.row b n).out br o := by
  refine (head_apply b n B.Hc B.Hs B.wh B.sh B.bh br o).trans ?_
  simp only [hc_apply, hsc_apply]
  rfl

end Cert.ReferenceIdeal.Ref
-- ==== Proof.RefValue.lean ====
/-
  The reference's six results, as functions of its arguments.
-/
module

public import proofs.«01_k».proof.Proof.RefRow

@[expose] public section

set_option maxRecDepth 65536

noncomputable section

namespace Cert.ReferenceIdeal.Ref

open Cert.ReferenceIdeal Cert.ReferenceIdeal.Gen Idealize.ShloMosaic
open Idealize.ShloMosaic.TcCoe
open Cert.Spec

variable (m : (ℓ : Loc nD τ sig) → Buf (Elt Ideal) ℓ)

/-- The reference's arguments on a device. -/
def args (c : Dev nD) : Args where
  sp := m ((c : Thread nD τ).loc main_arg0)
  p := m ((c : Thread nD τ).loc main_arg1)
  w := m ((c : Thread nD τ).loc main_arg2)
  se := m ((c : Thread nD τ).loc main_arg3)
  be := m ((c : Thread nD τ).loc main_arg4)
  h := m ((c : Thread nD τ).loc main_arg5)
  hs := m ((c : Thread nD τ).loc main_arg6)
  hg := m ((c : Thread nD τ).loc main_arg7)
  wh := m ((c : Thread nD τ).loc main_arg8)
  sh := m ((c : Thread nD τ).loc main_arg9)
  bh := m ((c : Thread nD τ).loc main_arg10)

/-- The blocks its one grid point reads. -/
def blocks (c : Dev nD) (t : Fin cfg0.N) : Blocks where
  p := iblk m c 0 t
  w := iblk m c 1 t
  h := iblk m c 2 t
  sp := iblk m c 3 t
  se := iblk m c 4 t
  be := iblk m c 5 t
  hs := iblk m c 6 t
  hg := iblk m c 7 t
  wh := iblk m c 8 t
  sh := iblk m c 9 t
  bh := iblk m c 10 t

theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0, 0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0, 0, 0] := (by decide +kernel : ∀ t : Fin grid0.N, _)
theorem idx7 : ∀ t : Fin cfg0.N, win0_7.index t = ![0, 0, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

theorem read0 (c : Dev nD) (t : Fin cfg0.N) (b : Fin 3) (n : Fin 7800) (k : Fin 64) :
    (iblk m c 0 t : S23400x64.Idx → EReal) (ix2 ⟨b.val * 7800 + n.val, by omega⟩ k) = (args m c).p (ix3 b k n) := by
  blk_simp [iblk]
  entry_read
  dsimp only [args]
  pointwise
  blk_ext [idx0 t]

theorem read1 (c : Dev nD) (t : Fin cfg0.N) (k : Fin 64) (d : Fin 5120) :
    (iblk m c 1 t : S64x5120.Idx → EReal) (ix2 k d) = (args m c).w (ix2 k d) := by
  blk_simp [iblk, V_main_arg2]
  dsimp only [args]
  blk_ext [idx1 t]

theorem read2 (c : Dev nD) (t : Fin cfg0.N) (b : Fin 3) (br : Fin 2) (n : Fin 7800) (d : Fin 5120) :
    (iblk m c 2 t : S3x2x7800x5120.Idx → EReal) (ix4 b br n d) = (args m c).h (ix4 b br n d) := by
  blk_simp [iblk, V_main_arg5]
  dsimp only [args]
  blk_ext [idx2 t]

theorem read3 (c : Dev nD) (t : Fin cfg0.N)  :
    (iblk m c 3 t : S1x1.Idx → EReal) (ix2 0 0) = (args m c).sp ix0 := by
  blk_simp [iblk]
  entry_read
  dsimp only [args]
  pointwise

theorem read4 (c : Dev nD) (t : Fin cfg0.N) (d : Fin 5120) :
    (iblk m c 4 t : S1x5120.Idx → EReal) (ix2 0 d) = (args m c).se (ix1 d) := by
  blk_simp [iblk]
  entry_read
  dsimp only [args]
  pointwise
  blk_ext [idx4 t]

theorem read5 (c : Dev nD) (t : Fin cfg0.N) (d : Fin 5120) :
    (iblk m c 5 t : S1x5120.Idx → EReal) (ix2 0 d) = (args m c).be (ix1 d) := by
  blk_simp [iblk]
  entry_read
  dsimp only [args]
  pointwise
  blk_ext [idx5 t]

theorem read6 (c : Dev nD) (t : Fin cfg0.N) (b : Fin 3) (d : Fin 5120) :
    (iblk m c 6 t : S3x1x1x5120.Idx → EReal) (ix4 b 0 0 d) = (args m c).hs (ix2 b d) := by
  blk_simp [iblk]
  entry_read
  dsimp only [args]
  pointwise
  blk_ext [idx6 t]

theorem read7 (c : Dev nD) (t : Fin cfg0.N) (b : Fin 3) (d : Fin 5120) :
    (iblk m c 7 t : S3x1x1x5120.Idx → EReal) (ix4 b 0 0 d) = (args m c).hg (ix2 b d) := by
  blk_simp [iblk]
  entry_read
  dsimp only [args]
  pointwise
  blk_ext [idx7 t]

theorem read8 (c : Dev nD) (t : Fin cfg0.N) (d : Fin 5120) (o : Fin 64) :
    (iblk m c 8 t : S5120x64.Idx → EReal) (ix2 d o) = (args m c).wh (ix2 d o) := by
  blk_simp [iblk, V_main_arg8]
  dsimp only [args]
  blk_ext [idx8 t]

theorem read9 (c : Dev nD) (t : Fin cfg0.N) (o : Fin 64) :
    (iblk m c 9 t : S1x64.Idx → EReal) (ix2 0 o) = (args m c).sh (ix1 o) := by
  blk_simp [iblk]
  entry_read
  dsimp only [args]
  pointwise
  blk_ext [idx9 t]

theorem read10 (c : Dev nD) (t : Fin cfg0.N) (o : Fin 64) :
    (iblk m c 10 t : S1x64.Idx → EReal) (ix2 0 o) = (args m c).bh (ix1 o) := by
  blk_simp [iblk]
  entry_read
  dsimp only [args]
  pointwise
  blk_ext [idx10 t]

/-- The rows of the blocks are the arguments' rows. -/
theorem row_eq (c : Dev nD) (t : Fin cfg0.N) (b : Fin 3) (n : Fin 7800) : (blocks m c t).row b n = (args m c).row b n :=
  Row.ext (read3 m c t) (funext fun k => read0 m c t b n k) (funext fun k => funext fun d => read1 m c t k d)
    (funext fun d => read4 m c t d) (funext fun d => read5 m c t d) (funext fun br => funext fun d => read2 m c t b br n d)
    (funext fun d => read6 m c t b d) (funext fun d => read7 m c t b d) (funext fun d => funext fun o => read8 m c t d o)
    (funext fun o => read9 m c t o) (funext fun o => read10 m c t o)

end Cert.ReferenceIdeal.Ref
-- ==== Proof.RefRun.lean ====
/-
  The reference's six result arrays, and its run.
-/
module

public import proofs.«01_k».proof.Proof.RefValue

@[expose] public section

set_option maxRecDepth 65536
set_option maxHeartbeats 400000

noncomputable section

namespace Cert.ReferenceIdeal.Ref

open Cert.ReferenceIdeal Cert.ReferenceIdeal.Gen Cert.ReferenceIdeal.Value Idealize.ShloMosaic
open Idealize.ShloMosaic.TcCoe
open Idealize.SL.Sem
open Idealize.ShloMosaic.Pipeline (Dat)
open Cert.Spec

variable (m : (ℓ : Loc nD τ sig) → Buf (Elt Ideal) ℓ) (ρ : Dev nD → PrngReg)

theorem idx11 : ∀ t : Fin cfg0.N, win0_11.index t = ![0, 0, 0] := (by decide +kernel : ∀ t : Fin grid0.N, _)
theorem xs11 : ∀ (t : Fin cfg0.N) (a : Fin 3), win0_11.xsize (cfg0.grid.coords t) a = ![3, 7800, 640] a := (by decide +kernel : ∀ t : Fin grid0.N, _)

theorem after11 (c : Dev nD) (t : Fin cfg0.N) (b : Fin 3) (n : Fin 7800) (d : Fin 640) :
    (dats m 0 c).after 11 t (ix3 b n d) = ((args m c).row b n).emb ⟨d.val, by omega⟩ := by
  rw [after0_11]
  frame_out
  unfold k0_pay2
  pointwise
  rw [← row_eq m c t]
  exact emb_apply (blocks m c t) b n ⟨d.val, by omega⟩

/-- The embedding. -/
theorem final11 (c : Dev nD) : (dats m 0 c).arrAt 11 cfg0.N = (args m c).emb := by
  refine (dats m 0 c).arrAt_eq_of_covers 11 (args m c).emb (by decide +kernel) fun t _ y => ?_
  have h0 : (y 0).val < 3 := lt_of_lt_of_eq (y 0).isLt (xs11 t 0)
  have h1 : (y 1).val < 7800 := lt_of_lt_of_eq (y 1).isLt (xs11 t 1)
  have h2 : (y 2).val < 640 := lt_of_lt_of_eq (y 2).isLt (xs11 t 2)
  have ey : (cfg0.win 11).xinj (cfg0.grid.coords t) y = ix3 ⟨(y 0).val, h0⟩ ⟨(y 1).val, h1⟩ ⟨(y 2).val, h2⟩ := by
    funext a; apply Fin.ext
    fin_cases a <;> rfl
  blk_simp
  refine (congrArg ((dats m 0 c).after 11 t) ey).trans ((after11 m c t ⟨(y 0).val, h0⟩ ⟨(y 1).val, h1⟩ ⟨(y 2).val, h2⟩).trans (Args.emb_at _ ?_ ?_ ?_).symm)
  · show _ = (y 0).val
    (blk_simp [idx11 t]) <;> omega
  · show _ = (y 1).val
    (blk_simp [idx11 t]) <;> omega
  · show _ = (y 2).val
    (blk_simp [idx11 t]) <;> omega

theorem idx12 : ∀ t : Fin cfg0.N, win0_12.index t = ![0, 0, 0, 0] := (by decide +kernel : ∀ t : Fin grid0.N, _)
theorem xs12 : ∀ (t : Fin cfg0.N) (a : Fin 4), win0_12.xsize (cfg0.grid.coords t) a = ![3, 2, 7800, 5120] a := (by decide +kernel : ∀ t : Fin grid0.N, _)

theorem after12 (c : Dev nD) (t : Fin cfg0.N) (b : Fin 3) (br : Fin 2) (n : Fin 7800) (d : Fin 5120) :
    (dats m 0 c).after 12 t (ix4 b br n d) = ((args m c).row b n).rc br d := by
  rw [after0_12]
  frame_out
  rw [← row_eq m c t]
  exact rc_apply (blocks m c t) b n br d

/-- The residuals' codes. -/
theorem final12 (c : Dev nD) : (dats m 0 c).arrAt 12 cfg0.N = (args m c).rc := by
  refine (dats m 0 c).arrAt_eq_of_covers 12 (args m c).rc (by decide +kernel) fun t _ y => ?_
  have h0 : (y 0).val < 3 := lt_of_lt_of_eq (y 0).isLt (xs12 t 0)
  have h1 : (y 1).val < 2 := lt_of_lt_of_eq (y 1).isLt (xs12 t 1)
  have h2 : (y 2).val < 7800 := lt_of_lt_of_eq (y 2).isLt (xs12 t 2)
  have h3 : (y 3).val < 5120 := lt_of_lt_of_eq (y 3).isLt (xs12 t 3)
  have ey : (cfg0.win 12).xinj (cfg0.grid.coords t) y = ix4 ⟨(y 0).val, h0⟩ ⟨(y 1).val, h1⟩ ⟨(y 2).val, h2⟩ ⟨(y 3).val, h3⟩ := by
    funext a; apply Fin.ext
    fin_cases a <;> rfl
  blk_simp
  refine (congrArg ((dats m 0 c).after 12 t) ey).trans ((after12 m c t ⟨(y 0).val, h0⟩ ⟨(y 1).val, h1⟩ ⟨(y 2).val, h2⟩ ⟨(y 3).val, h3⟩).trans (Args.rc_at _ ?_ ?_ ?_ ?_).symm)
  · show _ = (y 0).val
    (blk_simp [idx12 t]) <;> omega
  · show _ = (y 1).val
    (blk_simp [idx12 t]) <;> omega
  · show _ = (y 2).val
    (blk_simp [idx12 t]) <;> omega
  · show _ = (y 3).val
    (blk_simp [idx12 t]) <;> omega

theorem idx13 : ∀ t : Fin cfg0.N, win0_13.index t = ![0, 0, 0, 0] := (by decide +kernel : ∀ t : Fin grid0.N, _)
theorem xs13 : ∀ (t : Fin cfg0.N) (a : Fin 4), win0_13.xsize (cfg0.grid.coords t) a = ![3, 2, 40, 7800] a := (by decide +kernel : ∀ t : Fin grid0.N, _)

theorem after13 (c : Dev nD) (t : Fin cfg0.N) (b : Fin 3) (br : Fin 2) (g : Fin 40) (n : Fin 7800) :
    (dats m 0 c).after 13 t (ix4 b br g n) = ((args m c).row b n).sc br g := by
  rw [after0_13]
  frame_out
  rw [← row_eq m c t]
  exact rs_apply (blocks m c t) b n br g

/-- The residuals' scales. -/
theorem final13 (c : Dev nD) : (dats m 0 c).arrAt 13 cfg0.N = (args m c).rs := by
  refine (dats m 0 c).arrAt_eq_of_covers 13 (args m c).rs (by decide +kernel) fun t _ y => ?_
  have h0 : (y 0).val < 3 := lt_of_lt_of_eq (y 0).isLt (xs13 t 0)
  have h1 : (y 1).val < 2 := lt_of_lt_of_eq (y 1).isLt (xs13 t 1)
  have h2 : (y 2).val < 40 := lt_of_lt_of_eq (y 2).isLt (xs13 t 2)
  have h3 : (y 3).val < 7800 := lt_of_lt_of_eq (y 3).isLt (xs13 t 3)
  have ey : (cfg0.win 13).xinj (cfg0.grid.coords t) y = ix4 ⟨(y 0).val, h0⟩ ⟨(y 1).val, h1⟩ ⟨(y 2).val, h2⟩ ⟨(y 3).val, h3⟩ := by
    funext a; apply Fin.ext
    fin_cases a <;> rfl
  blk_simp
  refine (congrArg ((dats m 0 c).after 13 t) ey).trans ((after13 m c t ⟨(y 0).val, h0⟩ ⟨(y 1).val, h1⟩ ⟨(y 2).val, h2⟩ ⟨(y 3).val, h3⟩).trans (Args.rs_at _ ?_ ?_ ?_ ?_).symm)
  · show _ = (y 0).val
    (blk_simp [idx13 t]) <;> omega
  · show _ = (y 1).val
    (blk_simp [idx13 t]) <;> omega
  · show _ = (y 2).val
    (blk_simp [idx13 t]) <;> omega
  · show _ = (y 3).val
    (blk_simp [idx13 t]) <;> omega

theorem idx14 : ∀ t : Fin cfg0.N, win0_14.index t = ![0, 0, 0, 0] := (by decide +kernel : ∀ t : Fin grid0.N, _)
theorem xs14 : ∀ (t : Fin cfg0.N) (a : Fin 4), win0_14.xsize (cfg0.grid.coords t) a = ![3, 2, 7800, 5120] a := (by decide +kernel : ∀ t : Fin grid0.N, _)

theorem after14 (c : Dev nD) (t : Fin cfg0.N) (b : Fin 3) (br : Fin 2) (n : Fin 7800) (d : Fin 5120) :
    (dats m 0 c).after 14 t (ix4 b br n d) = ((args m c).row b n).hc br d := by
  rw [after0_14]
  unfold_out out0_14
  frame_out
  rw [← row_eq m c t]
  exact hc_apply (blocks m c t) b n br d

/-- The head's codes. -/
theorem final14 (c : Dev nD) : (dats m 0 c).arrAt 14 cfg0.N = (args m c).hc := by
  refine (dats m 0 c).arrAt_eq_of_covers 14 (args m c).hc (by decide +kernel) fun t _ y => ?_
  have h0 : (y 0).val < 3 := lt_of_lt_of_eq (y 0).isLt (xs14 t 0)
  have h1 : (y 1).val < 2 := lt_of_lt_of_eq (y 1).isLt (xs14 t 1)
  have h2 : (y 2).val < 7800 := lt_of_lt_of_eq (y 2).isLt (xs14 t 2)
  have h3 : (y 3).val < 5120 := lt_of_lt_of_eq (y 3).isLt (xs14 t 3)
  have ey : (cfg0.win 14).xinj (cfg0.grid.coords t) y = ix4 ⟨(y 0).val, h0⟩ ⟨(y 1).val, h1⟩ ⟨(y 2).val, h2⟩ ⟨(y 3).val, h3⟩ := by
    funext a; apply Fin.ext
    fin_cases a <;> rfl
  blk_simp
  refine (congrArg ((dats m 0 c).after 14 t) ey).trans ((after14 m c t ⟨(y 0).val, h0⟩ ⟨(y 1).val, h1⟩ ⟨(y 2).val, h2⟩ ⟨(y 3).val, h3⟩).trans (Args.hc_at _ ?_ ?_ ?_ ?_).symm)
  · show _ = (y 0).val
    (blk_simp [idx14 t]) <;> omega
  · show _ = (y 1).val
    (blk_simp [idx14 t]) <;> omega
  · show _ = (y 2).val
    (blk_simp [idx14 t]) <;> omega
  · show _ = (y 3).val
    (blk_simp [idx14 t]) <;> omega

theorem idx15 : ∀ t : Fin cfg0.N, win0_15.index t = ![0, 0, 0, 0] := (by decide +kernel : ∀ t : Fin grid0.N, _)
theorem xs15 : ∀ (t : Fin cfg0.N) (a : Fin 4), win0_15.xsize (cfg0.grid.coords t) a = ![3, 2, 64, 7800] a := (by decide +kernel : ∀ t : Fin grid0.N, _)

theorem after15 (c : Dev nD) (t : Fin cfg0.N) (b : Fin 3) (br : Fin 2) (o : Fin 64) (n : Fin 7800) :
    (dats m 0 c).after 15 t (ix4 b br o n) = ((args m c).row b n).out br o := by
  rw [after0_15]
  unfold_out out0_15
  frame_out
  rw [← row_eq m c t]
  exact out_apply (blocks m c t) b n br o

/-- The head's output. -/
theorem final15 (c : Dev nD) : (dats m 0 c).arrAt 15 cfg0.N = (args m c).out := by
  refine (dats m 0 c).arrAt_eq_of_covers 15 (args m c).out (by decide +kernel) fun t _ y => ?_
  have h0 : (y 0).val < 3 := lt_of_lt_of_eq (y 0).isLt (xs15 t 0)
  have h1 : (y 1).val < 2 := lt_of_lt_of_eq (y 1).isLt (xs15 t 1)
  have h2 : (y 2).val < 64 := lt_of_lt_of_eq (y 2).isLt (xs15 t 2)
  have h3 : (y 3).val < 7800 := lt_of_lt_of_eq (y 3).isLt (xs15 t 3)
  have ey : (cfg0.win 15).xinj (cfg0.grid.coords t) y = ix4 ⟨(y 0).val, h0⟩ ⟨(y 1).val, h1⟩ ⟨(y 2).val, h2⟩ ⟨(y 3).val, h3⟩ := by
    funext a; apply Fin.ext
    fin_cases a <;> rfl
  blk_simp
  refine (congrArg ((dats m 0 c).after 15 t) ey).trans ((after15 m c t ⟨(y 0).val, h0⟩ ⟨(y 1).val, h1⟩ ⟨(y 2).val, h2⟩ ⟨(y 3).val, h3⟩).trans (Args.out_at _ ?_ ?_ ?_ ?_).symm)
  · show _ = (y 0).val
    (blk_simp [idx15 t]) <;> omega
  · show _ = (y 1).val
    (blk_simp [idx15 t]) <;> omega
  · show _ = (y 2).val
    (blk_simp [idx15 t]) <;> omega
  · show _ = (y 3).val
    (blk_simp [idx15 t]) <;> omega

theorem idx16 : ∀ t : Fin cfg0.N, win0_16.index t = ![0, 0, 0] := (by decide +kernel : ∀ t : Fin grid0.N, _)
theorem xs16 : ∀ (t : Fin cfg0.N) (a : Fin 3), win0_16.xsize (cfg0.grid.coords t) a = ![3, 2, 7800] a := (by decide +kernel : ∀ t : Fin grid0.N, _)

theorem after16 (c : Dev nD) (t : Fin cfg0.N) (b : Fin 3) (br : Fin 2) (n : Fin 7800) :
    (dats m 0 c).after 16 t (ix3 b br n) = ((args m c).row b n).hsc br := by
  rw [after0_16]
  unfold_out out0_16
  frame_out
  rw [← row_eq m c t]
  exact hsc_apply (blocks m c t) b n br

/-- The head's scales. -/
theorem final16 (c : Dev nD) : (dats m 0 c).arrAt 16 cfg0.N = (args m c).hsc := by
  refine (dats m 0 c).arrAt_eq_of_covers 16 (args m c).hsc (by decide +kernel) fun t _ y => ?_
  have h0 : (y 0).val < 3 := lt_of_lt_of_eq (y 0).isLt (xs16 t 0)
  have h1 : (y 1).val < 2 := lt_of_lt_of_eq (y 1).isLt (xs16 t 1)
  have h2 : (y 2).val < 7800 := lt_of_lt_of_eq (y 2).isLt (xs16 t 2)
  have ey : (cfg0.win 16).xinj (cfg0.grid.coords t) y = ix3 ⟨(y 0).val, h0⟩ ⟨(y 1).val, h1⟩ ⟨(y 2).val, h2⟩ := by
    funext a; apply Fin.ext
    fin_cases a <;> rfl
  blk_simp
  refine (congrArg ((dats m 0 c).after 16 t) ey).trans ((after16 m c t ⟨(y 0).val, h0⟩ ⟨(y 1).val, h1⟩ ⟨(y 2).val, h2⟩).trans (Args.hsc_at _ ?_ ?_ ?_).symm)
  · show _ = (y 0).val
    (blk_simp [idx16 t]) <;> omega
  · show _ = (y 1).val
    (blk_simp [idx16 t]) <;> omega
  · show _ = (y 2).val
    (blk_simp [idx16 t]) <;> omega

/-- The reference's run: its six results, and its arguments kept. -/
theorem run : θ_run defs (onTc main) ⟨m, fun _ => 0, ρ⟩ fun r => ∀ c : Dev nD,
    (r.2.mem ((c.tc : Thread nD τ).loc main_v9_0) = (args m c).emb
    ∧ r.2.mem ((c.tc : Thread nD τ).loc main_v9_1) = (args m c).rc
    ∧ r.2.mem ((c.tc : Thread nD τ).loc main_v9_2) = (args m c).rs
    ∧ r.2.mem ((c.tc : Thread nD τ).loc main_v9_3) = (args m c).hc
    ∧ r.2.mem ((c.tc : Thread nD τ).loc main_v9_4) = (args m c).out
    ∧ r.2.mem ((c.tc : Thread nD τ).loc main_v9_5) = (args m c).hsc)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) := by
  refine (θ_run defs _ _).mono (fun r h c => ?_) (run_blocks m ρ)
  obtain ⟨h0, h1, h2, h3, h4, h5, hk⟩ := h c
  exact ⟨⟨h0.trans (final11 m c), h1.trans (final12 m c), h2.trans (final13 m c), h3.trans (final14 m c), h4.trans (final15 m c), h5.trans (final16 m c)⟩, hk⟩

end Cert.ReferenceIdeal.Ref
-- ==== Proof.RowIdeal.lean ====
/- One row of what the idealized kernel's body computes: the operations of the fold, read at an index, are the functions of `Spec`. -/
module

public import proofs.«01_k».proof.Proof.TripleIdeal
public import proofs.«01_k».proof.Proof.Spec
public import Idealize.ShloMosaic.Lib.Pointwise
public import Idealize.ShloMosaic.PureOps.Ideal.Laws

@[expose] public section

set_option maxRecDepth 16384

noncomputable section

namespace Cert.KernelIdeal.Fold

open Cert.KernelIdeal Cert.KernelIdeal.Gen Idealize.ShloMosaic Idealize.SL.Sem
open Cert.Spec (Row)
open VecWindow (window)

/-- What row `r` of the results depends on, read off a point's blocks. -/
def rowOf (X : Ins Ideal) (r : Fin 128) : Row where
  sp := X.x2 (ix1 0)
  p k := X.x3 (ix3 0 k r)
  w k d := X.x4 (ix2 k d)
  se d := X.x5 (ix2 0 d)
  be d := X.x6 (ix2 0 d)
  h br d := X.x7 (ix4 0 br r d)
  hs d := X.x8 (ix3 0 0 d)
  hg d := X.x9 (ix3 0 0 d)
  wh d o := X.x10 (ix2 o d)
  sh o := X.x11 (ix2 0 o)
  bh o := X.x12 (ix2 0 o)

/-! ## Windows at an index -/

theorem win1 {α : Type} {a o0 n0 : ℕ} (x : (⟨1, ![a]⟩ : Shape).Idx → α) {inb} (i : Fin n0) :
    window x ![o0] ![n0] inb (ix1 i) = x (ix1 ⟨o0 + i.val, (Nat.add_lt_add_left i.isLt _).trans_le (inb 0)⟩) := by
  unfold window; congr 1; funext t; apply Fin.ext
  match t with
  | 0 => exact congrArg (o0 + ·) (Nat.one_mul i.val)

theorem win2 {α : Type} {a b o0 o1 n0 n1 : ℕ} (x : (⟨2, ![a, b]⟩ : Shape).Idx → α) {inb} (i : Fin n0) (j : Fin n1) :
    window x ![o0, o1] ![n0, n1] inb (ix2 i j)
      = x (ix2 ⟨o0 + i.val, (Nat.add_lt_add_left i.isLt _).trans_le (inb 0)⟩ ⟨o1 + j.val, (Nat.add_lt_add_left j.isLt _).trans_le (inb 1)⟩) := by
  unfold window; congr 1; funext t; apply Fin.ext
  match t with
  | 0 => exact congrArg (o0 + ·) (Nat.one_mul i.val)
  | 1 => exact congrArg (o1 + ·) (Nat.one_mul j.val)

theorem win3 {α : Type} {a b c o0 o1 o2 n0 n1 n2 : ℕ} (x : (⟨3, ![a, b, c]⟩ : Shape).Idx → α) {inb} (i : Fin n0) (j : Fin n1) (k : Fin n2) :
    window x ![o0, o1, o2] ![n0, n1, n2] inb (ix3 i j k)
      = x (ix3 ⟨o0 + i.val, (Nat.add_lt_add_left i.isLt _).trans_le (inb 0)⟩ ⟨o1 + j.val, (Nat.add_lt_add_left j.isLt _).trans_le (inb 1)⟩
          ⟨o2 + k.val, (Nat.add_lt_add_left k.isLt _).trans_le (inb 2)⟩) := by
  unfold window; congr 1; funext t; apply Fin.ext
  match t with
  | 0 => exact congrArg (o0 + ·) (Nat.one_mul i.val)
  | 1 => exact congrArg (o1 + ·) (Nat.one_mul j.val)
  | 2 => exact congrArg (o2 + ·) (Nat.one_mul k.val)

theorem win4 {α : Type} {a b c d o0 o1 o2 o3 n0 n1 n2 n3 : ℕ} (x : (⟨4, ![a, b, c, d]⟩ : Shape).Idx → α) {inb} (i : Fin n0) (j : Fin n1) (k : Fin n2)
    (l : Fin n3) :
    window x ![o0, o1, o2, o3] ![n0, n1, n2, n3] inb (ix4 i j k l)
      = x (ix4 ⟨o0 + i.val, (Nat.add_lt_add_left i.isLt _).trans_le (inb 0)⟩ ⟨o1 + j.val, (Nat.add_lt_add_left j.isLt _).trans_le (inb 1)⟩
          ⟨o2 + k.val, (Nat.add_lt_add_left k.isLt _).trans_le (inb 2)⟩ ⟨o3 + l.val, (Nat.add_lt_add_left l.isLt _).trans_le (inb 3)⟩) := by
  unfold window; congr 1; funext t; apply Fin.ext
  match t with
  | 0 => exact congrArg (o0 + ·) (Nat.one_mul i.val)
  | 1 => exact congrArg (o1 + ·) (Nat.one_mul j.val)
  | 2 => exact congrArg (o2 + ·) (Nat.one_mul k.val)
  | 3 => exact congrArg (o3 + ·) (Nat.one_mul l.val)

theorem winFirst {α : Type} (x : S1.Idx → α) {inb h} : window x ![0] S1.size inb (Shape.Idx.first h) = x (ix1 0) :=
  congrArg x (funext fun t => match t with | 0 => Subsingleton.elim (α := Fin 1) _ _)

/-! ## The embedding and the residuals -/

theorem embX_apply (X : Ins Ideal) (j : ℕ) (hj : j < 20) (r : Fin 128) (c : Fin 256) :
    embX X j hj (ix2 r c) = (rowOf X r).emb ⟨256 * j + c.val, by omega⟩ := by
  unfold embX embChunk pcodes
  pointwise
  simp only [win2, win3, zero_add, Fin.eta, Row.emb, rowOf]
  congr 3
  exact winFirst _

theorem hidX_apply (X : Ins Ideal) (br j : ℕ) (hb : br < 2) (hj : j < 20) (r : Fin 128) (c : Fin 256) :
    hidX X br j hb hj (ix2 r c) = (rowOf X r).h ⟨br, hb⟩ ⟨256 * j + c.val, by omega⟩ := by
  unfold hidX hid256
  pointwise
  simp only [win4, zero_add, Fin.eta, rowOf]
  rfl

theorem resX_apply (X : Ins Ideal) (br j : ℕ) (hb : br < 2) (hj : j < 20) (r : Fin 128) (c : Fin 256) :
    resX X br j hb hj (ix2 r c) = (rowOf X r).res ⟨br, hb⟩ ⟨256 * j + c.val, by omega⟩ := by
  show hidX X br j hb hj (ix2 r c) - embX X j hj (ix2 r c) = _
  rw [hidX_apply, embX_apply]; rfl

theorem amLo_apply (X : Ins Ideal) (br j : ℕ) (hb : br < 2) (hj : j < 20) (r : Fin 128) :
    amLo (resX X br j hb hj) (ix3 0 r 0) = (rowOf X r).am ⟨br, hb⟩ ⟨2 * j, by omega⟩ := by
  unfold amLo rowMax lo128
  pointwise
  rw [Spec.negInf, Spec.fold_max]
  refine iSup_congr fun k => ?_
  show Spec.abs _ = _
  rw [resX_apply]
  congr 3; simp only; omega

theorem amHi_apply (X : Ins Ideal) (br j : ℕ) (hb : br < 2) (hj : j < 20) (r : Fin 128) :
    amHi (resX X br j hb hj) (ix3 0 r 0) = (rowOf X r).am ⟨br, hb⟩ ⟨2 * j + 1, by omega⟩ := by
  unfold amHi rowMax hi128
  pointwise
  rw [Spec.negInf, Spec.fold_max]
  refine iSup_congr fun k => ?_
  show Spec.abs _ = _
  rw [resX_apply]
  congr 3; simp only; omega

/-- The scratch array of maxima holds every group's. -/
theorem hasZ_apply {X : Ins Ideal} {Z : S2x128x128.Idx → EReal}
    (hZ : HasZ (fun br j hb hj => amLo (resX X br j hb hj)) (fun br j hb hj => amHi (resX X br j hb hj)) 20 Z)
    (br : ℕ) (hb : br < 2) (r : Fin 128) (g : Fin 40) : Z (ix3 ⟨br, hb⟩ r ⟨g.val, by omega⟩) = (rowOf X r).am ⟨br, hb⟩ g := by
  obtain ⟨h0, h1⟩ := hZ br (g.val / 2) hb (by omega) (by omega)
  rcases Nat.mod_two_eq_zero_or_one g.val with hg | hg
  · have e : Z (ix3 ⟨br, hb⟩ r ⟨2 * (g.val / 2), by omega⟩) = _ := (congrArg Z (by simp)).trans ((win3 Z 0 r 0).symm.trans (congrFun h0 (ix3 0 r 0)))
    rw [show (⟨g.val, by omega⟩ : Fin 128) = ⟨2 * (g.val / 2), by omega⟩ from Fin.ext (by simp only; omega), e]
    exact (amLo_apply X br _ hb _ r).trans (congrArg _ (Fin.ext (by simp only; omega)))
  · have e : Z (ix3 ⟨br, hb⟩ r ⟨2 * (g.val / 2) + 1, by omega⟩) = _ := (congrArg Z (by simp)).trans ((win3 Z 0 r 0).symm.trans (congrFun h1 (ix3 0 r 0)))
    rw [show (⟨g.val, by omega⟩ : Fin 128) = ⟨2 * (g.val / 2) + 1, by omega⟩ from Fin.ext (by simp only; omega), e]
    exact (amHi_apply X br _ hb _ r).trans (congrArg _ (Fin.ext (by simp only; omega)))

/-- The scales of a row's groups. -/
theorem scales_apply (am : Vec Ideal S1x128x128 .f32) (r c : Fin 128) :
    scales am (ix2 r c) = if c.val < 40 then Spec.gscale (am (ix3 0 r c)) else 1 := by
  unfold scales
  pointwise
  rw [show IntOp.cmpi .slt (BitVec.ofNat 32 c.val) 40#32 = if c.val < 40 then 1#1 else 0#1 by revert c; decide +kernel]
  by_cases h : c.val < 40
  · rw [if_pos h, if_pos h]; rfl
  · rw [if_neg h, if_neg h]; rfl

theorem scales_pos (am : Vec Ideal S1x128x128 .f32) (r c : Fin 128) : 0 < (scales am (ix2 r c) : EReal) := by
  rw [scales_apply]; split
  · exact Spec.gscale_pos _
  · exact zero_lt_one

theorem recips_apply (sc : FVec Ideal S128x128 .f32) (r c : Fin 128) :
    recips sc (ix2 r c) = if c.val < 40 then Ideal.div 1 (sc (ix2 r c)) else (0 : EReal) := by
  unfold recips
  pointwise
  rw [show IntOp.cmpi .slt (BitVec.ofNat 32 c.val) 40#32 = if c.val < 40 then 1#1 else 0#1 by revert c; decide +kernel]
  by_cases h : c.val < 40
  · rw [if_pos h, if_pos h]; rfl
  · rw [if_neg h, if_neg h]; rfl

/-- Three parts of finite numbers that are exact already: the first is the number, the others zero. -/
theorem split3_eq (x : FVec Ideal S128x128 .f32) (hx : ∀ i, ∃ r : ℝ, x i = (r : EReal)) : split3 x = x := by
  have h0 : subf x (hiPart x) = fun _ => (0 : EReal) := funext fun i => by
    obtain ⟨r, hr⟩ := hx i
    show x i - x i = (0 : EReal)
    rw [hr, ← EReal.coe_sub, sub_self]; rfl
  have h1 : subf (subf x (hiPart x)) (hiPart (subf x (hiPart x))) = fun _ => (0 : EReal) := by
    rw [h0]; funext i; show (0 : EReal) - 0 = 0; simp
  unfold split3
  rw [h1, h0]
  funext i
  show x i + (0 : EReal) + (0 : EReal) = x i
  rw [add_zero, add_zero]

theorem laneGroup_apply : ∀ c : Fin 256, laneGroup (ix2 (0 : Fin 128) c) = BitVec.ofNat 32 (c.val / 128) := by
  decide +kernel

theorem selMat_apply (j : ℕ) (hj : j < 20) (x : Fin 128) (c : Fin 256) :
    selMat (F := Ideal) j (ix2 x c)
      = if x.val = 2 * j + c.val / 128 ∨ x.val = 2 * j + c.val / 128 + 40 ∨ x.val = 2 * j + c.val / 128 + 80 then (1 : EReal) else 0 := by
  have hg : group j (ix2 x c) = BitVec.ofNat 32 (2 * j + c.val / 128) := by
    show laneGroup (ix2 (0 : Fin 128) c) + BitVec.ofNat 32 (2 * j) = _
    rw [laneGroup_apply, ← BitVec.ofNat_add, Nat.add_comm]
  have hc : ∀ n, n < 128 → IntOp.cmpi .eq (BitVec.ofNat 32 x.val) (BitVec.ofNat 32 n) = if x.val = n then 1#1 else 0#1 := by
    intro n hn
    have := x.isLt
    have e : (BitVec.ofNat 32 x.val = BitVec.ofNat 32 n) ↔ x.val = n := by
      constructor
      · intro h
        have := congrArg BitVec.toNat h
        simp only [BitVec.toNat_ofNat] at this
        omega
      · intro h; rw [h]
    by_cases h : x.val = n
    · rw [if_pos h, h]; simp [IntOp.cmpi]
    · rw [if_neg h]
      show BitVec.ofBool (BitVec.ofNat 32 x.val == BitVec.ofNat 32 n) = 0#1
      rw [beq_eq_false_iff_ne.2 (e.not.2 h)]; rfl
  have h1 : IntOp.cmpi .eq (BitVec.ofNat 32 x.val) (group j (ix2 x c)) = if x.val = 2 * j + c.val / 128 then 1#1 else 0#1 := by
    rw [hg]; exact hc _ (by omega)
  have h2 : IntOp.cmpi .eq (BitVec.ofNat 32 x.val) (group j (ix2 x c) + 40#32) = if x.val = 2 * j + c.val / 128 + 40 then 1#1 else 0#1 := by
    rw [hg, show (40#32 : BitVec 32) = BitVec.ofNat 32 40 from rfl, ← BitVec.ofNat_add]; exact hc _ (by omega)
  have h3 : IntOp.cmpi .eq (BitVec.ofNat 32 x.val) (group j (ix2 x c) + 80#32) = if x.val = 2 * j + c.val / 128 + 80 then 1#1 else 0#1 := by
    rw [hg, show (80#32 : BitVec 32) = BitVec.ofNat 32 80 from rfl, ← BitVec.ofNat_add]; exact hc _ (by omega)
  unfold selMat
  pointwise
  show FloatOps.sitofp (F := Ideal) .f32 (BitVec.setWidth 32
      ((IntOp.cmpi .eq (BitVec.ofNat 32 x.val) (group j (ix2 x c)) ||| IntOp.cmpi .eq (BitVec.ofNat 32 x.val) (group j (ix2 x c) + 40#32))
        ||| IntOp.cmpi .eq (BitVec.ofNat 32 x.val) (group j (ix2 x c) + 80#32))) = _
  rw [h1, h2, h3]
  have s1 : FloatOps.sitofp (F := Ideal) .f32 (1#32 : BitVec 32) = (1 : EReal) := by
    show (((1#32 : BitVec 32).toInt : ℝ) : EReal) = 1
    rw [show (1#32 : BitVec 32).toInt = 1 by decide]; simp
  have s0 : FloatOps.sitofp (F := Ideal) .f32 (0#32 : BitVec 32) = (0 : EReal) := by
    show (((0#32 : BitVec 32).toInt : ℝ) : EReal) = 0
    rw [show (0#32 : BitVec 32).toInt = 0 by decide]; simp
  by_cases a1 : x.val = 2 * j + c.val / 128
  · rw [if_pos a1, if_neg (by omega), if_neg (by omega), if_pos (.inl a1)]; exact s1
  · by_cases a2 : x.val = 2 * j + c.val / 128 + 40
    · rw [if_neg a1, if_pos a2, if_neg (by omega), if_pos (.inr (.inl a2))]; exact s1
    · by_cases a3 : x.val = 2 * j + c.val / 128 + 80
      · rw [if_neg a1, if_neg a2, if_pos a3, if_pos (.inr (.inr a3))]; exact s1
      · rw [if_neg a1, if_neg a2, if_neg a3, if_neg (by omega)]; exact s0

theorem pack256_apply (x : FVec Ideal S128x256 .f32) (r : Fin 128) (c : Fin 256) : pack256 x (ix3 0 r c) = x (ix2 r c) := by
  unfold pack256; pointwise

/-- The residual codes of a chunk. -/
theorem rcX_apply (X : Ins Ideal) (Z : Vec Ideal S1x128x128 .f32) (br j : ℕ) (hb : br < 2) (hj : j < 20) (r : Fin 128) (c : Fin 256)
    (hZ : ∀ g : Fin 40, Z (ix3 0 r ⟨g.val, by omega⟩) = (rowOf X r).am ⟨br, hb⟩ g) :
    rcX X Z br hb j hj (ix4 0 0 r c) = (rowOf X r).rc ⟨br, hb⟩ ⟨256 * j + c.val, by omega⟩ := by
  have hf : ∀ r c : Fin 128, ∃ y : ℝ, recips (scales Z) (ix2 r c) = (y : EReal) := fun r c => by
    rw [recips_apply]; split
    · obtain ⟨y, -, hy⟩ := Spec.inv_real (scales_pos Z r c)
      exact ⟨y, by rw [Spec.div_eq (scales_pos Z r c), one_mul]; exact hy⟩
    · exact ⟨0, rfl⟩
  have hfin : ∀ i, ∃ y : ℝ, recips (scales Z) i = (y : EReal) := fun i => by
    obtain ⟨y, hy⟩ := hf (i 0) (i 1)
    exact ⟨y, (congrArg _ (eq_ix2 i)).trans hy⟩
  unfold rcX rcChunk
  pointwise
  rw [split3_eq _ hfin]
  have hlane : (∑ x : Fin 128, recips (scales Z) (ix2 r x) * selMat (F := Ideal) j (ix2 x c) : EReal)
      = Ideal.div 1 ((rowOf X r).sc ⟨br, hb⟩ ⟨2 * j + c.val / 128, by omega⟩) := by
    rw [Finset.sum_eq_single (⟨2 * j + c.val / 128, by omega⟩ : Fin 128)]
    · rw [selMat_apply j hj, if_pos (.inl rfl), recips_apply, if_pos (by simp only; omega), scales_apply, if_pos (by simp only; omega)]
      exact (mul_one (M := EReal) _).trans (congrArg _ (congrArg _ (hZ ⟨2 * j + c.val / 128, by omega⟩)))
    · intro x _ hx
      have hx' : x.val ≠ 2 * j + c.val / 128 := fun e => hx (Fin.ext e)
      by_cases hlt : x.val < 40
      · rw [selMat_apply j hj, if_neg (by omega)]; exact mul_zero (M₀ := EReal) _
      · rw [recips_apply, if_neg hlt]; exact zero_mul (M₀ := EReal) _
    · intro h; exact absurd (Finset.mem_univ _) h
  rw [hlane, pack256_apply, resX_apply, Spec.mul_recip (Row.sc_pos _ _ _)]
  exact congrArg (fun g => Spec.code (Ideal.div _ ((rowOf X r).sc ⟨br, hb⟩ g))) (Fin.ext (by simp only; omega))

/-- The residual scales. -/
theorem scalesT_apply (X : Ins Ideal) (Z : Vec Ideal S1x128x128 .f32) (br : ℕ) (hb : br < 2) (r : Fin 128) (g : Fin 40)
    (hZ : ∀ g : Fin 40, Z (ix3 0 r ⟨g.val, by omega⟩) = (rowOf X r).am ⟨br, hb⟩ g) :
    scalesT (scales Z) (ix4 0 0 g r) = (rowOf X r).sc ⟨br, hb⟩ g := by
  unfold scalesT
  pointwise
  rw [scales_apply, if_pos g.isLt, hZ]; rfl

end Cert.KernelIdeal.Fold

end
-- ==== Proof.HeadIdeal.lean ====
/- One row of the modulated layer norm and the head as the idealized kernel's body computes them. -/
module

public import proofs.«01_k».proof.Proof.RowIdeal
public import proofs.«01_k».proof.Proof.HeadSpec

@[expose] public section

set_option maxRecDepth 16384

noncomputable section

namespace Cert.KernelIdeal.Fold

open Cert.KernelIdeal Cert.KernelIdeal.Gen Idealize.ShloMosaic Idealize.SL.Sem
open Cert.Spec (Row)
open VecWindow (window)

theorem zero128_apply (r l : Fin 128) : zero128 (F := Ideal) (ix2 r l) = (0 : EReal) := by
  unfold zero128; pointwise

theorem invD_eq : invD (F := Ideal) = (((5120 : ℝ)⁻¹ : ℝ) : EReal) := by
  rw [← one_div]; rfl

/-- A row's mean is its sum divided by its length. -/
theorem rowMean_apply (x : FVec Ideal S128x128 .f32) (r : Fin 128) : rowMean x (ix2 r 0) = Ideal.div (∑ l : Fin 128, x (ix2 r l) : EReal) Spec.c5120 := by
  rw [Spec.div_eq Spec.c5120_pos, Spec.c5120_eq, ← EReal.coe_inv, ← invD_eq]
  unfold rowMean
  pointwise

/-- The hidden states of the block at an index. -/
theorem hid_apply (X : Ins Ideal) (br n : ℕ) (hb : br < 2) (hn : n < 40) (r l : Fin 128) :
    window X.x7 ![0, br, 0, 128 * n] ![1, 1, 128, 128] (inb7a br n hb hn) (ix4 0 0 r l) = (rowOf X r).h ⟨br, hb⟩ ⟨128 * n + l.val, by omega⟩ := by
  rw [win4]; simp only [zero_add, rowOf]; rfl

theorem meanAcc_apply (X : Ins Ideal) (br : ℕ) (hb : br < 2) (r l : Fin 128) : ∀ (n : ℕ) (h : n ≤ 40),
    meanAcc X.x7 br hb n h (ix2 r l) = (∑ i : Fin n, (rowOf X r).h ⟨br, hb⟩ ⟨128 * i.val + l.val, by omega⟩ : EReal)
  | 0, _ => by rw [Fin.sum_univ_zero]; exact zero128_apply r l
  | n + 1, h => by
    rw [Fin.sum_univ_castSucc]
    unfold meanAcc meanStep hid128
    pointwise
    rw [hid_apply X br n hb h, meanAcc_apply X br hb r l n (Nat.le_of_succ_le h)]
    rfl

/-- The mean of a row of hidden states. -/
theorem muX_apply (X : Ins Ideal) (br : ℕ) (hb : br < 2) (r : Fin 128) : muX X.x7 br hb (ix2 r 0) = (rowOf X r).mu ⟨br, hb⟩ := by
  unfold muX Row.mu
  rw [rowMean_apply, ← Spec.sum_lanes]
  exact congrArg (Ideal.div · _) (Finset.sum_congr rfl fun l _ => meanAcc_apply X br hb r l 40 le_rfl)

theorem varAcc_apply (X : Ins Ideal) (br : ℕ) (hb : br < 2) (r l : Fin 128) : ∀ (n : ℕ) (h : n ≤ 40),
    varAcc X.x7 br hb (muX X.x7 br hb) n h (ix2 r l)
      = (∑ i : Fin n, (rowOf X r).ctr ⟨br, hb⟩ ⟨128 * i.val + l.val, by omega⟩ * (rowOf X r).ctr ⟨br, hb⟩ ⟨128 * i.val + l.val, by omega⟩ : EReal)
  | 0, _ => by rw [Fin.sum_univ_zero]; exact zero128_apply r l
  | n + 1, h => by
    rw [Fin.sum_univ_castSucc]
    unfold varAcc varStep hid128
    pointwise
    rw [hid_apply X br n hb h, varAcc_apply X br hb r l n (Nat.le_of_succ_le h), muX_apply]
    rfl

/-- The standard deviation of a row of hidden states. -/
theorem sdX_apply (X : Ins Ideal) (br : ℕ) (hb : br < 2) (r : Fin 128) : sdX X.x7 br hb (ix2 r 0) = (rowOf X r).std ⟨br, hb⟩ := by
  unfold sdX stdOf Row.std Row.var
  pointwise
  rw [rowMean_apply, ← Spec.sum_lanes]
  exact congrArg (fun y => Ideal.sqrt (Ideal.div y _ + _)) (Finset.sum_congr rfl fun l _ => varAcc_apply X br hb r l 40 le_rfl)

theorem modX_apply (X : Ins Ideal) (br j : ℕ) (hb : br < 2) (hj : j < 20) (r : Fin 128) (c : Fin 256) :
    modX X br j hb hj (ix2 r c) = (rowOf X r).u ⟨br, hb⟩ ⟨256 * j + c.val, by omega⟩ := by
  unfold modX modChunk gain Row.u Row.ctr
  pointwise
  rw [hidX_apply, muX_apply, sdX_apply, win3, win3]
  simp only [zero_add, rowOf]

theorem umX_le (X : Ins Ideal) (br : ℕ) (hb : br < 2) (r l : Fin 128) (y : EReal) : ∀ (n : ℕ) (h : n ≤ 20),
    umX X br hb n h (ix2 r l) ≤ y ↔ 0 ≤ y ∧ ∀ i : Fin n, Spec.abs ((rowOf X r).u ⟨br, hb⟩ ⟨256 * i.val + l.val, by omega⟩) ≤ y
      ∧ Spec.abs ((rowOf X r).u ⟨br, hb⟩ ⟨256 * i.val + (128 + l.val), by omega⟩) ≤ y
  | 0, _ => by
    show (zero128 (F := Ideal) (ix2 r l) : EReal) ≤ y ↔ _
    rw [zero128_apply]
    exact ⟨fun h => ⟨h, fun i => i.elim0⟩, fun h => h.1⟩
  | n + 1, h => by
    unfold umX umaxStep lo128 hi128
    pointwise
    rw [max_le_iff, max_le_iff, umX_le X br hb r l y n (Nat.le_of_succ_le h), modX_apply, modX_apply, Fin.forall_fin_succ']
    exact ⟨fun h => ⟨h.1.1.1, h.1.1.2, h.1.2, h.2⟩, fun h => ⟨⟨⟨h.1, h.2.1⟩, h.2.2.1⟩, h.2.2.2⟩⟩

/-- The greatest absolute value of a row. -/
theorem umaxX_apply (X : Ins Ideal) (br : ℕ) (hb : br < 2) (r : Fin 128) : umaxX X br hb (ix2 r 0) = (rowOf X r).um ⟨br, hb⟩ := by
  refine eq_of_forall_ge_iff fun y => ?_
  unfold umaxX rowMax Row.um
  pointwise
  rw [Spec.negInf, Spec.fold_max, iSup_le_iff, iSup_le_iff]
  constructor
  · intro h d
    have hd := ((umX_le X br hb r ⟨d.val % 128, by omega⟩ y 20 le_rfl).1 (h _)).2 ⟨d.val / 256, by omega⟩
    rcases Nat.lt_or_ge (d.val % 256) 128 with hm | hm
    · convert hd.1 using 3; apply Fin.ext; simp only; omega
    · convert hd.2 using 3; apply Fin.ext; simp only; omega
  · intro h l
    exact (umX_le X br hb r l y 20 le_rfl).2 ⟨(Spec.abs_nonneg _).trans (h 0), fun i => ⟨h _, h _⟩⟩

section
variable {X : Ins Ideal} {r : Fin 128} {br : ℕ} {hb : br < 2} {s : ℝ} (hs : 0 < s) (hstd : (rowOf X r).std ⟨br, hb⟩ = (s : EReal))
include hs hstd

/-- The codes of a chunk of the modulated layer norm. -/
theorem hcX_apply (j : ℕ) (hj : j < 20) (c : Fin 256) : hcX X br j hb hj (ix2 r c) = (rowOf X r).hc ⟨br, hb⟩ ⟨256 * j + c.val, by omega⟩ := by
  unfold hcX hcChunk recip1 uScale
  pointwise
  rw [pack256_apply, modX_apply, umaxX_apply]
  exact congrArg Spec.clip (Spec.ratio_eq hs hstd _)

/-- The head's product. -/
theorem accX_apply (o : Fin 64) : ∀ (n : ℕ) (h : n ≤ 20), accX X br hb n h (ix2 r o)
      = (∑ i : Fin n, ∑ c : Fin 256, (rowOf X r).hc ⟨br, hb⟩ ⟨256 * i.val + c.val, by omega⟩ * (rowOf X r).wh ⟨256 * i.val + c.val, by omega⟩ o : EReal)
  | 0, _ => by
    rw [Fin.sum_univ_zero]; unfold accX; pointwise
  | n + 1, h => by
    rw [Fin.sum_univ_castSucc]
    unfold accX headStep
    pointwise
    rw [accX_apply o n (Nat.le_of_succ_le h)]
    refine congrArg _ (Finset.sum_congr rfl fun c _ => ?_)
    rw [hcX_apply hs hstd, win2]
    simp only [zero_add, rowOf]
    rfl

/-- The scale of a row of the modulated layer norm. -/
theorem hsX_apply : hsX X br hb (ix2 r 0) = (rowOf X r).hsc ⟨br, hb⟩ := by
  rw [Spec.hsc_eq hs hstd]
  unfold hsX hScale uScale
  pointwise
  rw [umaxX_apply, sdX_apply]
  rfl

theorem hScaleT_apply (u v : Fin 1) : hScaleT (hsX X br hb) (ix3 u v r) = (rowOf X r).hsc ⟨br, hb⟩ := by
  rw [← hsX_apply hs hstd]
  unfold hScaleT
  pointwise

/-- The head's result. -/
theorem outT_apply (u v : Fin 1) (o : Fin 64) :
    outT (accX X br hb 20 le_rfl) (hsX X br hb) (window X.x11 ![0, 0] S1x64.size inb_S1x64_S1x64_0_0) (window X.x12 ![0, 0] S1x64.size inb_S1x64_S1x64_0_0)
      (ix4 u v o r) = (rowOf X r).out ⟨br, hb⟩ o := by
  unfold outT Row.out
  pointwise
  rw [hsX_apply hs hstd, accX_apply hs hstd, ← Spec.sum_chunks, win2, win2]
  simp only [zero_add, rowOf]

end

end Cert.KernelIdeal.Fold

end
-- ==== Proof.KernelRow.lean ====
/-
  The rows a grid point of the kernel reads: rows of the arguments.
-/
module

public import proofs.«01_k».proof.Proof.HeadIdeal
public import proofs.«01_k».proof.Proof.Arrays
public import proofs.«01_k».proof.Proof.ObligIdeal
public import Idealize.ShloMosaic.Lib.Pipeline.ValueKit.Point
public import Idealize.ShloMosaic.Lib.Pointwise

@[expose] public section

set_option maxRecDepth 65536

noncomputable section

namespace Cert.KernelIdeal.Fold

open Cert.KernelIdeal Cert.KernelIdeal.Gen Idealize.ShloMosaic
open Idealize.ShloMosaic.TcCoe
open Cert.Spec

variable (m : (ℓ : Loc nD τ sig) → Buf (Elt Ideal) ℓ)

/-- The kernel's arguments on a device. -/
def args (c : Dev nD) : Args where
  sp := m ((c : Thread nD τ).loc main_arg0)
  p := m ((c : Thread nD τ).loc main_arg1)
  w := m ((c : Thread nD τ).loc main_arg2)
  se := m ((c : Thread nD τ).loc main_arg3)
  be := m ((c : Thread nD τ).loc main_arg4)
  h := m ((c : Thread nD τ).loc main_arg5)
  hs := m ((c : Thread nD τ).loc main_arg6)
  hg := m ((c : Thread nD τ).loc main_arg7)
  wh := m ((c : Thread nD τ).loc main_arg8)
  sh := m ((c : Thread nD τ).loc main_arg9)
  bh := m ((c : Thread nD τ).loc main_arg10)

theorem idx1 : ∀ t : Fin cfg0.N, win0_1.index t = ![t.val / 61, 0, t.val % 61] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val / 61, 0, t.val % 61, 0] := (by decide +kernel : ∀ t : Fin grid0.N, _)
theorem idx6 : ∀ t : Fin cfg0.N, win0_6.index t = ![t.val / 61, 0, 0] := (by decide +kernel : ∀ t : Fin grid0.N, _)
theorem idx7 : ∀ t : Fin cfg0.N, win0_7.index t = ![t.val / 61, 0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)

/-- The batch of a grid point. -/
def batch (t : Fin cfg0.N) : Fin 3 := ⟨t.val / 61, by have : t.val < 183 := t.isLt; omega⟩

theorem read0 (c : Dev nD) (t : Fin cfg0.N) : (iblk m c 0 t : S1.Idx → EReal) (ix1 0) = (args m c).sp ix0 := by
  blk_simp [iblk]
  entry_read
  dsimp only [args]
  pointwise

theorem read2 (c : Dev nD) (t : Fin cfg0.N) (k : Fin 64) (d : Fin 5120) :
    (iblk m c 2 t : S64x5120.Idx → EReal) (ix2 k d) = (args m c).w (ix2 k d) := by
  blk_simp [iblk, V_main_arg2]
  dsimp only [args]
  blk_ext [idx2 t]

theorem read3 (c : Dev nD) (t : Fin cfg0.N) (d : Fin 5120) : (iblk m c 3 t : S1x5120.Idx → EReal) (ix2 0 d) = (args m c).se (ix1 d) := by
  blk_simp [iblk]
  entry_read
  dsimp only [args]
  pointwise
  blk_ext [idx3 t]

theorem read4 (c : Dev nD) (t : Fin cfg0.N) (d : Fin 5120) : (iblk m c 4 t : S1x5120.Idx → EReal) (ix2 0 d) = (args m c).be (ix1 d) := by
  blk_simp [iblk]
  entry_read
  dsimp only [args]
  pointwise
  blk_ext [idx4 t]

theorem read6 (c : Dev nD) (t : Fin cfg0.N) (d : Fin 5120) : (iblk m c 6 t : S1x1x5120.Idx → EReal) (ix3 0 0 d) = (args m c).hs (ix2 (batch t) d) := by
  blk_simp [iblk]
  entry_read
  dsimp only [args, batch]
  pointwise
  blk_ext [idx6 t]

theorem read7 (c : Dev nD) (t : Fin cfg0.N) (d : Fin 5120) : (iblk m c 7 t : S1x1x5120.Idx → EReal) (ix3 0 0 d) = (args m c).hg (ix2 (batch t) d) := by
  blk_simp [iblk]
  entry_read
  dsimp only [args, batch]
  pointwise
  blk_ext [idx7 t]

theorem read8 (c : Dev nD) (t : Fin cfg0.N) (d : Fin 5120) (o : Fin 64) :
    (iblk m c 8 t : S64x5120.Idx → EReal) (ix2 o d) = (args m c).wh (ix2 d o) := by
  blk_simp [iblk]
  entry_read
  dsimp only [args]
  pointwise
  blk_ext [idx8 t]

theorem read9 (c : Dev nD) (t : Fin cfg0.N) (o : Fin 64) : (iblk m c 9 t : S1x64.Idx → EReal) (ix2 0 o) = (args m c).sh (ix1 o) := by
  blk_simp [iblk]
  entry_read
  dsimp only [args]
  pointwise
  blk_ext [idx9 t]

theorem read10 (c : Dev nD) (t : Fin cfg0.N) (o : Fin 64) : (iblk m c 10 t : S1x64.Idx → EReal) (ix2 0 o) = (args m c).bh (ix1 o) := by
  blk_simp [iblk]
  entry_read
  dsimp only [args]
  pointwise
  blk_ext [idx10 t]

theorem xs1 : ∀ (t : Fin cfg0.N) (a : Fin 3), win0_1.xsize (cfg0.grid.coords t) a = ![1, 64, min 128 (7800 - 128 * (t.val % 61))] a :=
  (by decide +kernel : ∀ t : Fin grid0.N, _)
theorem xs5 : ∀ (t : Fin cfg0.N) (a : Fin 4), win0_5.xsize (cfg0.grid.coords t) a = ![1, 2, min 128 (7800 - 128 * (t.val % 61)), 5120] a :=
  (by decide +kernel : ∀ t : Fin grid0.N, _)

/-- A row of a grid point's tile, in its array. -/
abbrev place (t : Fin cfg0.N) (r : Fin 128) (hr : 128 * (t.val % 61) + r.val < 7800) : Fin 7800 := ⟨128 * (t.val % 61) + r.val, hr⟩

theorem read1 (c : Dev nD) (t : Fin cfg0.N) (d1 : S1x64x128.Idx → EReal) (k : Fin 64) (r : Fin 128) (hr : 128 * (t.val % 61) + r.val < 7800) :
    ((cfg0.win 1).fill (cfg0.grid.coords t) d1 (iblk m c 1 t) : S1x64x128.Idx → EReal) (ix3 0 k r)
      = (args m c).p (ix3 (batch t) k (place t r hr)) := by
  have hm : (cfg0.win 1).moved (cfg0.grid.coords t) (ix3 0 k r : S1x64x128.Idx) = true := by
    refine ((cfg0.win 1).moved_iff _ _).mpr fun a => ?_
    refine lt_of_lt_of_eq ?_ (xs1 t a).symm
    have hk := k.isLt
    have hl := r.isLt
    fin_cases a
    · exact Nat.one_pos
    · exact hk
    · show r.val < min 128 (7800 - 128 * (t.val % 61)); omega
  unfold Pipeline.Window.fill
  refine (dif_pos hm).trans ?_
  blk_simp [iblk, V_main_arg1]
  dsimp only [args, batch]
  blk_ext [idx1 t]

theorem read5 (c : Dev nD) (t : Fin cfg0.N) (d5 : S1x2x128x5120.Idx → EReal) (br : Fin 2) (r : Fin 128) (d : Fin 5120)
    (hr : 128 * (t.val % 61) + r.val < 7800) :
    ((cfg0.win 5).fill (cfg0.grid.coords t) d5 (iblk m c 5 t) : S1x2x128x5120.Idx → EReal) (ix4 0 br r d)
      = (args m c).h (ix4 (batch t) br (place t r hr) d) := by
  have hm : (cfg0.win 5).moved (cfg0.grid.coords t) (ix4 0 br r d : S1x2x128x5120.Idx) = true := by
    refine ((cfg0.win 5).moved_iff _ _).mpr fun a => ?_
    refine lt_of_lt_of_eq ?_ (xs5 t a).symm
    have hk := br.isLt
    have hl := r.isLt
    have hd := d.isLt
    fin_cases a
    · exact Nat.one_pos
    · exact hk
    · show r.val < min 128 (7800 - 128 * (t.val % 61)); omega
    · exact hd
  unfold Pipeline.Window.fill
  refine (dif_pos hm).trans ?_
  blk_simp [iblk, V_main_arg5]
  dsimp only [args, batch]
  blk_ext [idx5 t]

/-- A row of a grid point's tile that lies in the arrays is the arguments' row there. -/
theorem rowOf_ins (c : Dev nD) (t : Fin cfg0.N) (d1 : S1x64x128.Idx → EReal) (d5 : S1x2x128x5120.Idx → EReal) (r : Fin 128)
    (hr : 128 * (t.val % 61) + r.val < 7800) : rowOf (ins m c t d1 d5) r = (args m c).row (batch t) (place t r hr) := by
  apply Row.ext
  · exact read0 m c t
  · funext k; exact read1 m c t d1 k r hr
  · funext k d; exact read2 m c t k d
  · funext d; exact read3 m c t d
  · funext d; exact read4 m c t d
  · funext br d; exact read5 m c t d5 br r d hr
  · funext d; exact read6 m c t d
  · funext d; exact read7 m c t d
  · funext d o; exact read8 m c t d o
  · funext o; exact read9 m c t o
  · funext o; exact read10 m c t o

end Cert.KernelIdeal.Fold
-- ==== Proof.KernelBlock.lean ====
/-
  What a grid point leaves in the six output windows, read row by row.
-/
module

public import proofs.«01_k».proof.Proof.KernelRow

@[expose] public section

set_option maxRecDepth 65536

noncomputable section

namespace Cert.KernelIdeal.Fold

open Cert.KernelIdeal Cert.KernelIdeal.Gen Idealize.ShloMosaic
open VecWindow (window)
open Cert.Spec

theorem ix3_ext {a b c : ℕ} {i i' : Fin a} {j j' : Fin b} {k k' : Fin c} (hi : i.val = i'.val) (hj : j.val = j'.val) (hk : k.val = k'.val) :
    ix3 i j k = ix3 i' j' k' := by rw [Fin.ext hi, Fin.ext hj, Fin.ext hk]

theorem ix4_ext {a b c d : ℕ} {i i' : Fin a} {j j' : Fin b} {k k' : Fin c} {l l' : Fin d} (hi : i.val = i'.val) (hj : j.val = j'.val)
    (hk : k.val = k'.val) (hl : l.val = l'.val) : ix4 i j k l = ix4 i' j' k' l' := by
  rw [Fin.ext hi, Fin.ext hj, Fin.ext hk, Fin.ext hl]

section
variable {X : Ins Ideal} {Y : S1x128x640.Idx → EReal} {C : S1x2x128x5120.Idx → BitVec 8} {A : S1x2x40x128.Idx → EReal}
  {H : S1x2x128x5120.Idx → EReal} {O : S1x2x64x128.Idx → EReal} {S : S1x2x128.Idx → EReal} (hP : Post X Y C A H O S)
include hP

/-- The embedding. -/
theorem Post.emb_apply (r : Fin 128) (d : Fin 640) : Y (ix3 0 r d) = (rowOf X r).emb ⟨d.val, by omega⟩ := by
  rcases Nat.lt_or_ge d.val 512 with hd | hd
  · have e := congrFun (hP.emb.1 (d.val / 256) (by omega) (by omega)) (ix3 0 r ⟨d.val % 256, Nat.mod_lt _ (by decide)⟩)
    refine (congrArg Y (ix3_ext rfl (Nat.zero_add _).symm ?_)).trans ((win3 Y _ _ _).symm.trans (e.trans ?_))
    · show d.val = 256 * (d.val / 256) + d.val % 256; omega
    · rw [pack256_apply, embX_apply]
      exact congrArg _ (Fin.ext (by simp only; omega))
  · have e := congrFun (hP.emb.2 (by omega)) (ix3 0 r ⟨d.val - 512, by omega⟩)
    refine (congrArg Y (ix3_ext rfl (Nat.zero_add _).symm ?_)).trans ((win3 Y _ _ _).symm.trans (e.trans ?_))
    · show d.val = 512 + (d.val - 512); omega
    · unfold lo128
      pointwise
      refine (embX_apply X 2 _ r ⟨d.val - 512, by omega⟩).trans ?_
      exact congrArg _ (Fin.ext (by simp only; omega))

/-- The residuals' codes. -/
theorem Post.rc_apply (br : Fin 2) (r : Fin 128) (d : Fin 5120) : C (ix4 0 br r d) = (rowOf X r).rc br d := by
  obtain ⟨Z, hZ, hC, -⟩ := hP.res
  have e := congrFun (hC br.val br.isLt (d.val / 256) (by omega)) (ix4 0 0 r ⟨d.val % 256, Nat.mod_lt _ (by decide)⟩)
  refine (congrArg C (ix4_ext rfl rfl (Nat.zero_add _).symm ?_)).trans ((win4 C _ _ _ _).symm.trans (e.trans ?_))
  · show d.val = 256 * (d.val / 256) + d.val % 256; omega
  · refine (rcX_apply X _ br.val (d.val / 256) br.isLt (by omega) r _ fun g => ?_).trans ?_
    · refine (win3 Z _ _ _).trans ((congrArg Z (ix3_ext rfl (Nat.zero_add _) (Nat.zero_add _))).trans (hasZ_apply hZ br.val br.isLt r g))
    · exact congrArg _ (Fin.ext (by simp only; omega))

/-- Their scales. -/
theorem Post.rs_apply (br : Fin 2) (g : Fin 40) (r : Fin 128) : A (ix4 0 br g r) = (rowOf X r).sc br g := by
  obtain ⟨Z, hZ, -, hA⟩ := hP.res
  have e := congrFun (hA br.val br.isLt) (ix4 0 0 g r)
  refine (congrArg A (ix4_ext rfl rfl (Nat.zero_add _).symm (Nat.zero_add _).symm)).trans ((win4 A _ _ _ _).symm.trans (e.trans ?_))
  refine scalesT_apply X _ br.val br.isLt r g fun g => ?_
  exact (win3 Z _ _ _).trans ((congrArg Z (ix3_ext rfl (Nat.zero_add _) (Nat.zero_add _))).trans (hasZ_apply hZ br.val br.isLt r g))

variable {r : Fin 128} {br : Fin 2} {s : ℝ} (hs : 0 < s) (hstd : (rowOf X r).std br = (s : EReal))
include hs hstd

/-- The head's codes, of a row whose standard deviation is a real number. -/
theorem Post.hc_apply (d : Fin 5120) : H (ix4 0 br r d) = (rowOf X r).hc br d := by
  have e := congrFun (hP.hc br.val br.isLt (d.val / 256) (by omega)) (ix4 0 0 r ⟨d.val % 256, Nat.mod_lt _ (by decide)⟩)
  refine (congrArg H (ix4_ext rfl rfl (Nat.zero_add _).symm ?_)).trans ((win4 H _ _ _ _).symm.trans (e.trans ?_))
  · show d.val = 256 * (d.val / 256) + d.val % 256; omega
  · unfold hcP
    pointwise
    refine (hcX_apply (br := br.val) (hb := br.isLt) hs hstd (d.val / 256) _ ⟨d.val % 256, Nat.mod_lt _ (by decide)⟩).trans ?_
    exact congrArg _ (Fin.ext (by simp only; omega))

/-- The head's output. -/
theorem Post.out_apply (o : Fin 64) : O (ix4 0 br o r) = (rowOf X r).out br o := by
  have e := congrFun (hP.out br.val br.isLt) (ix4 0 0 o r)
  refine (congrArg O (ix4_ext rfl rfl (Nat.zero_add _).symm (Nat.zero_add _).symm)).trans ((win4 O _ _ _ _).symm.trans (e.trans ?_))
  exact outT_apply (br := br.val) (hb := br.isLt) hs hstd 0 0 o

/-- The scale of the head's codes. -/
theorem Post.hsc_apply : S (ix3 0 br r) = (rowOf X r).hsc br := by
  have e := congrFun (hP.hsc br.val br.isLt) (ix3 0 0 r)
  refine (congrArg S (ix3_ext rfl rfl (Nat.zero_add _).symm)).trans ((win3 S _ _ _).symm.trans (e.trans ?_))
  exact hScaleT_apply (br := br.val) (hb := br.isLt) hs hstd 0 0

end

end Cert.KernelIdeal.Fold
-- ==== Proof.KernelValue.lean ====
/-
  The kernel's six result arrays, as functions of its arguments.
-/
module

public import proofs.«01_k».proof.Proof.KernelBlock

@[expose] public section

set_option maxRecDepth 65536
set_option maxHeartbeats 4000000

noncomputable section

namespace Cert.KernelIdeal.Fold

open Cert.KernelIdeal Cert.KernelIdeal.Gen Idealize.ShloMosaic
open Idealize.ShloMosaic.TcCoe
open Idealize.SL.Sem
open Idealize.ShloMosaic.Pipeline (Dat RDat)
open Cert.Spec

variable (m : (ℓ : Loc nD τ sig) → Buf (Elt Ideal) ℓ) (ρ : Dev nD → PrngReg) {c : Dev nD}

theorem idx11 : ∀ t : Fin cfg0.N, win0_11.index t = ![t.val / 61, t.val % 61, 0] := (by decide +kernel : ∀ t : Fin grid0.N, _)
theorem xs11 : ∀ (t : Fin cfg0.N) (a : Fin 3), win0_11.xsize (cfg0.grid.coords t) a = ![1, min 128 (7800 - 128 * (t.val % 61)), 640] a :=
  (by decide +kernel : ∀ t : Fin grid0.N, _)

/-- The embedding, of any run's data. -/
theorem final11 (dat : Dat τ (Elt Ideal) Unit ℕ (UR sig nD τ) ℕ cfg0 c)
    (h : ∀ t : Fin cfg0.N, Rl m c 11 t (dat.after 11 t)) : dat.arrAt 11 cfg0.N = (args m c).emb := by
  refine dat.arrAt_eq_of_covers 11 (args m c).emb (by decide +kernel) fun t _ y => ?_
  obtain ⟨d1, d5, C, A, H, O, S, hP⟩ := h t
  have h0 : (y 0).val < 1 := lt_of_lt_of_eq (y 0).isLt (xs11 t 0)
  have h1 : (y 1).val < min 128 (7800 - 128 * (t.val % 61)) := lt_of_lt_of_eq (y 1).isLt (xs11 t 1)
  have h2 : (y 2).val < 640 := lt_of_lt_of_eq (y 2).isLt (xs11 t 2)
  have hr : 128 * (t.val % 61) + (y 1).val < 7800 := by omega
  have hl : (y 1).val < 128 := by omega
  have e := hP.emb_apply ⟨(y 1).val, hl⟩ ⟨(y 2).val, h2⟩
  rw [rowOf_ins m c t d1 d5 ⟨(y 1).val, hl⟩ hr] at e
  have ey : (cfg0.win 11).xinj (cfg0.grid.coords t) y = ix3 0 ⟨(y 1).val, hl⟩ ⟨(y 2).val, h2⟩ := by
    funext a; apply Fin.ext
    fin_cases a
    · show (y 0).val = 0; omega
    · rfl
    · rfl
  blk_simp
  refine (congrArg (dat.after 11 t) ey).trans (e.trans (Args.emb_at _ ?_ ?_ ?_).symm)
  · show _ = t.val / 61
    (blk_simp [idx11 t]) <;> omega
  · show _ = 128 * (t.val % 61) + (y 1).val
    (blk_simp [idx11 t]) <;> omega
  · show _ = (y 2).val
    (blk_simp [idx11 t]) <;> omega

theorem idx12 : ∀ t : Fin cfg0.N, win0_12.index t = ![t.val / 61, 0, t.val % 61, 0] := (by decide +kernel : ∀ t : Fin grid0.N, _)
theorem xs12 : ∀ (t : Fin cfg0.N) (a : Fin 4), win0_12.xsize (cfg0.grid.coords t) a = ![1, 2, min 128 (7800 - 128 * (t.val % 61)), 5120] a :=
  (by decide +kernel : ∀ t : Fin grid0.N, _)

/-- The residuals' codes, of any run's data. -/
theorem final12 (dat : Dat τ (Elt Ideal) Unit ℕ (UR sig nD τ) ℕ cfg0 c)
    (h : ∀ t : Fin cfg0.N, Rl m c 12 t (dat.after 12 t)) : dat.arrAt 12 cfg0.N = (args m c).rc := by
  refine dat.arrAt_eq_of_covers 12 (args m c).rc (by decide +kernel) fun t _ y => ?_
  obtain ⟨d1, d5, Y, A, H, O, S, hP⟩ := h t
  have h0 : (y 0).val < 1 := lt_of_lt_of_eq (y 0).isLt (xs12 t 0)
  have h1 : (y 1).val < 2 := lt_of_lt_of_eq (y 1).isLt (xs12 t 1)
  have h2 : (y 2).val < min 128 (7800 - 128 * (t.val % 61)) := lt_of_lt_of_eq (y 2).isLt (xs12 t 2)
  have h3 : (y 3).val < 5120 := lt_of_lt_of_eq (y 3).isLt (xs12 t 3)
  have hr : 128 * (t.val % 61) + (y 2).val < 7800 := by omega
  have hl : (y 2).val < 128 := by omega
  have e := hP.rc_apply ⟨(y 1).val, h1⟩ ⟨(y 2).val, hl⟩ ⟨(y 3).val, h3⟩
  rw [rowOf_ins m c t d1 d5 ⟨(y 2).val, hl⟩ hr] at e
  have ey : (cfg0.win 12).xinj (cfg0.grid.coords t) y = ix4 0 ⟨(y 1).val, h1⟩ ⟨(y 2).val, hl⟩ ⟨(y 3).val, h3⟩ := by
    funext a; apply Fin.ext
    fin_cases a
    · show (y 0).val = 0; omega
    · rfl
    · rfl
    · rfl
  blk_simp
  refine (congrArg (dat.after 12 t) ey).trans (e.trans (Args.rc_at _ ?_ ?_ ?_ ?_).symm)
  · show _ = t.val / 61
    (blk_simp [idx12 t]) <;> omega
  · show _ = (y 1).val
    (blk_simp [idx12 t]) <;> omega
  · show _ = 128 * (t.val % 61) + (y 2).val
    (blk_simp [idx12 t]) <;> omega
  · show _ = (y 3).val
    (blk_simp [idx12 t]) <;> omega

theorem idx13 : ∀ t : Fin cfg0.N, win0_13.index t = ![t.val / 61, 0, 0, t.val % 61] := (by decide +kernel : ∀ t : Fin grid0.N, _)
theorem xs13 : ∀ (t : Fin cfg0.N) (a : Fin 4), win0_13.xsize (cfg0.grid.coords t) a = ![1, 2, 40, min 128 (7800 - 128 * (t.val % 61))] a :=
  (by decide +kernel : ∀ t : Fin grid0.N, _)

/-- The residuals' scales, of any run's data. -/
theorem final13 (dat : Dat τ (Elt Ideal) Unit ℕ (UR sig nD τ) ℕ cfg0 c)
    (h : ∀ t : Fin cfg0.N, Rl m c 13 t (dat.after 13 t)) : dat.arrAt 13 cfg0.N = (args m c).rs := by
  refine dat.arrAt_eq_of_covers 13 (args m c).rs (by decide +kernel) fun t _ y => ?_
  obtain ⟨d1, d5, Y, C, H, O, S, hP⟩ := h t
  have h0 : (y 0).val < 1 := lt_of_lt_of_eq (y 0).isLt (xs13 t 0)
  have h1 : (y 1).val < 2 := lt_of_lt_of_eq (y 1).isLt (xs13 t 1)
  have h2 : (y 2).val < 40 := lt_of_lt_of_eq (y 2).isLt (xs13 t 2)
  have h3 : (y 3).val < min 128 (7800 - 128 * (t.val % 61)) := lt_of_lt_of_eq (y 3).isLt (xs13 t 3)
  have hr : 128 * (t.val % 61) + (y 3).val < 7800 := by omega
  have hl : (y 3).val < 128 := by omega
  have e := hP.rs_apply ⟨(y 1).val, h1⟩ ⟨(y 2).val, h2⟩ ⟨(y 3).val, hl⟩
  rw [rowOf_ins m c t d1 d5 ⟨(y 3).val, hl⟩ hr] at e
  have ey : (cfg0.win 13).xinj (cfg0.grid.coords t) y = ix4 0 ⟨(y 1).val, h1⟩ ⟨(y 2).val, h2⟩ ⟨(y 3).val, hl⟩ := by
    funext a; apply Fin.ext
    fin_cases a
    · show (y 0).val = 0; omega
    · rfl
    · rfl
    · rfl
  blk_simp
  refine (congrArg (dat.after 13 t) ey).trans (e.trans (Args.rs_at _ ?_ ?_ ?_ ?_).symm)
  · show _ = t.val / 61
    (blk_simp [idx13 t]) <;> omega
  · show _ = (y 1).val
    (blk_simp [idx13 t]) <;> omega
  · show _ = (y 2).val
    (blk_simp [idx13 t]) <;> omega
  · show _ = 128 * (t.val % 61) + (y 3).val
    (blk_simp [idx13 t]) <;> omega

theorem idx14 : ∀ t : Fin cfg0.N, win0_14.index t = ![t.val / 61, 0, t.val % 61, 0] := (by decide +kernel : ∀ t : Fin grid0.N, _)
theorem xs14 : ∀ (t : Fin cfg0.N) (a : Fin 4), win0_14.xsize (cfg0.grid.coords t) a = ![1, 2, min 128 (7800 - 128 * (t.val % 61)), 5120] a :=
  (by decide +kernel : ∀ t : Fin grid0.N, _)

/-- The head's codes, of any run's data. -/
theorem final14 (dat : Dat τ (Elt Ideal) Unit ℕ (UR sig nD τ) ℕ cfg0 c) (hA : (args m c).Real)
    (h : ∀ t : Fin cfg0.N, Rl m c 14 t (dat.after 14 t)) : dat.arrAt 14 cfg0.N = (args m c).hc := by
  refine dat.arrAt_eq_of_covers 14 (args m c).hc (by decide +kernel) fun t _ y => ?_
  obtain ⟨d1, d5, Y, C, A, O, S, hP⟩ := h t
  have h0 : (y 0).val < 1 := lt_of_lt_of_eq (y 0).isLt (xs14 t 0)
  have h1 : (y 1).val < 2 := lt_of_lt_of_eq (y 1).isLt (xs14 t 1)
  have h2 : (y 2).val < min 128 (7800 - 128 * (t.val % 61)) := lt_of_lt_of_eq (y 2).isLt (xs14 t 2)
  have h3 : (y 3).val < 5120 := lt_of_lt_of_eq (y 3).isLt (xs14 t 3)
  have hr : 128 * (t.val % 61) + (y 2).val < 7800 := by omega
  have hl : (y 2).val < 128 := by omega
  obtain ⟨s, hs, hstd⟩ := hA.std (batch t) (place t ⟨(y 2).val, hl⟩ hr) ⟨(y 1).val, h1⟩
  rw [← rowOf_ins m c t d1 d5 ⟨(y 2).val, hl⟩ hr] at hstd
  have e := hP.hc_apply hs hstd ⟨(y 3).val, h3⟩
  rw [rowOf_ins m c t d1 d5 ⟨(y 2).val, hl⟩ hr] at e
  have ey : (cfg0.win 14).xinj (cfg0.grid.coords t) y = ix4 0 ⟨(y 1).val, h1⟩ ⟨(y 2).val, hl⟩ ⟨(y 3).val, h3⟩ := by
    funext a; apply Fin.ext
    fin_cases a
    · show (y 0).val = 0; omega
    · rfl
    · rfl
    · rfl
  blk_simp
  refine (congrArg (dat.after 14 t) ey).trans (e.trans (Args.hc_at _ ?_ ?_ ?_ ?_).symm)
  · show _ = t.val / 61
    (blk_simp [idx14 t]) <;> omega
  · show _ = (y 1).val
    (blk_simp [idx14 t]) <;> omega
  · show _ = 128 * (t.val % 61) + (y 2).val
    (blk_simp [idx14 t]) <;> omega
  · show _ = (y 3).val
    (blk_simp [idx14 t]) <;> omega

theorem idx15 : ∀ t : Fin cfg0.N, win0_15.index t = ![t.val / 61, 0, 0, t.val % 61] := (by decide +kernel : ∀ t : Fin grid0.N, _)
theorem xs15 : ∀ (t : Fin cfg0.N) (a : Fin 4), win0_15.xsize (cfg0.grid.coords t) a = ![1, 2, 64, min 128 (7800 - 128 * (t.val % 61))] a :=
  (by decide +kernel : ∀ t : Fin grid0.N, _)

/-- The head's output, of any run's data. -/
theorem final15 (dat : Dat τ (Elt Ideal) Unit ℕ (UR sig nD τ) ℕ cfg0 c) (hA : (args m c).Real)
    (h : ∀ t : Fin cfg0.N, Rl m c 15 t (dat.after 15 t)) : dat.arrAt 15 cfg0.N = (args m c).out := by
  refine dat.arrAt_eq_of_covers 15 (args m c).out (by decide +kernel) fun t _ y => ?_
  obtain ⟨d1, d5, Y, C, A, H, S, hP⟩ := h t
  have h0 : (y 0).val < 1 := lt_of_lt_of_eq (y 0).isLt (xs15 t 0)
  have h1 : (y 1).val < 2 := lt_of_lt_of_eq (y 1).isLt (xs15 t 1)
  have h2 : (y 2).val < 64 := lt_of_lt_of_eq (y 2).isLt (xs15 t 2)
  have h3 : (y 3).val < min 128 (7800 - 128 * (t.val % 61)) := lt_of_lt_of_eq (y 3).isLt (xs15 t 3)
  have hr : 128 * (t.val % 61) + (y 3).val < 7800 := by omega
  have hl : (y 3).val < 128 := by omega
  obtain ⟨s, hs, hstd⟩ := hA.std (batch t) (place t ⟨(y 3).val, hl⟩ hr) ⟨(y 1).val, h1⟩
  rw [← rowOf_ins m c t d1 d5 ⟨(y 3).val, hl⟩ hr] at hstd
  have e := hP.out_apply hs hstd ⟨(y 2).val, h2⟩
  rw [rowOf_ins m c t d1 d5 ⟨(y 3).val, hl⟩ hr] at e
  have ey : (cfg0.win 15).xinj (cfg0.grid.coords t) y = ix4 0 ⟨(y 1).val, h1⟩ ⟨(y 2).val, h2⟩ ⟨(y 3).val, hl⟩ := by
    funext a; apply Fin.ext
    fin_cases a
    · show (y 0).val = 0; omega
    · rfl
    · rfl
    · rfl
  blk_simp
  refine (congrArg (dat.after 15 t) ey).trans (e.trans (Args.out_at _ ?_ ?_ ?_ ?_).symm)
  · show _ = t.val / 61
    (blk_simp [idx15 t]) <;> omega
  · show _ = (y 1).val
    (blk_simp [idx15 t]) <;> omega
  · show _ = (y 2).val
    (blk_simp [idx15 t]) <;> omega
  · show _ = 128 * (t.val % 61) + (y 3).val
    (blk_simp [idx15 t]) <;> omega

theorem idx16 : ∀ t : Fin cfg0.N, win0_16.index t = ![t.val / 61, 0, t.val % 61] := (by decide +kernel : ∀ t : Fin grid0.N, _)
theorem xs16 : ∀ (t : Fin cfg0.N) (a : Fin 3), win0_16.xsize (cfg0.grid.coords t) a = ![1, 2, min 128 (7800 - 128 * (t.val % 61))] a :=
  (by decide +kernel : ∀ t : Fin grid0.N, _)

/-- The scales of the head's codes, of any run's data. -/
theorem final16 (dat : Dat τ (Elt Ideal) Unit ℕ (UR sig nD τ) ℕ cfg0 c) (hA : (args m c).Real)
    (h : ∀ t : Fin cfg0.N, Rl m c 16 t (dat.after 16 t)) : dat.arrAt 16 cfg0.N = (args m c).hsc := by
  refine dat.arrAt_eq_of_covers 16 (args m c).hsc (by decide +kernel) fun t _ y => ?_
  obtain ⟨d1, d5, Y, C, A, H, O, hP⟩ := h t
  have h0 : (y 0).val < 1 := lt_of_lt_of_eq (y 0).isLt (xs16 t 0)
  have h1 : (y 1).val < 2 := lt_of_lt_of_eq (y 1).isLt (xs16 t 1)
  have h2 : (y 2).val < min 128 (7800 - 128 * (t.val % 61)) := lt_of_lt_of_eq (y 2).isLt (xs16 t 2)
  have hr : 128 * (t.val % 61) + (y 2).val < 7800 := by omega
  have hl : (y 2).val < 128 := by omega
  obtain ⟨s, hs, hstd⟩ := hA.std (batch t) (place t ⟨(y 2).val, hl⟩ hr) ⟨(y 1).val, h1⟩
  rw [← rowOf_ins m c t d1 d5 ⟨(y 2).val, hl⟩ hr] at hstd
  have e := hP.hsc_apply hs hstd
  rw [rowOf_ins m c t d1 d5 ⟨(y 2).val, hl⟩ hr] at e
  have ey : (cfg0.win 16).xinj (cfg0.grid.coords t) y = ix3 0 ⟨(y 1).val, h1⟩ ⟨(y 2).val, hl⟩ := by
    funext a; apply Fin.ext
    fin_cases a
    · show (y 0).val = 0; omega
    · rfl
    · rfl
  blk_simp
  refine (congrArg (dat.after 16 t) ey).trans (e.trans (Args.hsc_at _ ?_ ?_ ?_).symm)
  · show _ = t.val / 61
    (blk_simp [idx16 t]) <;> omega
  · show _ = (y 1).val
    (blk_simp [idx16 t]) <;> omega
  · show _ = 128 * (t.val % 61) + (y 2).val
    (blk_simp [idx16 t]) <;> omega

end Cert.KernelIdeal.Fold
-- ==== Proof.KernelRun.lean ====
/-
  The kernel's run: its six results, and its arguments kept.
-/
module

public import proofs.«01_k».proof.Proof.KernelValue

@[expose] public section

set_option maxRecDepth 65536

noncomputable section

namespace Cert.KernelIdeal.Fold

open Cert.KernelIdeal Cert.KernelIdeal.Gen Idealize.ShloMosaic
open Idealize.ShloMosaic.TcCoe
open Idealize.SL.Sem
open Idealize.ShloMosaic.Pipeline (Dat RDat)
open Cert.Spec

variable (m : (ℓ : Loc nD τ sig) → Buf (Elt Ideal) ℓ) (ρ : Dev nD → PrngReg)

/-- Every final state that the run's data describe holds the six results. -/
theorem results (hA : ∀ c, (args m c).Real) (r : PUnit × MemSt nD τ sig (Elt Ideal)) (h : RDat.FramePost cfg0 (rdats m) (V m) r) (c : Dev nD) :
    r.2.mem ((c.tc : Thread nD τ).loc main_v8_0) = (args m c).emb
    ∧ r.2.mem ((c.tc : Thread nD τ).loc main_v8_1) = (args m c).rc
    ∧ r.2.mem ((c.tc : Thread nD τ).loc main_v8_2) = (args m c).rs
    ∧ r.2.mem ((c.tc : Thread nD τ).loc main_v8_3) = (args m c).hc
    ∧ r.2.mem ((c.tc : Thread nD τ).loc main_v8_4) = (args m c).out
    ∧ r.2.mem ((c.tc : Thread nD τ).loc main_v8_5) = (args m c).hsc := by
  obtain ⟨after, hL, hG⟩ := RDat.FramePost.exists_exact h c
  have hR : ∀ (w : Fin cfg0.W) (t : Fin cfg0.N), marked w = true → (cfg0.win w).flush t = true → Rl m c w t (after w t) :=
    fun w t hw hf => (dats m 0 c).toRRel_leaves hw (hL w t hf)
  exact ⟨(hG 11).trans (final11 m _ fun t => hR 11 t rfl (flush0_11 t)), (hG 12).trans (final12 m _ fun t => hR 12 t rfl (flush0_12 t)),
    (hG 13).trans (final13 m _ fun t => hR 13 t rfl (flush0_13 t)), (hG 14).trans (final14 m _ (hA c) fun t => hR 14 t rfl (flush0_14 t)),
    (hG 15).trans (final15 m _ (hA c) fun t => hR 15 t rfl (flush0_15 t)), (hG 16).trans (final16 m _ (hA c) fun t => hR 16 t rfl (flush0_16 t))⟩

end Cert.KernelIdeal.Fold
-- ==== Proof.Finite.lean ====
/-
  The precondition: every hidden state is a real number.
-/
module

public import proofs.«01_k».proof.Proof.KernelRow
public import proofs.«01_k».proof.Defs
public import proofs.«01_k».proof.Proof.Gen.Pre_finite

@[expose] public section

noncomputable section

namespace Cert.Proof

open Idealize.ShloMosaic

/-- The bfloat16 word of infinity reads as infinity. -/
theorem inf : Ideal.ofBits .bf16 0x7F80#16 = ⊤ := by simp [Ideal.ofBits, Ideal.ieee]

/-- The precondition makes every hidden state a real number. -/
theorem real_of_finite (m : (ℓ : Loc Cert.KernelIdeal.nD Cert.KernelIdeal.τ Cert.KernelIdeal.sig) → Buf (Elt Ideal) ℓ)
    (h : Pre_KernelIdeal_finite m) (c : Dev Cert.KernelIdeal.nD) : (Cert.KernelIdeal.Fold.args m c).Real := by
  intro y
  have e := congrFun (h c) y
  unfold Cert.Pre_finite.fn at e
  revert e
  pointwise
  rw [inf]
  change BitVec.ofBool (decide (Spec.abs ((Cert.KernelIdeal.Fold.args m c).h y) < ⊤)) = 1#1 → _
  generalize (Cert.KernelIdeal.Fold.args m c).h y = x
  intro e
  have hx : Spec.abs x < ⊤ := by
    by_contra hn
    simp [hn] at e
  rw [Spec.abs_eq] at hx
  induction x with
  | bot => exact absurd hx (by simp)
  | coe r => exact ⟨r, rfl⟩
  | top => exact absurd hx (by simp)

end Cert.Proof
-- ==== Proof.lean ====
module

public import proofs.«01_k».proof.Defs
public import proofs.«01_k».proof.Proof.ObligBits
public import proofs.«01_k».proof.Proof.ObligIdeal
public import proofs.«01_k».proof.Proof.Gen.ReferenceIdeal
public import proofs.«01_k».proof.Proof.Gen.ReferenceIdeal.Frame
public import proofs.«01_k».proof.Proof.RefRun
public import proofs.«01_k».proof.Proof.KernelRun
public import proofs.«01_k».proof.Proof.Finite
public import proofs.«01_k».proof.Proof.Gen.Pre_finite
public import Idealize.ShloMosaic.Adequacy
public import Idealize.ShloMosaic.Init

@[expose] public section

noncomputable section

namespace Cert.Proof

open Idealize.ShloMosaic Idealize.SL.Sem

/-- The kernel runs, leaves its arguments and every semaphore as they were. -/
theorem quiescent_kernel : quiescent_Kernel := fun m g _ => Cert.Kernel.Fold.frame_holds m g

/-- So does the idealized kernel. -/
theorem quiescent_kernelIdeal : quiescent_KernelIdeal := fun m g _ => Cert.KernelIdeal.Fold.frame_holds m g

/-- So does the reference. -/
theorem quiescent_referenceIdeal : quiescent_ReferenceIdeal := fun m g _ => Cert.ReferenceIdeal.Gen.frame m g

/-- The constant the idealization names, and the packing of bf16 halves it reads exactly. -/
theorem preserves : preserves_Kernel_KernelIdeal :=
  ⟨IdealRules.named_const.statement _ _ _ _ _ rfl, IdealRules.bf16_pack.statement _⟩

/-- The kernel's and the reference's arguments are the same functions when the memories hold the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Ref.args m' c = Cert.KernelIdeal.Fold.args m c := by
  obtain ⟨h0, h1, h2, h3, h4, h5, h6, h7, h8, h9, h10⟩ := h
  unfold Cert.ReferenceIdeal.Ref.args Cert.KernelIdeal.Fold.args
  congr 1

/-- From arguments whose hidden states are finite the idealized kernel and the reference end with the same six results. -/
theorem algebraic : algebraic_KernelIdeal_ReferenceIdeal_pre_finite := by
  intro m g m' g' hpre harg
  have hA := real_of_finite m hpre
  refine ⟨fun c => (Cert.KernelIdeal.Fold.args m c).emb, fun c => (Cert.KernelIdeal.Fold.args m c).rc, fun c => (Cert.KernelIdeal.Fold.args m c).rs,
    fun c => (Cert.KernelIdeal.Fold.args m c).hc, fun c => (Cert.KernelIdeal.Fold.args m c).out, fun c => (Cert.KernelIdeal.Fold.args m c).hsc, ?_, ?_⟩
  · refine (θ_run _ _ _).mono (fun r h c => ?_) (Cert.KernelIdeal.Fold.run_main m g)
    obtain ⟨h0, h1, h2, h3, h4, h5⟩ := Cert.KernelIdeal.Fold.results m hA r h.1 c
    exact ⟨h0, h1, h2, h3, h4, h5, Cert.KernelIdeal.Fold.kept m r h.1 c⟩
  · refine (θ_run _ _ _).mono (fun r h c => ?_) (Cert.ReferenceIdeal.Ref.run m' g')
    have e := args_eq m m' c (harg c)
    obtain ⟨⟨h0, h1, h2, h3, h4, h5⟩, hk⟩ := h c
    rw [e] at h0 h1 h2 h3 h4 h5
    exact ⟨h0, h1, h2, h3, h4, h5, hk⟩

theorem claim : Cert.Claim :=
  ⟨Cert.Kernel.Gen.facts, Cert.KernelIdeal.Gen.facts, Cert.ReferenceIdeal.Gen.facts, Cert.Pre_finite.Gen.facts,
    quiescent_kernel, quiescent_kernelIdeal, fun m g _ => Cert.KernelIdeal.Fold.frame_holds m g,
    quiescent_referenceIdeal, fun m g _ => Cert.ReferenceIdeal.Gen.frame m g, preserves, algebraic⟩

end Cert.Proof

end
